-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v77_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v77_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_v327) = v1 c
          ∧ r.2.mem ((c.tc : Thread Cert.ReferenceIdeal.nD Cert.ReferenceIdeal.τ).loc Cert.ReferenceIdeal.main_v328) = v2 c
          ∧ r.2.mem ((c.tc : Thread Cert.ReferenceIdeal.nD Cert.ReferenceIdeal.τ).loc Cert.ReferenceIdeal.main_v329) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x1024 : Shape := ⟨3, ![32, 2048, 1024]⟩
abbrev S32x1024 : Shape := ⟨2, ![32, 1024]⟩
abbrev S32x256x1024 : Shape := ⟨3, ![32, 256, 1024]⟩
abbrev S1024 : Shape := ⟨1, ![1024]⟩
abbrev S1024x6144 : Shape := ⟨2, ![1024, 6144]⟩
abbrev S6144 : Shape := ⟨1, ![6144]⟩
abbrev S1024x5120 : Shape := ⟨2, ![1024, 5120]⟩
abbrev S5120 : Shape := ⟨1, ![5120]⟩
abbrev S32x2048x512 : Shape := ⟨3, ![32, 2048, 512]⟩
abbrev S8x15x31 : Shape := ⟨3, ![8, 15, 31]⟩
abbrev S512x1024 : Shape := ⟨2, ![512, 1024]⟩
abbrev S1024x1024 : Shape := ⟨2, ![1024, 1024]⟩
abbrev S1024x16 : Shape := ⟨2, ![1024, 16]⟩
abbrev S32x16x2048 : Shape := ⟨3, ![32, 16, 2048]⟩
abbrev S32x2048x128 : Shape := ⟨3, ![32, 2048, 128]⟩
abbrev S16x1024x2816 : Shape := ⟨3, ![16, 1024, 2816]⟩
abbrev S16x2816x1024 : Shape := ⟨3, ![16, 2816, 1024]⟩
abbrev S_ : Shape := ⟨0, ![]⟩
abbrev S40x1024 : Shape := ⟨2, ![40, 1024]⟩
abbrev S1 : Shape := ⟨1, ![1]⟩
abbrev S1x6144 : Shape := ⟨2, ![1, 6144]⟩
abbrev S40x6144 : Shape := ⟨2, ![40, 6144]⟩
abbrev S1024x1536 : Shape := ⟨2, ![1024, 1536]⟩
abbrev S1x1536 : Shape := ⟨2, ![1, 1536]⟩
abbrev S40x1536 : Shape := ⟨2, ![40, 1536]⟩
abbrev S40x6x1024 : Shape := ⟨3, ![40, 6, 1024]⟩
abbrev S1x1024 : Shape := ⟨2, ![1, 1024]⟩
abbrev S1x5120 : Shape := ⟨2, ![1, 5120]⟩
abbrev S32x2048x5120 : Shape := ⟨3, ![32, 2048, 5120]⟩
abbrev S1x1024x1024 : Shape := ⟨3, ![1, 1024, 1024]⟩
abbrev S1x6x1024 : Shape := ⟨3, ![1, 6, 1024]⟩
abbrev S1x1024x5120 : Shape := ⟨3, ![1, 1024, 5120]⟩
abbrev S1x1x1024 : Shape := ⟨3, ![1, 1, 1024]⟩
abbrev S1024x1 : Shape := ⟨2, ![1024, 1]⟩
abbrev S1x8192x1024 : Shape := ⟨3, ![1, 8192, 1024]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S31x4096 : Shape := ⟨2, ![31, 4096]⟩
abbrev S1x4096 : Shape := ⟨2, ![1, 4096]⟩
abbrev S16 : Shape := ⟨1, ![16]⟩
abbrev S1x16 : Shape := ⟨2, ![1, 16]⟩
abbrev S8x16 : Shape := ⟨2, ![8, 16]⟩
abbrev S128 : Shape := ⟨1, ![128]⟩
abbrev S8x16x31 : Shape := ⟨3, ![8, 16, 31]⟩
abbrev S128x31 : Shape := ⟨2, ![128, 31]⟩
abbrev S128x1 : Shape := ⟨2, ![128, 1]⟩
abbrev S128x4096 : Shape := ⟨2, ![128, 4096]⟩
abbrev S8x16x64x64 : Shape := ⟨4, ![8, 16, 64, 64]⟩
abbrev S3x8x256x768 : Shape := ⟨4, ![3, 8, 256, 768]⟩
abbrev S8x1x64x64 : Shape := ⟨4, ![8, 1, 64, 64]⟩
abbrev S8x64x64 : Shape := ⟨3, ![8, 64, 64]⟩
abbrev S8x64x128 : Shape := ⟨3, ![8, 64, 128]⟩
abbrev S1x8x64x128 : Shape := ⟨4, ![1, 8, 64, 128]⟩
abbrev S2x256x512 : Shape := ⟨3, ![2, 256, 512]⟩
abbrev S2x2048x512 : Shape := ⟨3, ![2, 2048, 512]⟩
abbrev S2x256x1024 : Shape := ⟨3, ![2, 256, 1024]⟩
abbrev S1x8x256x768 : Shape := ⟨4, ![1, 8, 256, 768]⟩
abbrev S256x128 : Shape := ⟨2, ![256, 128]⟩
abbrev S1x256x128 : Shape := ⟨3, ![1, 256, 128]⟩
abbrev S1x768x128 : Shape := ⟨3, ![1, 768, 128]⟩
abbrev S768x128 : Shape := ⟨2, ![768, 128]⟩
abbrev S512x128 : Shape := ⟨2, ![512, 128]⟩
abbrev S512x768 : Shape := ⟨2, ![512, 768]⟩
abbrev S1x2x256x768 : Shape := ⟨4, ![1, 2, 256, 768]⟩
abbrev S2x256x768 : Shape := ⟨3, ![2, 256, 768]⟩
abbrev S512x256 : Shape := ⟨2, ![512, 256]⟩
abbrev S512 : Shape := ⟨1, ![512]⟩
abbrev S512x1 : Shape := ⟨2, ![512, 1]⟩
abbrev S16x1024 : Shape := ⟨2, ![16, 1024]⟩
abbrev S1x1024x512 : Shape := ⟨3, ![1, 1024, 512]⟩
abbrev S1x16x1024 : Shape := ⟨3, ![1, 16, 1024]⟩
abbrev S1024x512 : Shape := ⟨2, ![1024, 512]⟩
abbrev S32x16x256x1024 : Shape := ⟨4, ![32, 16, 256, 1024]⟩
abbrev S2x16x2048 : Shape := ⟨3, ![2, 16, 2048]⟩
abbrev S2x2048x1024 : Shape := ⟨3, ![2, 2048, 1024]⟩
abbrev S1x1024x2816 : Shape := ⟨3, ![1, 1024, 2816]⟩
abbrev S1x2816x1024 : Shape := ⟨3, ![1, 2816, 1024]⟩
abbrev S2x1x256x1024 : Shape := ⟨4, ![2, 1, 256, 1024]⟩
abbrev S256x2048 : Shape := ⟨2, ![256, 2048]⟩
abbrev S1x1x2048 : Shape := ⟨3, ![1, 1, 2048]⟩
abbrev S1x2048 : Shape := ⟨2, ![1, 2048]⟩
abbrev S1x2048x1024 : Shape := ⟨3, ![1, 2048, 1024]⟩
abbrev S2048x1024 : Shape := ⟨2, ![2048, 1024]⟩
abbrev S256x1024 : Shape := ⟨2, ![256, 1024]⟩
abbrev S1024x2816 : Shape := ⟨2, ![1024, 2816]⟩
abbrev S512x2816 : Shape := ⟨2, ![512, 2816]⟩
abbrev S2816x1024 : Shape := ⟨2, ![2816, 1024]⟩
abbrev S1x1x256x1024 : Shape := ⟨4, ![1, 1, 256, 1024]⟩
abbrev S1x1024x128 : Shape := ⟨3, ![1, 1024, 128]⟩
abbrev S1x16x256x1024 : Shape := ⟨4, ![1, 16, 256, 1024]⟩
abbrev S1024x256 : Shape := ⟨2, ![1024, 256]⟩
abbrev S1x1024x1 : Shape := ⟨3, ![1, 1024, 1]⟩
abbrev S1024x4096 : Shape := ⟨2, ![1024, 4096]⟩
abbrev S16x256x1024 : Shape := ⟨3, ![16, 256, 1024]⟩
abbrev S4096x1024 : Shape := ⟨2, ![4096, 1024]⟩

abbrev nBuf : Space → Nat
  | .hbm => 138
  | .vmem => 91
  | .smem => 0
  | _ => 0

abbrev hbmTy0_0 (i : Nat) : BufTy := match i % 128 with
  | 0 => ⟨S32x2048x1024, .f32⟩
  | 1 => ⟨S32x1024, .f32⟩
  | 2 => ⟨S32x256x1024, .f32⟩
  | 3 => ⟨S1024, .f32⟩
  | 4 => ⟨S1024x6144, .f32⟩
  | 5 => ⟨S6144, .f32⟩
  | 6 => ⟨S1024, .f32⟩
  | 7 => ⟨S1024, .f32⟩
  | 8 => ⟨S1024x5120, .bf16⟩
  | 9 => ⟨S5120, .f32⟩
  | 10 => ⟨S32x2048x512, .bf16⟩
  | 11 => ⟨S8x15x31, .f32⟩
  | 12 => ⟨S512x1024, .bf16⟩
  | 13 => ⟨S512x1024, .bf16⟩
  | 14 => ⟨S1024x1024, .bf16⟩
  | 15 => ⟨S1024x16, .f32⟩
  | 16 => ⟨S32x16x2048, .i32⟩
  | 17 => ⟨S32x2048x128, .i32⟩
  | 18 => ⟨S32x2048x128, .f32⟩
  | 19 => ⟨S16x1024x2816, .bf16⟩
  | 20 => ⟨S16x1024x2816, .bf16⟩
  | 21 => ⟨S16x2816x1024, .bf16⟩
  | 22 => ⟨S1024, .f32⟩
  | 23 => ⟨S_, .f32⟩
  | 24 => ⟨S40x1024, .f32⟩
  | 25 => ⟨S_, .i32⟩
  | 26 => ⟨S1, .i32⟩
  | 27 => ⟨S40x1024, .f32⟩
  | 28 => ⟨S_, .i32⟩
  | 29 => ⟨S1, .i32⟩
  | 30 => ⟨S40x1024, .f32⟩
  | 31 => ⟨S1x6144, .f32⟩
  | 32 => ⟨S40x6144, .f32⟩
  | 33 => ⟨S40x6x1024, .f32⟩
  | 34 => ⟨S1x1024, .f32⟩
  | 35 => ⟨S1x5120, .f32⟩
  | 36 => ⟨S32x2048x5120, .bf16⟩
  | 37 => ⟨S1x8192x1024, .f32⟩
  | 38 => ⟨S1024x1024, .bf16⟩
  | 39 => ⟨S1024, .f32⟩
  | 40 => ⟨S1x1024, .f32⟩
  | 41 => ⟨S1x1024, .f32⟩
  | 42 => ⟨S1x8192x1024, .bf16⟩
  | 43 => ⟨S32x256x1024, .bf16⟩
  | 44 => ⟨S64, .i32⟩
  | 45 => ⟨S64, .i32⟩
  | 46 => ⟨S_, .i32⟩
  | 47 => ⟨S64, .i32⟩
  | 48 => ⟨S64, .i32⟩
  | 49 => ⟨S_, .i32⟩
  | 50 => ⟨S_, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S1x64, .i32⟩
  | 58 => ⟨S64x1, .i32⟩
  | 59 => ⟨S64x64, .i32⟩
  | 60 => ⟨S64x64, .i32⟩
  | 61 => ⟨S64x64, .i1⟩
  | 62 => ⟨S1x64, .i32⟩
  | 63 => ⟨S64x1, .i32⟩
  | 64 => ⟨S_, .i32⟩
  | 65 => ⟨S64x1, .i32⟩
  | 66 => ⟨S64x1, .i32⟩
  | 67 => ⟨S64x64, .i32⟩
  | 68 => ⟨S64x64, .i32⟩
  | 69 => ⟨S64x64, .i1⟩
  | 70 => ⟨S64x64, .i1⟩
  | 71 => ⟨S1x64, .i32⟩
  | 72 => ⟨S64x1, .i32⟩
  | 73 => ⟨S64x64, .i32⟩
  | 74 => ⟨S64x64, .i32⟩
  | 75 => ⟨S64x64, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S_, .i32⟩
  | 83 => ⟨S_, .i32⟩
  | 84 => ⟨S_, .i32⟩
  | 85 => ⟨S64x64, .i32⟩
  | 86 => ⟨S64x64, .i32⟩
  | 87 => ⟨S_, .i32⟩
  | 88 => ⟨S64x64, .i32⟩
  | 89 => ⟨S64x64, .i32⟩
  | 90 => ⟨S1x64x64, .i32⟩
  | 91 => ⟨S31, .i32⟩
  | 92 => ⟨S31x1x1, .i32⟩
  | 93 => ⟨S31x64x64, .i32⟩
  | 94 => ⟨S31x64x64, .i32⟩
  | 95 => ⟨S31x64x64, .i1⟩
  | 96 => ⟨S1x64x64, .i1⟩
  | 97 => ⟨S31x64x64, .i1⟩
  | 98 => ⟨S31x64x64, .i1⟩
  | 99 => ⟨S31x64x64, .f32⟩
  | 100 => ⟨S31x4096, .f32⟩
  | 101 => ⟨S_, .f32⟩
  | 102 => ⟨S_, .f32⟩
  | 103 => ⟨S64x64, .f32⟩
  | 104 => ⟨S64x64, .f32⟩
  | 105 => ⟨S64x64, .f32⟩
  | 106 => ⟨S64x64, .f32⟩
  | 107 => ⟨S1x4096, .f32⟩
  | 108 => ⟨S16, .i32⟩
  | 109 => ⟨S_, .i32⟩
  | 110 => ⟨S16, .i32⟩
  | 111 => ⟨S16, .i1⟩
  | 112 => ⟨S_, .f32⟩
  | 113 => ⟨S_, .f32⟩
  | 114 => ⟨S16, .f32⟩
  | 115 => ⟨S16, .f32⟩
  | 116 => ⟨S16, .f32⟩
  | 117 => ⟨S16, .f32⟩
  | 118 => ⟨S1x16, .f32⟩
  | 119 => ⟨S8x16, .f32⟩
  | 120 => ⟨S128, .f32⟩
  | 121 => ⟨S_, .i32⟩
  | 122 => ⟨S_, .f32⟩
  | 123 => ⟨S8x16x31, .f32⟩
  | 124 => ⟨S128x31, .f32⟩
  | 125 => ⟨S128x1, .f32⟩
  | 126 => ⟨S128x4096, .f32⟩
  | 127 => ⟨S8x16x64x64, .f32⟩
  | _ => ⟨S32x2048x1024, .f32⟩

abbrev hbmTy0_1 (i : Nat) : BufTy := match i % 128 with
  | 0 => ⟨S3x8x256x768, .f32⟩
  | 1 => ⟨S32x2048x512, .bf16⟩
  | 2 => ⟨S16x1024, .f32⟩
  | 3 => ⟨S1x1024, .f32⟩
  | 4 => ⟨S32x2048x1024, .f32⟩
  | 5 => ⟨S32x2048x1024, .bf16⟩
  | 6 => ⟨S32x16x2048, .f32⟩
  | 7 => ⟨S32x16x256x1024, .bf16⟩
  | 8 => ⟨S1x1024, .f32⟩
  | 9 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S40x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S40x1536, .f32⟩
  | .local _ .vmem, ⟨6, _⟩ => ⟨S40x1536, .f32⟩
  | .local _ .vmem, ⟨7, _⟩ => ⟨S1x1024x1024, .f32⟩
  | .local _ .vmem, ⟨8, _⟩ => ⟨S1x1024x1024, .f32⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S1024x5120, .bf16⟩
  | .local _ .vmem, ⟨13, _⟩ => ⟨S1x5120, .f32⟩
  | .local _ .vmem, ⟨14, _⟩ => ⟨S1x1024x5120, .bf16⟩
  | .local _ .vmem, ⟨15, _⟩ => ⟨S1x1024x5120, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x6x1024, .f32⟩
  | .local _ .vmem, ⟨19, _⟩ => ⟨S1x1024, .f32⟩
  | .local _ .vmem, ⟨20, _⟩ => ⟨S1024x1024, .bf16⟩
  | .local _ .vmem, ⟨21, _⟩ => ⟨S1x1024, .f32⟩
  | .local _ .vmem, ⟨22, _⟩ => ⟨S1x1024x1024, .bf16⟩
  | .local _ .vmem, ⟨23, _⟩ => ⟨S1x1024x1024, .bf16⟩
  | .local _ .vmem, ⟨24, _⟩ => ⟨S128x31, .f32⟩
  | .local _ .vmem, ⟨25, _⟩ => ⟨S31x4096, .f32⟩
  | .local _ .vmem, ⟨26, _⟩ => ⟨S1x4096, .f32⟩
  | .local _ .vmem, ⟨27, _⟩ => ⟨S128x1, .f32⟩
  | .local _ .vmem, ⟨28, _⟩ => ⟨S128x4096, .f32⟩
  | .local _ .vmem, ⟨29, _⟩ => ⟨S8x16x64x64, .f32⟩
  | .local _ .vmem, ⟨30, _⟩ => ⟨S3x8x256x768, .f32⟩
  | .local _ .vmem, ⟨31, _⟩ => ⟨S2x256x512, .bf16⟩
  | .local _ .vmem, ⟨32, _⟩ => ⟨S2x256x512, .bf16⟩
  | .local _ .vmem, ⟨33, _⟩ => ⟨S2x2048x512, .bf16⟩
  | .local _ .vmem, ⟨34, _⟩ => ⟨S2x2048x512, .bf16⟩
  | .local _ .vmem, ⟨35, _⟩ => ⟨S2x2048x512, .bf16⟩
  | .local _ .vmem, ⟨36, _⟩ => ⟨S2x2048x512, .bf16⟩
  | .local _ .vmem, ⟨37, _⟩ => ⟨S2x256x1024, .bf16⟩
  | .local _ .vmem, ⟨38, _⟩ => ⟨S2x256x1024, .bf16⟩
  | .local _ .vmem, ⟨39, _⟩ => ⟨S1x8x256x768, .f32⟩
  | .local _ .vmem, ⟨40, _⟩ => ⟨S1x8x256x768, .f32⟩
  | .local _ .vmem, ⟨41, _⟩ => ⟨S2x256x512, .bf16⟩
  | .local _ .vmem, ⟨42, _⟩ => ⟨S2x256x512, .bf16⟩
  | .local _ .vmem, ⟨43, _⟩ => ⟨S1x1024x512, .bf16⟩
  | .local _ .vmem, ⟨44, _⟩ => ⟨S1x1024x512, .bf16⟩
  | .local _ .vmem, ⟨45, _⟩ => ⟨S1x1024x512, .bf16⟩
  | .local _ .vmem, ⟨46, _⟩ => ⟨S1x1024x512, .bf16⟩
  | .local _ .vmem, ⟨47, _⟩ => ⟨S1x1024x1024, .bf16⟩
  | .local _ .vmem, ⟨48, _⟩ => ⟨S1x1024x1024, .bf16⟩
  | .local _ .vmem, ⟨49, _⟩ => ⟨S1x1024x1024, .bf16⟩
  | .local _ .vmem, ⟨50, _⟩ => ⟨S1x1024x1024, .bf16⟩
  | .local _ .vmem, ⟨51, _⟩ => ⟨S1x1024x1024, .f32⟩
  | .local _ .vmem, ⟨52, _⟩ => ⟨S1x1024x1024, .f32⟩
  | .local _ .vmem, ⟨53, _⟩ => ⟨S1x6x1024, .f32⟩
  | .local _ .vmem, ⟨54, _⟩ => ⟨S1x6x1024, .f32⟩
  | .local _ .vmem, ⟨55, _⟩ => ⟨S1x1024, .f32⟩
  | .local _ .vmem, ⟨56, _⟩ => ⟨S512x1024, .bf16⟩
  | .local _ .vmem, ⟨57, _⟩ => ⟨S512x1024, .bf16⟩
  | .local _ .vmem, ⟨58, _⟩ => ⟨S1024x1024, .bf16⟩
  | .local _ .vmem, ⟨59, _⟩ => ⟨S16x1024, .f32⟩
  | .local _ .vmem, ⟨60, _⟩ => ⟨S1x1024x1024, .f32⟩
  | .local _ .vmem, ⟨61, _⟩ => ⟨S1x1024x1024, .f32⟩
  | .local _ .vmem, ⟨62, _⟩ => ⟨S1x1024x1024, .bf16⟩
  | .local _ .vmem, ⟨63, _⟩ => ⟨S1x1024x1024, .bf16⟩
  | .local _ .vmem, ⟨64, _⟩ => ⟨S1x16x1024, .f32⟩
  | .local _ .vmem, ⟨65, _⟩ => ⟨S1x16x1024, .f32⟩
  | .local _ .vmem, ⟨66, _⟩ => ⟨S2x16x2048, .i32⟩
  | .local _ .vmem, ⟨67, _⟩ => ⟨S2x16x2048, .i32⟩
  | .local _ .vmem, ⟨68, _⟩ => ⟨S2x2048x1024, .bf16⟩
  | .local _ .vmem, ⟨69, _⟩ => ⟨S2x2048x1024, .bf16⟩
  | .local _ .vmem, ⟨70, _⟩ => ⟨S1x1024x2816, .bf16⟩
  | .local _ .vmem, ⟨71, _⟩ => ⟨S1x1024x2816, .bf16⟩
  | .local _ .vmem, ⟨72, _⟩ => ⟨S1x1024x2816, .bf16⟩
  | .local _ .vmem, ⟨73, _⟩ => ⟨S1x1024x2816, .bf16⟩
  | .local _ .vmem, ⟨74, _⟩ => ⟨S1x2816x1024, .bf16⟩
  | .local _ .vmem, ⟨75, _⟩ => ⟨S1x2816x1024, .bf16⟩
  | .local _ .vmem, ⟨76, _⟩ => ⟨S2x1x256x1024, .bf16⟩
  | .local _ .vmem, ⟨77, _⟩ => ⟨S2x1x256x1024, .bf16⟩
  | .local _ .vmem, ⟨78, _⟩ => ⟨S1x1024x128, .i32⟩
  | .local _ .vmem, ⟨79, _⟩ => ⟨S1x1024x128, .i32⟩
  | .local _ .vmem, ⟨80, _⟩ => ⟨S1x1024x128, .f32⟩
  | .local _ .vmem, ⟨81, _⟩ => ⟨S1x1024x128, .f32⟩
  | .local _ .vmem, ⟨82, _⟩ => ⟨S1x16x256x1024, .bf16⟩
  | .local _ .vmem, ⟨83, _⟩ => ⟨S1x16x256x1024, .bf16⟩
  | .local _ .vmem, ⟨84, _⟩ => ⟨S1x1024x1024, .f32⟩
  | .local _ .vmem, ⟨85, _⟩ => ⟨S1x1024x1024, .f32⟩
  | .local _ .vmem, ⟨86, _⟩ => ⟨S1x6x1024, .f32⟩
  | .local _ .vmem, ⟨87, _⟩ => ⟨S1x6x1024, .f32⟩
  | .local _ .vmem, ⟨88, _⟩ => ⟨S1x1024, .f32⟩
  | .local _ .vmem, ⟨89, _⟩ => ⟨S1x1024x1024, .f32⟩
  | .local _ .vmem, ⟨90, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_1 : Ref sig .tc := ⟨.hbm, 46, rfl⟩
abbrev main_v20 : Ref sig .tc := ⟨.hbm, 47, rfl⟩
abbrev main_v21 : Ref sig .tc := ⟨.hbm, 48, rfl⟩
abbrev main_c_2 : Ref sig .tc := ⟨.hbm, 49, rfl⟩
abbrev main_c_3 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_5 : Ref sig .tc := ⟨.hbm, 76, rfl⟩
abbrev main_v41 : Ref sig .tc := ⟨.hbm, 77, rfl⟩
abbrev main_v42 : Ref sig .tc := ⟨.hbm, 78, rfl⟩
abbrev main_c_6 : Ref sig .tc := ⟨.hbm, 79, rfl⟩
abbrev main_v43 : Ref sig .tc := ⟨.hbm, 80, rfl⟩
abbrev main_v44 : Ref sig .tc := ⟨.hbm, 81, rfl⟩
abbrev main_c_7 : Ref sig .tc := ⟨.hbm, 82, rfl⟩
abbrev main_c_8 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_9 : Ref sig .tc := ⟨.hbm, 101, rfl⟩
abbrev main_cst_10 : Ref sig .tc := ⟨.hbm, 102, rfl⟩
abbrev main_call2_v0 : Ref sig .tc := ⟨.hbm, 103, rfl⟩
abbrev main_call2_v1 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_11 : Ref sig .tc := ⟨.hbm, 109, rfl⟩
abbrev main_v61 : Ref sig .tc := ⟨.hbm, 110, rfl⟩
abbrev main_v62 : Ref sig .tc := ⟨.hbm, 111, rfl⟩
abbrev main_cst_12 : Ref sig .tc := ⟨.hbm, 112, rfl⟩
abbrev main_cst_13 : Ref sig .tc := ⟨.hbm, 113, rfl⟩
abbrev main_call3_v0 : Ref sig .tc := ⟨.hbm, 114, rfl⟩
abbrev main_call3_v1 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_c_14 : Ref sig .tc := ⟨.hbm, 121, rfl⟩
abbrev main_call4_v0 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77_0 : Ref sig .tc := ⟨.hbm, 132, rfl⟩
abbrev main_v77_1 : Ref sig .tc := ⟨.hbm, 133, rfl⟩
abbrev main_v77_2 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc4_stg0_0 : Ref sig .tc := ⟨.vmem, 29, rfl⟩
abbrev cc4_stg1_0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc5_stg5_0 : Ref sig .tc := ⟨.vmem, 41, rfl⟩
abbrev cc5_stg5_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg3_1 : Ref sig .tc := ⟨.vmem, 50, rfl⟩
abbrev cc6_stg4_0 : Ref sig .tc := ⟨.vmem, 51, rfl⟩
abbrev cc6_stg4_1 : Ref sig .tc := ⟨.vmem, 52, rfl⟩
abbrev cc6_stg5_0 : Ref sig .tc := ⟨.vmem, 53, rfl⟩
abbrev cc6_stg5_1 : Ref sig .tc := ⟨.vmem, 54, rfl⟩
abbrev cc6_stg6_0 : Ref sig .tc := ⟨.vmem, 55, rfl⟩
abbrev cc6_stg7_0 : Ref sig .tc := ⟨.vmem, 56, rfl⟩
abbrev cc6_stg8_0 : Ref sig .tc := ⟨.vmem, 57, rfl⟩
abbrev cc6_stg9_0 : Ref sig .tc := ⟨.vmem, 58, rfl⟩
abbrev cc6_stg10_0 : Ref sig .tc := ⟨.vmem, 59, rfl⟩
abbrev cc6_stg11_0 : Ref sig .tc := ⟨.vmem, 60, rfl⟩
abbrev cc6_stg11_1 : Ref sig .tc := ⟨.vmem, 61, rfl⟩
abbrev cc6_stg12_0 : Ref sig .tc := ⟨.vmem, 62, rfl⟩
abbrev cc6_stg12_1 : Ref sig .tc := ⟨.vmem, 63, rfl⟩
abbrev cc6_stg13_0 : Ref sig .tc := ⟨.vmem, 64, rfl⟩
abbrev cc6_stg13_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg2_1 : Ref sig .tc := ⟨.vmem, 71, rfl⟩
abbrev cc7_stg3_0 : Ref sig .tc := ⟨.vmem, 72, rfl⟩
abbrev cc7_stg3_1 : Ref sig .tc := ⟨.vmem, 73, rfl⟩
abbrev cc7_stg4_0 : Ref sig .tc := ⟨.vmem, 74, rfl⟩
abbrev cc7_stg4_1 : Ref sig .tc := ⟨.vmem, 75, rfl⟩
abbrev cc7_stg5_0 : Ref sig .tc := ⟨.vmem, 76, rfl⟩
abbrev cc7_stg5_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg3_1 : Ref sig .tc := ⟨.vmem, 85, rfl⟩
abbrev cc8_stg4_0 : Ref sig .tc := ⟨.vmem, 86, rfl⟩
abbrev cc8_stg4_1 : Ref sig .tc := ⟨.vmem, 87, rfl⟩
abbrev cc8_stg5_0 : Ref sig .tc := ⟨.vmem, 88, rfl⟩
abbrev cc8_stg6_0 : Ref sig .tc := ⟨.vmem, 89, rfl⟩
abbrev cc8_stg6_1 : Ref sig .tc := ⟨.vmem, 90, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc4_sem0_0 : DmaSem sig := 29
abbrev cc4_sem1_0 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev cc5_sem5_0 : DmaSem sig := 41
abbrev cc5_sem5_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem3_1 : DmaSem sig := 50
abbrev cc6_sem4_0 : DmaSem sig := 51
abbrev cc6_sem4_1 : DmaSem sig := 52
abbrev cc6_sem5_0 : DmaSem sig := 53
abbrev cc6_sem5_1 : DmaSem sig := 54
abbrev cc6_sem6_0 : DmaSem sig := 55
abbrev cc6_sem7_0 : DmaSem sig := 56
abbrev cc6_sem8_0 : DmaSem sig := 57
abbrev cc6_sem9_0 : DmaSem sig := 58
abbrev cc6_sem10_0 : DmaSem sig := 59
abbrev cc6_sem11_0 : DmaSem sig := 60
abbrev cc6_sem11_1 : DmaSem sig := 61
abbrev cc6_sem12_0 : DmaSem sig := 62
abbrev cc6_sem12_1 : DmaSem sig := 63
abbrev cc6_sem13_0 : DmaSem sig := 64
abbrev cc6_sem13_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem2_1 : DmaSem sig := 71
abbrev cc7_sem3_0 : DmaSem sig := 72
abbrev cc7_sem3_1 : DmaSem sig := 73
abbrev cc7_sem4_0 : DmaSem sig := 74
abbrev cc7_sem4_1 : DmaSem sig := 75
abbrev cc7_sem5_0 : DmaSem sig := 76
abbrev cc7_sem5_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem3_1 : DmaSem sig := 85
abbrev cc8_sem4_0 : DmaSem sig := 86
abbrev cc8_sem4_1 : DmaSem sig := 87
abbrev cc8_sem5_0 : DmaSem sig := 88
abbrev cc8_sem6_0 : DmaSem sig := 89
abbrev cc8_sem6_1 : DmaSem sig := 90

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x5120 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x5120 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x5120 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![1, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  let c0_i32_1 : BitVec 32 := 0#32
  ![c32_i32.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x6x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := .none

abbrev stage3_0 : Fin 1 → Memref sig .tc .vmem S128x31 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S31x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S128x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := .none

abbrev stage4_0 : Fin 1 → Memref sig .tc .vmem S8x16x64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S3x8x256x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev grid5 : Pipeline.Grid := ⟨2, ![16, 8], ![false, false]⟩

def k5_mult1 (i : grid5.Coords) : BitVec 32 :=
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k5_off1 (i : grid5.Coords) : Fin 3 → Nat :=
  let c0_7 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v25 : Index := Scalar.indexCast v5
  let c0_8 : Index := 0#32
  ![0, v25.toNat, 0]
def k5_off2 (i : grid5.Coords) : Fin 3 → Nat :=
  let c0_40 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v90 : Index := Scalar.indexCast v5
  let c128_41 : Index := 128#32
  ![0, v90.toNat, 128]
def k5_off3 (i : grid5.Coords) : Fin 3 → Nat :=
  let c0_72 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v155 : Index := Scalar.indexCast v5
  let c256_73 : Index := 256#32
  ![0, v155.toNat, 256]
def k5_off4 (i : grid5.Coords) : Fin 3 → Nat :=
  let c0_104 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v220 : Index := Scalar.indexCast v5
  let c384_105 : Index := 384#32
  ![0, v220.toNat, 384]
def k5_off5 (i : grid5.Coords) : Fin 3 → Nat :=
  let c1_136 : Index := 1#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v285 : Index := Scalar.indexCast v5
  let c0_137 : Index := 0#32
  ![1, v285.toNat, 0]
def k5_off6 (i : grid5.Coords) : Fin 3 → Nat :=
  let c1_171 : Index := 1#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v350 : Index := Scalar.indexCast v5
  let c128_172 : Index := 128#32
  ![1, v350.toNat, 128]
def k5_off7 (i : grid5.Coords) : Fin 3 → Nat :=
  let c1_206 : Index := 1#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v415 : Index := Scalar.indexCast v5
  let c256_207 : Index := 256#32
  ![1, v415.toNat, 256]
def k5_off8 (i : grid5.Coords) : Fin 3 → Nat :=
  let c1_241 : Index := 1#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v480 : Index := Scalar.indexCast v5
  let c384_242 : Index := 384#32
  ![1, v480.toNat, 384]
def cc5_transform_0 (i : grid5.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c6_i32 : BitVec 32 := 6#32
  let v1 : BitVec 32 := Scalar.subi arg1 c6_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S2x256x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2x2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S2x2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2x256x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x8x256x768 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S2x256x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨2, ![32, 2], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc6_transform_3 (i : grid6.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_12 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_13 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x1024x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x6x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 1 → Memref sig .tc .vmem S512x1024 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, false]

abbrev stage6_8 : Fin 1 → Memref sig .tc .vmem S512x1024 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false, false]

abbrev stage6_9 : Fin 1 → Memref sig .tc .vmem S1024x1024 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false, false]

abbrev stage6_10 : Fin 1 → Memref sig .tc .vmem S16x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false, false]

abbrev stage6_11 : Fin 2 → Memref sig .tc .vmem S1x1024x1024 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true, true]

abbrev stage6_12 : Fin 2 → Memref sig .tc .vmem S1x1024x1024 .bf16 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true, true]

abbrev stage6_13 : Fin 2 → Memref sig .tc .vmem S1x16x1024 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true, true]

abbrev grid7 : Pipeline.Grid := ⟨2, ![16, 16], ![false, false]⟩

def k7_off1 (i : grid7.Coords) : Fin 3 → Nat :=
  let c0 : Index := 0#32
  let arg0 : BitVec 32 := BitVec.ofNat 32 (i 0).val
  let v1 : Index := Scalar.indexCast arg0
  let c0_0 : Index := 0#32
  ![0, v1.toNat, 0]
def k7_off2 (i : grid7.Coords) : Fin 3 → Nat :=
  let c1 : Index := 1#32
  let arg0 : BitVec 32 := BitVec.ofNat 32 (i 0).val
  let v14 : Index := Scalar.indexCast arg0
  let c0_6 : Index := 0#32
  ![1, v14.toNat, 0]
def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_5 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage7_0 : Fin 2 → Memref sig .tc .vmem S2x16x2048 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2x2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x1024x2816 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x1024x2816 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S1x2816x1024 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S2x1x256x1024 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev grid8 : Pipeline.Grid := ⟨2, ![32, 2], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_4 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 2 → Memref sig .tc .vmem S1x1024x128 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x1024x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x16x256x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S1x1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev stage8_4 : Fin 2 → Memref sig .tc .vmem S1x6x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

abbrev stage8_5 : Fin 1 → Memref sig .tc .vmem S1x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false, false]

abbrev stage8_6 : Fin 2 → Memref sig .tc .vmem S1x1024x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]
-- ==== KernelIdeal.lean ====
variable {F : FTy → Type} [FloatOps F] [Named F]
def κ : String → Option EReal := fun
  | "log2_e" => some (((Real.log 2)⁻¹ : ℝ) : EReal)
  | "mask" => some ⊥
  | _ => none
-- ==== ReferenceIdeal.lean ====
abbrev S32x2048x1024 : Shape := ⟨3, ![32, 2048, 1024]⟩
abbrev S32x1024 : Shape := ⟨2, ![32, 1024]⟩
abbrev S32x256x1024 : Shape := ⟨3, ![32, 256, 1024]⟩
abbrev S1024 : Shape := ⟨1, ![1024]⟩
abbrev S1024x6144 : Shape := ⟨2, ![1024, 6144]⟩
abbrev S6144 : Shape := ⟨1, ![6144]⟩
abbrev S1024x5120 : Shape := ⟨2, ![1024, 5120]⟩
abbrev S5120 : Shape := ⟨1, ![5120]⟩
abbrev S32x2048x512 : Shape := ⟨3, ![32, 2048, 512]⟩
abbrev S8x15x31 : Shape := ⟨3, ![8, 15, 31]⟩
abbrev S512x1024 : Shape := ⟨2, ![512, 1024]⟩
abbrev S1024x1024 : Shape := ⟨2, ![1024, 1024]⟩
abbrev S1024x16 : Shape := ⟨2, ![1024, 16]⟩
abbrev S32x16x2048 : Shape := ⟨3, ![32, 16, 2048]⟩
abbrev S32x2048x128 : Shape := ⟨3, ![32, 2048, 128]⟩
abbrev S16x1024x2816 : Shape := ⟨3, ![16, 1024, 2816]⟩
abbrev S16x2816x1024 : Shape := ⟨3, ![16, 2816, 1024]⟩
abbrev S_ : Shape := ⟨0, ![]⟩
abbrev S32x6144 : Shape := ⟨2, ![32, 6144]⟩
abbrev S1x6144 : Shape := ⟨2, ![1, 6144]⟩
abbrev S32x1x6144 : Shape := ⟨3, ![32, 1, 6144]⟩
abbrev S32x1x1024 : Shape := ⟨3, ![32, 1, 1024]⟩
abbrev S32x2048 : Shape := ⟨2, ![32, 2048]⟩
abbrev S32x2048x1 : Shape := ⟨3, ![32, 2048, 1]⟩
abbrev S1x1x1024 : Shape := ⟨3, ![1, 1, 1024]⟩
abbrev S32x256 : Shape := ⟨2, ![32, 256]⟩
abbrev S32x256x1 : Shape := ⟨3, ![32, 256, 1]⟩
abbrev S32x2048x5120 : Shape := ⟨3, ![32, 2048, 5120]⟩
abbrev S1x1x5120 : Shape := ⟨3, ![1, 1, 5120]⟩
abbrev S32x2048x8x64 : Shape := ⟨4, ![32, 2048, 8, 64]⟩
abbrev S32x256x512 : Shape := ⟨3, ![32, 256, 512]⟩
abbrev S32x256x8x64 : Shape := ⟨4, ![32, 256, 8, 64]⟩
abbrev S32x64 : Shape := ⟨2, ![32, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x2048x2048 : Shape := ⟨4, ![32, 8, 2048, 2048]⟩
abbrev S2048x2048x1 : Shape := ⟨3, ![2048, 2048, 1]⟩
abbrev S2048x2048x2 : Shape := ⟨3, ![2048, 2048, 2]⟩
abbrev S8x2048x2048 : Shape := ⟨3, ![8, 2048, 2048]⟩
abbrev S1x8x2048x2048 : Shape := ⟨4, ![1, 8, 2048, 2048]⟩
abbrev S32x8x2048x256 : Shape := ⟨4, ![32, 8, 2048, 256]⟩
abbrev S32x8x2048 : Shape := ⟨3, ![32, 8, 2048]⟩
abbrev S32x8x2048x1 : Shape := ⟨4, ![32, 8, 2048, 1]⟩
abbrev S32x8x2048x64 : Shape := ⟨4, ![32, 8, 2048, 64]⟩
abbrev S32x2048x16 : Shape := ⟨3, ![32, 2048, 16]⟩
abbrev S32 : Shape := ⟨1, ![32]⟩
abbrev S32x1x1 : Shape := ⟨3, ![32, 1, 1]⟩
abbrev S16 : Shape := ⟨1, ![16]⟩
abbrev S1x16x1 : Shape := ⟨3, ![1, 16, 1]⟩
abbrev S32x16x256x1024 : Shape := ⟨4, ![32, 16, 256, 1024]⟩
abbrev S32x1x2048x1024 : Shape := ⟨4, ![32, 1, 2048, 1024]⟩
abbrev S32x16x2048x1024 : Shape := ⟨4, ![32, 16, 2048, 1024]⟩
abbrev S32x16x2048x1 : Shape := ⟨4, ![32, 16, 2048, 1]⟩
abbrev S32x16x2048x3 : Shape := ⟨4, ![32, 16, 2048, 3]⟩
abbrev S16x2816x32x256 : Shape := ⟨4, ![16, 2816, 32, 256]⟩
abbrev S32x16x256x2816 : Shape := ⟨4, ![32, 16, 256, 2816]⟩
abbrev S16x1024x32x256 : Shape := ⟨4, ![16, 1024, 32, 256]⟩
abbrev S1x1x16 : Shape := ⟨3, ![1, 1, 16]⟩
abbrev S32x2048x16x1 : Shape := ⟨4, ![32, 2048, 16, 1]⟩
abbrev S32x2048x16x3 : Shape := ⟨4, ![32, 2048, 16, 3]⟩
abbrev S32x2048x16x1024 : Shape := ⟨4, ![32, 2048, 16, 1024]⟩

abbrev nBuf : Space → Nat
  | .hbm => 470
  | .vmem => 0
  | .smem => 0
  | _ => 0

abbrev hbmTy0_0 (i : Nat) : BufTy := match i % 128 with
  | 0 => ⟨S32x2048x1024, .f32⟩
  | 1 => ⟨S32x1024, .f32⟩
  | 2 => ⟨S32x256x1024, .f32⟩
  | 3 => ⟨S1024, .f32⟩
  | 4 => ⟨S1024x6144, .f32⟩
  | 5 => ⟨S6144, .f32⟩
  | 6 => ⟨S1024, .f32⟩
  | 7 => ⟨S1024, .f32⟩
  | 8 => ⟨S1024x5120, .bf16⟩
  | 9 => ⟨S5120, .f32⟩
  | 10 => ⟨S32x2048x512, .bf16⟩
  | 11 => ⟨S8x15x31, .f32⟩
  | 12 => ⟨S512x1024, .bf16⟩
  | 13 => ⟨S512x1024, .bf16⟩
  | 14 => ⟨S1024x1024, .bf16⟩
  | 15 => ⟨S1024x16, .f32⟩
  | 16 => ⟨S32x16x2048, .i32⟩
  | 17 => ⟨S32x2048x128, .i32⟩
  | 18 => ⟨S32x2048x128, .f32⟩
  | 19 => ⟨S16x1024x2816, .bf16⟩
  | 20 => ⟨S16x1024x2816, .bf16⟩
  | 21 => ⟨S16x2816x1024, .bf16⟩
  | 22 => ⟨S1024, .f32⟩
  | 23 => ⟨S1024x5120, .f32⟩
  | 24 => ⟨S32x2048x512, .f32⟩
  | 25 => ⟨S512x1024, .f32⟩
  | 26 => ⟨S512x1024, .f32⟩
  | 27 => ⟨S1024x1024, .f32⟩
  | 28 => ⟨S32x1024, .f32⟩
  | 29 => ⟨S32x1024, .f32⟩
  | 30 => ⟨S_, .f32⟩
  | 31 => ⟨S32x1024, .f32⟩
  | 32 => ⟨S32x1024, .f32⟩
  | 33 => ⟨S_, .f32⟩
  | 34 => ⟨S32x1024, .f32⟩
  | 35 => ⟨S32x1024, .f32⟩
  | 36 => ⟨S32x1024, .f32⟩
  | 37 => ⟨S32x6144, .f32⟩
  | 38 => ⟨S1x6144, .f32⟩
  | 39 => ⟨S32x6144, .f32⟩
  | 40 => ⟨S32x6144, .f32⟩
  | 41 => ⟨S1024, .f32⟩
  | 42 => ⟨S1024, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S1024, .f32⟩
  | 50 => ⟨S6144, .f32⟩
  | 51 => ⟨S6144, .f32⟩
  | 52 => ⟨S32x1x6144, .f32⟩
  | 53 => ⟨S32x1x1024, .f32⟩
  | 54 => ⟨S32x1x1024, .f32⟩
  | 55 => ⟨S32x1x1024, .f32⟩
  | 56 => ⟨S32x1x1024, .f32⟩
  | 57 => ⟨S32x1x1024, .f32⟩
  | 58 => ⟨S32x1x1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S32x2048x1024, .f32⟩
  | 66 => ⟨S_, .f32⟩
  | 67 => ⟨S32x2048, .f32⟩
  | 68 => ⟨S32x2048x1, .f32⟩
  | 69 => ⟨S_, .f32⟩
  | 70 => ⟨S32x2048x1, .f32⟩
  | 71 => ⟨S32x2048x1, .f32⟩
  | 72 => ⟨S_, .f32⟩
  | 73 => ⟨S32x2048x1, .f32⟩
  | 74 => ⟨S32x2048x1, .f32⟩
  | 75 => ⟨S32x2048x1, .f32⟩
  | 76 => ⟨S32x2048x1024, .f32⟩
  | 77 => ⟨S32x2048x1024, .f32⟩
  | 78 => ⟨S1x1x1024, .f32⟩
  | 79 => ⟨S32x2048x1024, .f32⟩
  | 80 => ⟨S32x2048x1024, .f32⟩
  | 81 => ⟨S_, .f32⟩
  | 82 => ⟨S32x1x1024, .f32⟩
  | 83 => ⟨S32x1x1024, .f32⟩
  | 84 => ⟨S32x2048x1024, .f32⟩
  | 85 => ⟨S32x2048x1024, .f32⟩
  | 86 => ⟨S32x2048x1024, .f32⟩
  | 87 => ⟨S32x2048x1024, .f32⟩
  | 88 => ⟨S32x256x1024, .f32⟩
  | 89 => ⟨S_, .f32⟩
  | 90 => ⟨S32x256, .f32⟩
  | 91 => ⟨S32x256x1, .f32⟩
  | 92 => ⟨S_, .f32⟩
  | 93 => ⟨S32x256x1, .f32⟩
  | 94 => ⟨S32x256x1, .f32⟩
  | 95 => ⟨S_, .f32⟩
  | 96 => ⟨S32x256x1, .f32⟩
  | 97 => ⟨S32x256x1, .f32⟩
  | 98 => ⟨S32x256x1, .f32⟩
  | 99 => ⟨S32x256x1024, .f32⟩
  | 100 => ⟨S32x256x1024, .f32⟩
  | 101 => ⟨S1x1x1024, .f32⟩
  | 102 => ⟨S32x256x1024, .f32⟩
  | 103 => ⟨S32x256x1024, .f32⟩
  | 104 => ⟨S_, .f32⟩
  | 105 => ⟨S1024, .f32⟩
  | 106 => ⟨S1024, .f32⟩
  | 107 => ⟨S1x1x1024, .f32⟩
  | 108 => ⟨S32x256x1024, .f32⟩
  | 109 => ⟨S32x256x1024, .f32⟩
  | 110 => ⟨S1x1x1024, .f32⟩
  | 111 => ⟨S32x256x1024, .f32⟩
  | 112 => ⟨S32x256x1024, .f32⟩
  | 113 => ⟨S32x2048x5120, .f32⟩
  | 114 => ⟨S1x1x5120, .f32⟩
  | 115 => ⟨S32x2048x5120, .f32⟩
  | 116 => ⟨S32x2048x5120, .f32⟩
  | 117 => ⟨S1024x1024, .f32⟩
  | 118 => ⟨S32x256x1024, .f32⟩
  | 119 => ⟨S1024, .f32⟩
  | 120 => ⟨S1x1x1024, .f32⟩
  | 121 => ⟨S32x256x1024, .f32⟩
  | 122 => ⟨S32x256x1024, .f32⟩
  | 123 => ⟨S32x2048x512, .f32⟩
  | 124 => ⟨S32x2048x8x64, .f32⟩
  | 125 => ⟨S32x2048x512, .f32⟩
  | 126 => ⟨S32x2048x8x64, .f32⟩
  | 127 => ⟨S32x2048x512, .f32⟩
  | _ => ⟨S32x2048x1024, .f32⟩

abbrev hbmTy0_1 (i : Nat) : BufTy := match i % 128 with
  | 0 => ⟨S32x2048x8x64, .f32⟩
  | 1 => ⟨S32x256x512, .f32⟩
  | 2 => ⟨S32x256x8x64, .f32⟩
  | 3 => ⟨S32x256x512, .f32⟩
  | 4 => ⟨S32x256x8x64, .f32⟩
  | 5 => ⟨S32x64, .i32⟩
  | 6 => ⟨S2048, .i32⟩
  | 7 => ⟨S32x64, .i32⟩
  | 8 => ⟨S2048, .i32⟩
  | 9 => ⟨S_, .i32⟩
  | 10 => ⟨S2048, .i32⟩
  | 11 => ⟨S2048, .i32⟩
  | 12 => ⟨S_, .i32⟩
  | 13 => ⟨S_, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S2048x1, .i32⟩
  | 21 => ⟨S_, .i32⟩
  | 22 => ⟨S2048, .i32⟩
  | 23 => ⟨S2048, .i32⟩
  | 24 => ⟨S_, .i32⟩
  | 25 => ⟨S_, .i32⟩
  | 26 => ⟨S_, .i32⟩
  | 27 => ⟨S2048, .i32⟩
  | 28 => ⟨S2048, .i32⟩
  | 29 => ⟨S_, .i32⟩
  | 30 => ⟨S2048, .i32⟩
  | 31 => ⟨S2048, .i32⟩
  | 32 => ⟨S2048x1, .i32⟩
  | 33 => ⟨S1x2048, .i32⟩
  | 34 => ⟨S2048x2048, .i32⟩
  | 35 => ⟨S2048x2048, .i32⟩
  | 36 => ⟨S2048x2048, .i1⟩
  | 37 => ⟨S_, .i32⟩
  | 38 => ⟨S2048x1, .i32⟩
  | 39 => ⟨S2048x1, .i32⟩
  | 40 => ⟨S1x2048, .i32⟩
  | 41 => ⟨S2048x2048, .i32⟩
  | 42 => ⟨S2048x2048, .i32⟩
  | 43 => ⟨S2048x2048, .i1⟩
  | 44 => ⟨S2048x2048, .i1⟩
  | 45 => ⟨S1x2048, .i32⟩
  | 46 => ⟨S2048x2048, .i32⟩
  | 47 => ⟨S2048x2048, .i32⟩
  | 48 => ⟨S2048x2048, .i1⟩
  | 49 => ⟨S2048x2048, .i1⟩
  | 50 => ⟨S_, .i32⟩
  | 51 => ⟨S2048x1, .i32⟩
  | 52 => ⟨S2048x1, .i32⟩
  | 53 => ⟨S1x2048, .i32⟩
  | 54 => ⟨S2048x2048, .i32⟩
  | 55 => ⟨S2048x2048, .i32⟩
  | 56 => ⟨S2048x2048, .i1⟩
  | 57 => ⟨S2048x2048, .i1⟩
  | 58 => ⟨S2048x1, .i32⟩
  | 59 => ⟨S1x2048, .i32⟩
  | 60 => ⟨S2048x2048, .i32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i32⟩
  | 69 => ⟨S_, .i32⟩
  | 70 => ⟨S_, .i32⟩
  | 71 => ⟨S_, .i32⟩
  | 72 => ⟨S2048x2048, .i32⟩
  | 73 => ⟨S2048x2048, .i32⟩
  | 74 => ⟨S_, .i32⟩
  | 75 => ⟨S2048x2048, .i32⟩
  | 76 => ⟨S2048x2048, .i32⟩
  | 77 => ⟨S2048x1, .i32⟩
  | 78 => ⟨S1x2048, .i32⟩
  | 79 => ⟨S2048x2048, .i32⟩
  | 80 => ⟨S2048x2048, .i32⟩
  | 81 => ⟨S2048x2048, .i32⟩
  | 82 => ⟨S_, .i32⟩
  | 83 => ⟨S2048x2048, .i32⟩
  | 84 => ⟨S2048x2048, .i32⟩
  | 85 => ⟨S_, .i32⟩
  | 86 => ⟨S2048x2048, .i32⟩
  | 87 => ⟨S2048x2048, .i32⟩
  | 88 => ⟨S_, .i32⟩
  | 89 => ⟨S_, .i32⟩
  | 90 => ⟨S_, .i32⟩
  | 91 => ⟨S2048x2048, .i32⟩
  | 92 => ⟨S2048x2048, .i32⟩
  | 93 => ⟨S_, .i32⟩
  | 94 => ⟨S2048x2048, .i32⟩
  | 95 => ⟨S2048x2048, .i32⟩
  | 96 => ⟨S32x8x2048x2048, .f32⟩
  | 97 => ⟨S_, .f32⟩
  | 98 => ⟨S32x8x2048x2048, .f32⟩
  | 99 => ⟨S32x8x2048x2048, .f32⟩
  | 100 => ⟨S_, .i32⟩
  | 101 => ⟨S2048x2048, .i32⟩
  | 102 => ⟨S2048x2048, .i1⟩
  | 103 => ⟨S_, .i32⟩
  | 104 => ⟨S2048x2048, .i32⟩
  | 105 => ⟨S2048x2048, .i32⟩
  | 106 => ⟨S2048x2048, .i32⟩
  | 107 => ⟨S_, .i32⟩
  | 108 => ⟨S2048x2048, .i32⟩
  | 109 => ⟨S2048x2048, .i1⟩
  | 110 => ⟨S_, .i32⟩
  | 111 => ⟨S2048x2048, .i32⟩
  | 112 => ⟨S2048x2048, .i32⟩
  | 113 => ⟨S2048x2048, .i32⟩
  | 114 => ⟨S2048x2048x1, .i32⟩
  | 115 => ⟨S2048x2048x1, .i32⟩
  | 116 => ⟨S2048x2048x2, .i32⟩
  | 117 => ⟨S8x2048x2048, .f32⟩
  | 118 => ⟨S1x8x2048x2048, .f32⟩
  | 119 => ⟨S32x8x2048x2048, .f32⟩
  | 120 => ⟨S32x8x2048x2048, .f32⟩
  | 121 => ⟨S_, .f32⟩
  | 122 => ⟨S_, .f32⟩
  | 123 => ⟨S32x8x2048x2048, .i1⟩
  | 124 => ⟨S32x8x2048x2048, .f32⟩
  | 125 => ⟨S32x8x2048x2048, .f32⟩
  | 126 => ⟨S32x8x2048x256, .f32⟩
  | 127 => ⟨S_, .f32⟩
  | _ => ⟨S32x2048x1024, .f32⟩

abbrev hbmTy0_2 (i : Nat) : BufTy := match i % 128 with
  | 0 => ⟨S32x8x2048x256, .f32⟩
  | 1 => ⟨S32x8x2048x256, .f32⟩
  | 2 => ⟨S_, .f32⟩
  | 3 => ⟨S32x8x2048, .f32⟩
  | 4 => ⟨S_, .f32⟩
  | 5 => ⟨S32x8x2048, .f32⟩
  | 6 => ⟨S32x8x2048, .f32⟩
  | 7 => ⟨S32x8x2048x1, .f32⟩
  | 8 => ⟨S32x8x2048x2048, .f32⟩
  | 9 => ⟨S32x8x2048x2048, .f32⟩
  | 10 => ⟨S32x8x2048x2048, .f32⟩
  | 11 => ⟨S32x8x2048x256, .f32⟩
  | 12 => ⟨S32x8x2048x256, .f32⟩
  | 13 => ⟨S32x8x2048x256, .f32⟩
  | 14 => ⟨S_, .f32⟩
  | 15 => ⟨S32x8x2048, .f32⟩
  | 16 => ⟨S_, .f32⟩
  | 17 => ⟨S32x8x2048, .f32⟩
  | 18 => ⟨S32x8x2048, .f32⟩
  | 19 => ⟨S32x8x2048x64, .f32⟩
  | 20 => ⟨S32x8x2048x64, .f32⟩
  | 21 => ⟨S32x8x2048x64, .f32⟩
  | 22 => ⟨S32x8x2048x1, .f32⟩
  | 23 => ⟨S32x8x2048x64, .f32⟩
  | 24 => ⟨S32x8x2048x64, .f32⟩
  | 25 => ⟨S32x2048x8x64, .f32⟩
  | 26 => ⟨S32x2048x512, .f32⟩
  | 27 => ⟨S32x2048x1024, .f32⟩
  | 28 => ⟨S32x2048x1024, .f32⟩
  | 29 => ⟨S32x2048x1024, .f32⟩
  | 30 => ⟨S32x2048x1024, .f32⟩
  | 31 => ⟨S32x2048x1024, .f32⟩
  | 32 => ⟨S_, .f32⟩
  | 33 => ⟨S32x2048x1024, .f32⟩
  | 34 => ⟨S32x2048x1024, .f32⟩
  | 35 => ⟨S_, .f32⟩
  | 36 => ⟨S32x2048x1024, .f32⟩
  | 37 => ⟨S32x2048x1024, .f32⟩
  | 38 => ⟨S32x2048x1024, .f32⟩
  | 39 => ⟨S32x2048x1024, .f32⟩
  | 40 => ⟨S32x2048x1024, .f32⟩
  | 41 => ⟨S_, .f32⟩
  | 42 => ⟨S32x2048x1024, .f32⟩
  | 43 => ⟨S32x2048x1024, .f32⟩
  | 44 => ⟨S_, .f32⟩
  | 45 => ⟨S32x2048x1024, .f32⟩
  | 46 => ⟨S32x2048x1024, .f32⟩
  | 47 => ⟨S32x2048x1024, .f32⟩
  | 48 => ⟨S32x2048x1024, .f32⟩
  | 49 => ⟨S32x2048x1024, .f32⟩
  | 50 => ⟨S32x2048x1024, .f32⟩
  | 51 => ⟨S32x2048x1024, .f32⟩
  | 52 => ⟨S32x2048x1024, .f32⟩
  | 53 => ⟨S32x2048x1024, .f32⟩
  | 54 => ⟨S32x2048x1024, .f32⟩
  | 55 => ⟨S_, .f32⟩
  | 56 => ⟨S32x2048, .f32⟩
  | 57 => ⟨S32x2048x1, .f32⟩
  | 58 => ⟨S_, .f32⟩
  | 59 => ⟨S32x2048x1, .f32⟩
  | 60 => ⟨S32x2048x1, .f32⟩
  | 61 => ⟨S_, .f32⟩
  | 62 => ⟨S32x2048x1, .f32⟩
  | 63 => ⟨S32x2048x1, .f32⟩
  | 64 => ⟨S32x2048x1, .f32⟩
  | 65 => ⟨S32x2048x1024, .f32⟩
  | 66 => ⟨S32x2048x1024, .f32⟩
  | 67 => ⟨S1x1x1024, .f32⟩
  | 68 => ⟨S32x2048x1024, .f32⟩
  | 69 => ⟨S32x2048x1024, .f32⟩
  | 70 => ⟨S_, .f32⟩
  | 71 => ⟨S32x1x1024, .f32⟩
  | 72 => ⟨S32x1x1024, .f32⟩
  | 73 => ⟨S32x2048x1024, .f32⟩
  | 74 => ⟨S32x2048x1024, .f32⟩
  | 75 => ⟨S32x2048x1024, .f32⟩
  | 76 => ⟨S32x2048x1024, .f32⟩
  | 77 => ⟨S32x2048x16, .f32⟩
  | 78 => ⟨S_, .i32⟩
  | 79 => ⟨S32x16x2048, .i32⟩
  | 80 => ⟨S32x16x2048, .i1⟩
  | 81 => ⟨S_, .i32⟩
  | 82 => ⟨S_, .i32⟩
  | 83 => ⟨S32x16x2048, .i32⟩
  | 84 => ⟨S32x16x2048, .i32⟩
  | 85 => ⟨S32, .i32⟩
  | 86 => ⟨S32x1x1, .i32⟩
  | 87 => ⟨S16, .i32⟩
  | 88 => ⟨S1x16x1, .i32⟩
  | 89 => ⟨S_, .f32⟩
  | 90 => ⟨S32x16x256x1024, .f32⟩
  | 91 => ⟨S32x1x2048x1024, .f32⟩
  | 92 => ⟨S32x16x2048x1024, .f32⟩
  | 93 => ⟨S_, .i32⟩
  | 94 => ⟨S32x1x1, .i32⟩
  | 95 => ⟨S32x1x1, .i1⟩
  | 96 => ⟨S_, .i32⟩
  | 97 => ⟨S32x1x1, .i32⟩
  | 98 => ⟨S32x1x1, .i32⟩
  | 99 => ⟨S32x1x1, .i32⟩
  | 100 => ⟨S_, .i32⟩
  | 101 => ⟨S1x16x1, .i32⟩
  | 102 => ⟨S1x16x1, .i1⟩
  | 103 => ⟨S_, .i32⟩
  | 104 => ⟨S1x16x1, .i32⟩
  | 105 => ⟨S1x16x1, .i32⟩
  | 106 => ⟨S1x16x1, .i32⟩
  | 107 => ⟨S_, .i32⟩
  | 108 => ⟨S32x16x2048, .i32⟩
  | 109 => ⟨S32x16x2048, .i1⟩
  | 110 => ⟨S_, .i32⟩
  | 111 => ⟨S32x16x2048, .i32⟩
  | 112 => ⟨S32x16x2048, .i32⟩
  | 113 => ⟨S32x16x2048, .i32⟩
  | 114 => ⟨S32x16x2048, .i32⟩
  | 115 => ⟨S32x16x2048, .i32⟩
  | 116 => ⟨S32x16x2048x1, .i32⟩
  | 117 => ⟨S32x16x2048x1, .i32⟩
  | 118 => ⟨S32x16x2048x1, .i32⟩
  | 119 => ⟨S32x16x2048x3, .i32⟩
  | 120 => ⟨S32x16x256x1024, .f32⟩
  | 121 => ⟨S16x1024x2816, .f32⟩
  | 122 => ⟨S16x1024x2816, .f32⟩
  | 123 => ⟨S16x2816x1024, .f32⟩
  | 124 => ⟨S16x2816x32x256, .f32⟩
  | 125 => ⟨S32x16x256x2816, .f32⟩
  | 126 => ⟨S16x2816x32x256, .f32⟩
  | 127 => ⟨S32x16x256x2816, .f32⟩
  | _ => ⟨S32x2048x1024, .f32⟩

abbrev hbmTy0_3 (i : Nat) : BufTy := match i % 128 with
  | 0 => ⟨S32x16x256x2816, .f32⟩
  | 1 => ⟨S32x16x256x2816, .f32⟩
  | 2 => ⟨S_, .f32⟩
  | 3 => ⟨S32x16x256x2816, .f32⟩
  | 4 => ⟨S32x16x256x2816, .f32⟩
  | 5 => ⟨S_, .f32⟩
  | 6 => ⟨S32x16x256x2816, .f32⟩
  | 7 => ⟨S32x16x256x2816, .f32⟩
  | 8 => ⟨S32x16x256x2816, .f32⟩
  | 9 => ⟨S32x16x256x2816, .f32⟩
  | 10 => ⟨S16x1024x32x256, .f32⟩
  | 11 => ⟨S32x16x256x1024, .f32⟩
  | 12 => ⟨S32x2048x16, .i32⟩
  | 13 => ⟨S32x2048x16, .f32⟩
  | 14 => ⟨S32, .i32⟩
  | 15 => ⟨S32x1x1, .i32⟩
  | 16 => ⟨S16, .i32⟩
  | 17 => ⟨S1x1x16, .i32⟩
  | 18 => ⟨S_, .i32⟩
  | 19 => ⟨S32x1x1, .i32⟩
  | 20 => ⟨S32x1x1, .i1⟩
  | 21 => ⟨S_, .i32⟩
  | 22 => ⟨S32x1x1, .i32⟩
  | 23 => ⟨S32x1x1, .i32⟩
  | 24 => ⟨S32x1x1, .i32⟩
  | 25 => ⟨S_, .i32⟩
  | 26 => ⟨S1x1x16, .i32⟩
  | 27 => ⟨S1x1x16, .i1⟩
  | 28 => ⟨S_, .i32⟩
  | 29 => ⟨S1x1x16, .i32⟩
  | 30 => ⟨S1x1x16, .i32⟩
  | 31 => ⟨S1x1x16, .i32⟩
  | 32 => ⟨S_, .i32⟩
  | 33 => ⟨S32x2048x16, .i32⟩
  | 34 => ⟨S32x2048x16, .i1⟩
  | 35 => ⟨S_, .i32⟩
  | 36 => ⟨S32x2048x16, .i32⟩
  | 37 => ⟨S32x2048x16, .i32⟩
  | 38 => ⟨S32x2048x16, .i32⟩
  | 39 => ⟨S32x2048x16, .i32⟩
  | 40 => ⟨S32x2048x16, .i32⟩
  | 41 => ⟨S32x2048x16x1, .i32⟩
  | 42 => ⟨S32x2048x16x1, .i32⟩
  | 43 => ⟨S32x2048x16x1, .i32⟩
  | 44 => ⟨S32x2048x16x3, .i32⟩
  | 45 => ⟨S32x2048x16x1024, .f32⟩
  | 46 => ⟨S_, .i32⟩
  | 47 => ⟨S32x2048x16, .i32⟩
  | 48 => ⟨S32x2048x16, .i1⟩
  | 49 => ⟨S_, .i32⟩
  | 50 => ⟨S32x2048x16, .i32⟩
  | 51 => ⟨S32x2048x16, .i1⟩
  | 52 => ⟨S32x2048x16, .i1⟩
  | 53 => ⟨S32x2048x16x1, .i1⟩
  | 54 => ⟨S32x2048x16x1, .f32⟩
  | 55 => ⟨S32x2048x16x1024, .f32⟩
  | 56 => ⟨S32x2048x16x1024, .f32⟩
  | 57 => ⟨S_, .f32⟩
  | 58 => ⟨S_, .f32⟩
  | 59 => ⟨S32x2048x16x1024, .i1⟩
  | 60 => ⟨S32x2048x16x1024, .f32⟩
  | 61 => ⟨S32x2048x16x1024, .f32⟩
  | 62 => ⟨S_, .f32⟩
  | 63 => ⟨S32x2048x1024, .f32⟩
  | 64 => ⟨S32x2048x1024, .f32⟩
  | 65 => ⟨S32x2048x1024, .f32⟩
  | 66 => ⟨S32x2048x1024, .f32⟩
  | 67 => ⟨S32x2048x1024, .f32⟩
  | 68 => ⟨S_, .f32⟩
  | 69 => ⟨S32x2048, .f32⟩
  | 70 => ⟨S32x2048x1, .f32⟩
  | 71 => ⟨S_, .f32⟩
  | 72 => ⟨S32x2048x1, .f32⟩
  | 73 => ⟨S32x2048x1, .f32⟩
  | 74 => ⟨S_, .f32⟩
  | 75 => ⟨S32x2048x1, .f32⟩
  | 76 => ⟨S32x2048x1, .f32⟩
  | 77 => ⟨S32x2048x1, .f32⟩
  | 78 => ⟨S32x2048x1024, .f32⟩
  | 79 => ⟨S32x2048x1024, .f32⟩
  | 80 => ⟨S1x1x1024, .f32⟩
  | 81 => ⟨S32x2048x1024, .f32⟩
  | 82 => ⟨S32x2048x1024, .f32⟩
  | 83 => ⟨S32x2048x5120, .bf16⟩
  | 84 => ⟨S32x256x1024, .bf16⟩
  | 85 => ⟨S32x16x2048, .f32⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst : Ref sig .tc := ⟨.hbm, 66, rfl⟩
abbrev main_v27 : Ref sig .tc := ⟨.hbm, 67, rfl⟩
abbrev main_v28 : Ref sig .tc := ⟨.hbm, 68, rfl⟩
abbrev main_cst_0 : Ref sig .tc := ⟨.hbm, 69, rfl⟩
abbrev main_v29 : Ref sig .tc := ⟨.hbm, 70, rfl⟩
abbrev main_v30 : Ref sig .tc := ⟨.hbm, 71, rfl⟩
abbrev main_cst_1 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_2 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_3 : Ref sig .tc := ⟨.hbm, 89, rfl⟩
abbrev main_v46 : Ref sig .tc := ⟨.hbm, 90, rfl⟩
abbrev main_v47 : Ref sig .tc := ⟨.hbm, 91, rfl⟩
abbrev main_cst_4 : Ref sig .tc := ⟨.hbm, 92, rfl⟩
abbrev main_v48 : Ref sig .tc := ⟨.hbm, 93, rfl⟩
abbrev main_v49 : Ref sig .tc := ⟨.hbm, 94, rfl⟩
abbrev main_cst_5 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c : Ref sig .tc := ⟨.hbm, 137, rfl⟩
abbrev main_v90 : Ref sig .tc := ⟨.hbm, 138, rfl⟩
abbrev main_v91 : Ref sig .tc := ⟨.hbm, 139, rfl⟩
abbrev main_c_7 : Ref sig .tc := ⟨.hbm, 140, rfl⟩
abbrev main_c_8 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_v92 : Ref sig .tc := ⟨.hbm, 147, rfl⟩
abbrev main_v93 : Ref sig .tc := ⟨.hbm, 148, rfl⟩
abbrev main_c_9 : Ref sig .tc := ⟨.hbm, 149, rfl⟩
abbrev main_v94 : Ref sig .tc := ⟨.hbm, 150, rfl⟩
abbrev main_v95 : Ref sig .tc := ⟨.hbm, 151, rfl⟩
abbrev main_c_10 : Ref sig .tc := ⟨.hbm, 152, rfl⟩
abbrev main_c_11 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_c_12 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_c_13 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_c_14 : Ref sig .tc := ⟨.hbm, 191, rfl⟩
abbrev main_v126 : Ref sig .tc := ⟨.hbm, 192, rfl⟩
abbrev main_v127 : Ref sig .tc := ⟨.hbm, 193, rfl⟩
abbrev main_c_15 : Ref sig .tc := ⟨.hbm, 194, rfl⟩
abbrev main_v128 : Ref sig .tc := ⟨.hbm, 195, rfl⟩
abbrev main_v129 : Ref sig .tc := ⟨.hbm, 196, rfl⟩
abbrev main_c_16 : Ref sig .tc := ⟨.hbm, 197, rfl⟩
abbrev main_c_17 : Ref sig .tc := ⟨.hbm, 198, rfl⟩
abbrev main_call4_v0 : Ref sig .tc := ⟨.hbm, 199, rfl⟩
abbrev main_call4_v1 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_c_18 : Ref sig .tc := ⟨.hbm, 210, rfl⟩
abbrev main_v136 : Ref sig .tc := ⟨.hbm, 211, rfl⟩
abbrev main_v137 : Ref sig .tc := ⟨.hbm, 212, rfl⟩
abbrev main_c_19 : Ref sig .tc := ⟨.hbm, 213, rfl⟩
abbrev main_v138 : Ref sig .tc := ⟨.hbm, 214, rfl⟩
abbrev main_v139 : Ref sig .tc := ⟨.hbm, 215, rfl⟩
abbrev main_c_20 : Ref sig .tc := ⟨.hbm, 216, rfl⟩
abbrev main_c_21 : Ref sig .tc := ⟨.hbm, 217, rfl⟩
abbrev main_call5_v0 : Ref sig .tc := ⟨.hbm, 218, rfl⟩
abbrev main_call5_v1 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_v140 : Ref sig .tc := ⟨.hbm, 223, rfl⟩
abbrev main_v141 : Ref sig .tc := ⟨.hbm, 224, rfl⟩
abbrev main_cst_22 : Ref sig .tc := ⟨.hbm, 225, rfl⟩
abbrev main_v142 : Ref sig .tc := ⟨.hbm, 226, rfl⟩
abbrev main_v143 : Ref sig .tc := ⟨.hbm, 227, rfl⟩
abbrev main_c_23 : Ref sig .tc := ⟨.hbm, 228, rfl⟩
abbrev main_v144 : Ref sig .tc := ⟨.hbm, 229, rfl⟩
abbrev main_v145 : Ref sig .tc := ⟨.hbm, 230, rfl⟩
abbrev main_c_24 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_c_25 : Ref sig .tc := ⟨.hbm, 235, rfl⟩
abbrev main_v149 : Ref sig .tc := ⟨.hbm, 236, rfl⟩
abbrev main_v150 : Ref sig .tc := ⟨.hbm, 237, rfl⟩
abbrev main_c_26 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_cst_27 : Ref sig .tc := ⟨.hbm, 249, rfl⟩
abbrev main_call6_v0 : Ref sig .tc := ⟨.hbm, 250, rfl⟩
abbrev main_call6_v1 : Ref sig .tc := ⟨.hbm, 251, rfl⟩
abbrev main_call6_v2 : Ref sig .tc := ⟨.hbm, 252, rfl⟩
abbrev main_v161 : Ref sig .tc := ⟨.hbm, 253, rfl⟩
abbrev main_v162 : Ref sig .tc := ⟨.hbm, 254, rfl⟩
abbrev main_cst_28 : Ref sig .tc := ⟨.hbm, 255, rfl⟩
abbrev main_v163 : Ref sig .tc := ⟨.hbm, 256, rfl⟩
abbrev main_v164 : Ref sig .tc := ⟨.hbm, 257, rfl⟩
abbrev main_cst_29 : Ref sig .tc := ⟨.hbm, 258, rfl⟩
abbrev main_v165 : Ref sig .tc := ⟨.hbm, 259, rfl⟩
abbrev main_cst_30 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_cst_31 : Ref sig .tc := ⟨.hbm, 270, rfl⟩
abbrev main_v175 : Ref sig .tc := ⟨.hbm, 271, rfl⟩
abbrev main_cst_32 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_cst_33 : Ref sig .tc := ⟨.hbm, 288, rfl⟩
abbrev main_v191 : Ref sig .tc := ⟨.hbm, 289, rfl⟩
abbrev main_v192 : Ref sig .tc := ⟨.hbm, 290, rfl⟩
abbrev main_cst_34 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_cst_35 : Ref sig .tc := ⟨.hbm, 297, rfl⟩
abbrev main_v198 : Ref sig .tc := ⟨.hbm, 298, rfl⟩
abbrev main_v199 : Ref sig .tc := ⟨.hbm, 299, rfl⟩
abbrev main_cst_36 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_cst_37 : Ref sig .tc := ⟨.hbm, 311, rfl⟩
abbrev main_v210 : Ref sig .tc := ⟨.hbm, 312, rfl⟩
abbrev main_v211 : Ref sig .tc := ⟨.hbm, 313, rfl⟩
abbrev main_cst_38 : Ref sig .tc := ⟨.hbm, 314, rfl⟩
abbrev main_v212 : Ref sig .tc := ⟨.hbm, 315, rfl⟩
abbrev main_v213 : Ref sig .tc := ⟨.hbm, 316, rfl⟩
abbrev main_cst_39 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_cst_40 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_c_41 : Ref sig .tc := ⟨.hbm, 334, rfl⟩
abbrev main_v229 : Ref sig .tc := ⟨.hbm, 335, rfl⟩
abbrev main_v230 : Ref sig .tc := ⟨.hbm, 336, rfl⟩
abbrev main_c_42 : Ref sig .tc := ⟨.hbm, 337, rfl⟩
abbrev main_call7_v0 : Ref sig .tc := ⟨.hbm, 338, rfl⟩
abbrev main_call7_v1 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_cst_43 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_c_44 : Ref sig .tc := ⟨.hbm, 349, rfl⟩
abbrev main_v239 : Ref sig .tc := ⟨.hbm, 350, rfl⟩
abbrev main_v240 : Ref sig .tc := ⟨.hbm, 351, rfl⟩
abbrev main_c_45 : Ref sig .tc := ⟨.hbm, 352, rfl⟩
abbrev main_v241 : Ref sig .tc := ⟨.hbm, 353, rfl⟩
abbrev main_v242 : Ref sig .tc := ⟨.hbm, 354, rfl⟩
abbrev main_v243 : Ref sig .tc := ⟨.hbm, 355, rfl⟩
abbrev main_c_46 : Ref sig .tc := ⟨.hbm, 356, rfl⟩
abbrev main_v244 : Ref sig .tc := ⟨.hbm, 357, rfl⟩
abbrev main_v245 : Ref sig .tc := ⟨.hbm, 358, rfl⟩
abbrev main_c_47 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_c_48 : Ref sig .tc := ⟨.hbm, 363, rfl⟩
abbrev main_v249 : Ref sig .tc := ⟨.hbm, 364, rfl⟩
abbrev main_v250 : Ref sig .tc := ⟨.hbm, 365, rfl⟩
abbrev main_c_49 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_v265 : Ref sig .tc := ⟨.hbm, 381, rfl⟩
abbrev main_v266 : Ref sig .tc := ⟨.hbm, 382, rfl⟩
abbrev main_v267 : Ref sig .tc := ⟨.hbm, 383, rfl⟩
abbrev main_call8_v0 : Ref sig .tc := ⟨.hbm, 384, rfl⟩
abbrev main_call8_v1 : Ref sig .tc := ⟨.hbm, 385, rfl⟩
abbrev main_call8_cst : Ref sig .tc := ⟨.hbm, 386, rfl⟩
abbrev main_call8_v2 : Ref sig .tc := ⟨.hbm, 387, rfl⟩
abbrev main_call8_v3 : Ref sig .tc := ⟨.hbm, 388, rfl⟩
abbrev main_call8_cst_0 : Ref sig .tc := ⟨.hbm, 389, rfl⟩
abbrev main_call8_v4 : Ref sig .tc := ⟨.hbm, 390, rfl⟩
abbrev main_call8_v5 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_c_50 : Ref sig .tc := ⟨.hbm, 402, rfl⟩
abbrev main_v278 : Ref sig .tc := ⟨.hbm, 403, rfl⟩
abbrev main_v279 : Ref sig .tc := ⟨.hbm, 404, rfl⟩
abbrev main_c_51 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_c_52 : Ref sig .tc := ⟨.hbm, 409, rfl⟩
abbrev main_v283 : Ref sig .tc := ⟨.hbm, 410, rfl⟩
abbrev main_v284 : Ref sig .tc := ⟨.hbm, 411, rfl⟩
abbrev main_c_53 : Ref sig .tc := ⟨.hbm, 412, rfl⟩
abbrev main_v285 : Ref sig .tc := ⟨.hbm, 413, rfl⟩
abbrev main_v286 : Ref sig .tc := ⟨.hbm, 414, rfl⟩
abbrev main_v287 : Ref sig .tc := ⟨.hbm, 415, rfl⟩
abbrev main_c_54 : Ref sig .tc := ⟨.hbm, 416, rfl⟩
abbrev main_v288 : Ref sig .tc := ⟨.hbm, 417, rfl⟩
abbrev main_v289 : Ref sig .tc := ⟨.hbm, 418, rfl⟩
abbrev main_c_55 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_v295 : Ref sig .tc := ⟨.hbm, 425, rfl⟩
abbrev main_v296 : Ref sig .tc := ⟨.hbm, 426, rfl⟩
abbrev main_v297 : Ref sig .tc := ⟨.hbm, 427, rfl⟩
abbrev main_v298 : Ref sig .tc := ⟨.hbm, 428, rfl⟩
abbrev main_v299 : Ref sig .tc := ⟨.hbm, 429, rfl⟩
abbrev main_c_56 : Ref sig .tc := ⟨.hbm, 430, rfl⟩
abbrev main_v300 : Ref sig .tc := ⟨.hbm, 431, rfl⟩
abbrev main_v301 : Ref sig .tc := ⟨.hbm, 432, rfl⟩
abbrev main_c_57 : Ref sig .tc := ⟨.hbm, 433, rfl⟩
abbrev main_v302 : Ref sig .tc := ⟨.hbm, 434, rfl⟩
abbrev main_v303 : Ref sig .tc := ⟨.hbm, 435, rfl⟩
abbrev main_v304 : Ref sig .tc := ⟨.hbm, 436, rfl⟩
abbrev main_v305 : Ref sig .tc := ⟨.hbm, 437, rfl⟩
abbrev main_v306 : Ref sig .tc := ⟨.hbm, 438, rfl⟩
abbrev main_v307 : Ref sig .tc := ⟨.hbm, 439, rfl⟩
abbrev main_v308 : Ref sig .tc := ⟨.hbm, 440, rfl⟩
abbrev main_cst_58 : Ref sig .tc := ⟨.hbm, 441, rfl⟩
abbrev main_call9_v0 : Ref sig .tc := ⟨.hbm, 442, rfl⟩
abbrev main_call9_v1 : Ref sig .tc := ⟨.hbm, 443, rfl⟩
abbrev main_call9_v2 : Ref sig .tc := ⟨.hbm, 444, rfl⟩
abbrev main_v309 : Ref sig .tc := ⟨.hbm, 445, rfl⟩
abbrev main_cst_59 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_cst_60 : Ref sig .tc := ⟨.hbm, 452, rfl⟩
abbrev main_v315 : Ref sig .tc := ⟨.hbm, 453, rfl⟩
abbrev main_v316 : Ref sig .tc := ⟨.hbm, 454, rfl⟩
abbrev main_cst_61 : Ref sig .tc := ⟨.hbm, 455, rfl⟩
abbrev main_v317 : Ref sig .tc := ⟨.hbm, 456, rfl⟩
abbrev main_v318 : Ref sig .tc := ⟨.hbm, 457, rfl⟩
abbrev main_cst_62 : Ref sig .tc := ⟨.hbm, 458, rfl⟩
abbrev main_v319 : Ref sig .tc := ⟨.hbm, 459, rfl⟩
abbrev main_v320 : Ref sig .tc := ⟨.hbm, 460, rfl⟩
abbrev main_v321 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_v326 : Ref sig .tc := ⟨.hbm, 466, rfl⟩
abbrev main_v327 : Ref sig .tc := ⟨.hbm, 467, rfl⟩
abbrev main_v328 : Ref sig .tc := ⟨.hbm, 468, rfl⟩
abbrev main_v329 : Ref sig .tc := ⟨.hbm, 469, rfl⟩

abbrev nD : Nat := 1
abbrev τ : Topo := Topo.v7x

variable {F : FTy → Type} [FloatOps F]
-- ==== Proof.NA.Spec.lean ====
/- Neighbourhood attention: a latent token attends to the tokens of a clamped window of the grid around it and to every
   context token; what it gets is the mean of their values weighted by the exponentials of the scores. -/
module

public import Mathlib.Data.EReal.Operations
public import Mathlib.Analysis.SpecialFunctions.Pow.Real
public import proofs.«01_k».proof.KernelIdeal
public import Idealize.ShloMosaic.Lib.ValueIdx
public import Idealize.ShloMosaic.Lib.Pointwise

@[expose] public section

set_option maxRecDepth 16384

noncomputable section

namespace Cert.NA

open Idealize.ShloMosaic Idealize.ShloMosaic.TcCoe Idealize.SL.Sem Cert.KernelIdeal

/-- The first row and the first column of the window of a token's row and column, clamped to the grid of 32 rows of 64. -/
def rs (r : ℕ) : ℕ := min (r - 4) 24
def ws (c : ℕ) : ℕ := min (c - 8) 48

/-- Key row `k` is in the window of query row `r`; key column `k` is in the window of query column `c`. -/
def rowIn (r k : ℕ) : Prop := rs r ≤ k ∧ k < rs r + 8
def colIn (c k : ℕ) : Prop := ws c ≤ k ∧ k < ws c + 16

instance (r k : ℕ) : Decidable (rowIn r k) := inferInstanceAs (Decidable (_ ∧ _))
instance (c k : ℕ) : Decidable (colIn c k) := inferInstanceAs (Decidable (_ ∧ _))

/-- The row and the column of the bias table for a pair of rows and of columns. -/
def dr (r k : ℕ) : Fin 15 := ⟨min (k + 7 - r) 14, by omega⟩
def dc (c k : ℕ) : Fin 31 := ⟨min (k + 15 - c) 30, by omega⟩

/-- The score of latent key `t` for query `l`, before the window's mask. -/
def dotLoc (zx : FVec Ideal S32x2048x5120 .bf16) (b : Fin 32) (h : Fin 8) (l t : Fin 2048) : EReal :=
  ∑ d : Fin 64, zx (ix3 b l ⟨1536 + h.val * 64 + d.val, by omega⟩) * zx (ix3 b t ⟨2048 + h.val * 64 + d.val, by omega⟩)

def score (zx : FVec Ideal S32x2048x5120 .bf16) (rpb : FVec Ideal S8x15x31 .f32) (b : Fin 32) (h : Fin 8) (l t : Fin 2048) : EReal :=
  if rowIn (l.val / 64) (t.val / 64) ∧ colIn (l.val % 64) (t.val % 64) then
    dotLoc zx b h l t * ((1 / 8 : ℝ) : EReal) + rpb (ix3 h (dr (l.val / 64) (t.val / 64)) (dc (l.val % 64) (t.val % 64)))
  else ⊥

/-- The score of context key `u`. -/
def ctxScore (zx : FVec Ideal S32x2048x5120 .bf16) (kv : FVec Ideal S32x256x1024 .bf16) (b : Fin 32) (h : Fin 8) (l : Fin 2048) (u : Fin 256) : EReal :=
  (∑ d : Fin 64, zx (ix3 b l ⟨1536 + h.val * 64 + d.val, by omega⟩) * kv (ix3 b u ⟨h.val * 64 + d.val, by omega⟩)) * ((1 / 8 : ℝ) : EReal)

/-- The mean of two families of values weighted by the exponentials of their scores less the greatest score. -/
def mean {n k : ℕ} (s v : Fin n → EReal) (s' v' : Fin k → EReal) : EReal :=
  Ideal.div
    (∑ t, Ideal.exp (s t - max (Finset.univ.sup s) (Finset.univ.sup s')) * v t
      + ∑ u, Ideal.exp (s' u - max (Finset.univ.sup s) (Finset.univ.sup s')) * v' u)
    (∑ t, Ideal.exp (s t - max (Finset.univ.sup s) (Finset.univ.sup s'))
      + ∑ u, Ideal.exp (s' u - max (Finset.univ.sup s) (Finset.univ.sup s')))

/-- What query `l` gets in feature `d` of head `h`. -/
def attn (zx : FVec Ideal S32x2048x5120 .bf16) (kv : FVec Ideal S32x256x1024 .bf16) (rpb : FVec Ideal S8x15x31 .f32)
    (b : Fin 32) (h : Fin 8) (l : Fin 2048) (d : Fin 64) : EReal :=
  mean (score zx rpb b h l) (fun t => zx (ix3 b t ⟨2560 + h.val * 64 + d.val, by omega⟩))
    (ctxScore zx kv b h l) (fun u => kv (ix3 b u ⟨512 + h.val * 64 + d.val, by omega⟩))

/-- The attention of every latent token, the heads' features side by side. -/
def naArr (zx : FVec Ideal S32x2048x5120 .bf16) (kv : FVec Ideal S32x256x1024 .bf16) (rpb : FVec Ideal S8x15x31 .f32) : FVec Ideal S32x2048x512 .bf16 :=
  fun j => attn zx kv rpb (j 0) ⟨(j 2 : ℕ) / 64, by have := (j 2).isLt; change (j 2 : ℕ) < 512 at this; omega⟩ (j 1) ⟨(j 2 : ℕ) % 64, by omega⟩

/-! ## The slab of rows that a block of four query rows reads, and the bias it adds -/

/-- The first key row of the slab of block `s`; the bias table that it uses. -/
def start (s : ℕ) : ℕ := min (4 * s - 4) 20
def cfg (s : ℕ) : ℕ := min s 1 + (s - 6)

/-! ## The same mean, from scores scaled and powers of two -/

/-- The base-two logarithm of e, which the scaled scores carry. -/
def l2e : EReal := (((Real.log 2)⁻¹ : ℝ) : EReal)

/-- The scaled bias of key `t` of the slab for query `r` of block `s`: the least value outside the window. -/
def biasVal (rpb : FVec Ideal S8x15x31 .f32) (s : Fin 8) (h : Fin 8) (r : Fin 256) (t : Fin 768) : EReal :=
  if rowIn (s.val * 4 + r.val / 64) (start s.val + t.val / 64) ∧ colIn (r.val % 64) (t.val % 64) then
    l2e * rpb (ix3 h (dr (s.val * 4 + r.val / 64) (start s.val + t.val / 64)) (dc (r.val % 64) (t.val % 64)))
  else ⊥

theorem l2e_pos : (0 : ℝ) < (Real.log 2)⁻¹ := inv_pos.mpr (Real.log_pos (by norm_num))

theorem mul_sum_of_pos {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem mul_sub_of_pos (c : ℝ) (hc : 0 ≤ c) (x y : EReal) : (c : EReal) * (x - y) = (c : EReal) * x - (c : EReal) * y := by
  rw [sub_eq_add_neg, sub_eq_add_neg, EReal.left_distrib_of_nonneg_of_ne_top (by exact_mod_cast hc) (EReal.coe_ne_top c), mul_neg]

theorem exp2_l2e (x : EReal) : Ideal.exp2 (l2e * x) = Ideal.exp x := by
  have h := l2e_pos
  unfold l2e
  induction x with
  | bot => rw [EReal.coe_mul_bot_of_pos h]; rfl
  | top => rw [EReal.coe_mul_top_of_pos h]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = _
    rw [Real.rpow_def_of_pos (by norm_num), ← mul_assoc, mul_inv_cancel₀ (ne_of_gt (Real.log_pos (by norm_num))), one_mul]

theorem mono_l2e : Monotone fun x : EReal => l2e * x := by
  intro x y hxy
  exact mul_le_mul_of_nonneg_left hxy (by unfold l2e; exact_mod_cast l2e_pos.le)

theorem l2e_bot : l2e * ⊥ = ⊥ := EReal.coe_mul_bot_of_pos l2e_pos

theorem sup_l2e {n : ℕ} (s : Fin n → EReal) : Finset.univ.sup (fun t => l2e * s t) = l2e * Finset.univ.sup s :=
  (Finset.comp_sup_eq_sup_comp_of_is_total (s := Finset.univ) (f := s) (fun x : EReal => l2e * x) mono_l2e l2e_bot).symm

theorem exp_bot_sub (x : EReal) : Ideal.exp (⊥ - x) = 0 := by
  rw [sub_eq_add_neg, EReal.bot_add]; rfl

/-- A block of `k` of `n` indices, from `o` on. -/
def at_ {n k : ℕ} (o : ℕ) (h : o + k ≤ n) (i : Fin k) : Fin n := ⟨o + i.val, by omega⟩

theorem at_inj {n k : ℕ} (o : ℕ) (h : o + k ≤ n) : Function.Injective (at_ o h) := by
  intro i j e
  have := congrArg Fin.val e
  simp only [at_] at this
  exact Fin.ext (by omega)

theorem sum_block {n k : ℕ} (o : ℕ) (h : o + k ≤ n) (f : Fin n → EReal) (hf : ∀ t, ¬ (o ≤ t.val ∧ t.val < o + k) → f t = 0) :
    ∑ i, f (at_ o h i) = ∑ t, f t := by
  refine (Finset.sum_map Finset.univ ⟨at_ o h, at_inj o h⟩ f).symm.trans ?_
  refine Finset.sum_subset (Finset.subset_univ _) fun t _ ht => hf t fun hc => ht ?_
  exact Finset.mem_map.mpr ⟨⟨t.val - o, by omega⟩, Finset.mem_univ _, Fin.ext (by show o + (t.val - o) = t.val; omega)⟩

theorem sup_block {n k : ℕ} (o : ℕ) (h : o + k ≤ n) (f : Fin n → EReal) (hf : ∀ t, ¬ (o ≤ t.val ∧ t.val < o + k) → f t = ⊥) :
    Finset.univ.sup (fun i => f (at_ o h i)) = Finset.univ.sup f := by
  refine le_antisymm (Finset.sup_le fun i _ => Finset.le_sup (f := f) (Finset.mem_univ (at_ o h i))) (Finset.sup_le fun t _ => ?_)
  by_cases hc : o ≤ t.val ∧ t.val < o + k
  · have : f t = (fun i => f (at_ o h i)) ⟨t.val - o, by omega⟩ := by
      show f t = f _
      congr 1
      exact Fin.ext (by show t.val = o + (t.val - o); omega)
    rw [this]
    exact Finset.le_sup (f := fun i => f (at_ o h i)) (Finset.mem_univ _)
  · rw [hf t hc]; exact bot_le

/-- The quotient of the weighted sum by the sum of weights, the weights powers of two. -/
def quot {k p : ℕ} (S V : Fin k → EReal) (S' V' : Fin p → EReal) : EReal :=
  Ideal.div
    (∑ t, Ideal.exp2 (S t - max (Finset.univ.sup S) (Finset.univ.sup S')) * V t
      + ∑ u, Ideal.exp2 (S' u - max (Finset.univ.sup S) (Finset.univ.sup S')) * V' u)
    (∑ t, Ideal.exp2 (S t - max (Finset.univ.sup S) (Finset.univ.sup S'))
      + ∑ u, Ideal.exp2 (S' u - max (Finset.univ.sup S) (Finset.univ.sup S')))

/-- A dot product with one side scaled is the scaled score. -/
theorem scaled {n : ℕ} (f g : Fin n → EReal) :
    ∑ d, f d * ((1 / 8 : ℝ) : EReal) * l2e * g d = l2e * ((∑ d, f d * g d) * ((1 / 8 : ℝ) : EReal)) := by
  rw [mul_comm (∑ d, f d * g d), mul_sum_of_pos _ _ (by norm_num)]
  unfold l2e
  rw [mul_sum_of_pos _ _ l2e_pos.le]
  exact Finset.sum_congr rfl fun d _ => by ac_rfl

/-- The mean over a block that holds every key whose score is not the least, from scaled scores and powers of two. -/
theorem mean_block {n k p : ℕ} (o : ℕ) (h : o + k ≤ n) (s v : Fin n → EReal) (s' v' : Fin p → EReal)
    (hs : ∀ t, ¬ (o ≤ t.val ∧ t.val < o + k) → s t = ⊥) (S V : Fin k → EReal) (S' : Fin p → EReal)
    (hS : ∀ i, S i = l2e * s (at_ o h i)) (hV : ∀ i, V i = v (at_ o h i)) (hS' : ∀ u, S' u = l2e * s' u) :
    quot S V S' v' = mean s v s' v' := by
  obtain rfl : S = fun i => l2e * s (at_ o h i) := funext hS
  obtain rfl : V = fun i => v (at_ o h i) := funext hV
  obtain rfl : S' = fun u => l2e * s' u := funext hS'
  have hm : max (Finset.univ.sup fun i => l2e * s (at_ o h i)) (Finset.univ.sup fun u => l2e * s' u)
      = l2e * max (Finset.univ.sup s) (Finset.univ.sup s') := by
    rw [sup_l2e, sup_l2e, sup_block o h s hs, mono_l2e.map_max]
  unfold quot mean
  rw [hm]
  generalize max (Finset.univ.sup s) (Finset.univ.sup s') = m
  have he : ∀ x : EReal, Ideal.exp2 (l2e * x - l2e * m) = Ideal.exp (x - m) := by
    intro x
    rw [← exp2_l2e (x - m)]
    congr 1
    exact (mul_sub_of_pos _ l2e_pos.le x m).symm
  simp only [he]
  rw [sum_block o h (fun t => Ideal.exp (s t - m) * v t) (fun t ht => by rw [hs t ht, exp_bot_sub, zero_mul]),
    sum_block o h (fun t => Ideal.exp (s t - m)) (fun t ht => by rw [hs t ht, exp_bot_sub])]

end Cert.NA

end
-- ==== Proof.NA.Pay.lean ====
/- The eight units of the attention body are one computation on six loaded blocks; its value at an index. -/
module

public import proofs.«01_k».proof.Proof.NA.Spec
public import proofs.«01_k».proof.Proof.Gen.KernelIdeal.Skeleton

@[expose] public section

set_option maxRecDepth 16384

noncomputable section

namespace Cert.NA

open Idealize.ShloMosaic Idealize.ShloMosaic.TcCoe Idealize.SL.Sem Cert.KernelIdeal Cert.KernelIdeal.Gen

/-- One unit: a pair of heads of one sample, on its blocks of queries, keys, values, context keys, context values and bias. -/
def blk (q : Vec Ideal S1x256x128 .bf16) (k v : Vec Ideal S1x768x128 .bf16) (kc vc : Vec Ideal S1x256x128 .bf16) (b : Vec Ideal S1x2x256x768 .f32) :
    FVec Ideal S1x256x128 .bf16 :=
  k5_pay17 k5_pay2 k5_pay3 (k5_pay12 v) (k5_pay13 kc) (k5_pay14 vc) (k5_pay15 k5_pay2 k5_pay3 q) (k5_pay16 k5_pay2 k5_pay3 q k b)
    (constant S512x256 .f32 0x00000000#32)

variable (q : Vec Ideal S1x256x128 .bf16) (k v : Vec Ideal S1x768x128 .bf16) (kc vc : Vec Ideal S1x256x128 .bf16) (b : Vec Ideal S1x2x256x768 .f32)

theorem blk_0 : k5_pay11 (k5_pay9 k5_pay2 k5_pay3 (k5_pay4 q) (k5_pay5 k) (k5_pay6 v) (k5_pay7 kc) vc b)
    (k5_pay10 k5_pay2 k5_pay3 (k5_pay4 q) (k5_pay5 k) (k5_pay6 v) (k5_pay7 kc) vc b) = blk q k v kc vc b := rfl

theorem blk_2 : k5_pay29 k5_pay2 k5_pay3 (k5_pay19 v) (k5_pay20 vc)
    (k5_pay25 k5_pay2 k5_pay3 (k5_pay18 q) (Named.named κ "log2_e" 0x3FB8AA3B#32) k kc b)
    (k5_pay26 k5_pay2 k5_pay3 (k5_pay18 q) (Named.named κ "log2_e" 0x3FB8AA3B#32) k kc b)
    (k5_pay27 k5_pay2 k5_pay3 (k5_pay18 q) (Named.named κ "log2_e" 0x3FB8AA3B#32) k kc b)
    (k5_pay28 k5_pay2 k5_pay3 (k5_pay18 q) (Named.named κ "log2_e" 0x3FB8AA3B#32) k kc b) = blk q k v kc vc b := rfl

theorem blk_3 : k5_pay37 k5_pay3 (k5_pay35 k5_pay2 k5_pay3 (k5_pay30 q) (k5_pay31 k) (k5_pay32 v) (k5_pay33 kc) vc b)
    (k5_pay36 k5_pay2 k5_pay3 (k5_pay30 q) (k5_pay31 k) (k5_pay32 v) (k5_pay33 kc) vc b) = blk q k v kc vc b := rfl

theorem blk_4 : k5_pay44 k5_pay2 k5_pay3 (k5_pay38 v) (k5_pay39 kc) (k5_pay40 vc) (k5_pay41 k5_pay2 k5_pay3 q)
    (k5_pay42 k5_pay2 k5_pay3 q k) (k5_pay43 b) = blk q k v kc vc b := rfl

theorem blk_5 : k5_pay55 k5_pay2 k5_pay3 (k5_pay46 v) (k5_pay47 vc)
    (k5_pay52 k5_pay2 k5_pay3 (k5_pay45 q) (Scalar.ofBits .f32 0x3E000000#32) k kc b)
    (k5_pay53 k5_pay2 k5_pay3 (k5_pay45 q) (Scalar.ofBits .f32 0x3E000000#32) k kc b)
    (k5_pay54 k5_pay2 k5_pay3 (k5_pay45 q) (Scalar.ofBits .f32 0x3E000000#32) k kc b) = blk q k v kc vc b := rfl

theorem blk_6 : k5_pay61 k5_pay3 (k5_pay59 k5_pay2 k5_pay3 (k5_pay56 q) (k5_pay57 k) (k5_pay58 v) kc vc b)
    (k5_pay60 k5_pay2 k5_pay3 (k5_pay56 q) (k5_pay57 k) (k5_pay58 v) kc vc b) (Scalar.ofBits .f32 0x00000000#32) = blk q k v kc vc b := rfl

theorem blk_7 : k5_pay1 (k5_pay68 k5_pay2 (k5_pay62 v) (k5_pay63 kc) (k5_pay64 vc) (k5_pay65 k5_pay2 k5_pay3 q) (k5_pay66 k5_pay2 k5_pay3 q k) b)
    (k5_pay69 k5_pay3 (k5_pay62 v) (k5_pay63 kc) (k5_pay64 vc) (k5_pay65 k5_pay2 k5_pay3 q) (k5_pay66 k5_pay2 k5_pay3 q k) b) = blk q k v kc vc b := rfl

/-- The lane masks: the first and the second half of the lanes. -/
theorem lo_at (r : Fin 256) (d : Fin 128) : k5_pay2 (ix2 r d) = if d.val < 64 then 1#1 else 0#1 := by
  have h : ∀ d : Fin 128, IntOp.andi (IntOp.cmpi .sge (BitVec.ofNat 32 d.val) 0#32) (IntOp.cmpi .slt (BitVec.ofNat 32 d.val) 64#32) = if d.val < 64 then 1#1 else 0#1 := by decide
  refine Eq.trans ?_ (h d)
  pointwise [k5_pay2]

theorem hi_at (r : Fin 256) (d : Fin 128) : k5_pay3 (ix2 r d) = if d.val < 64 then 0#1 else 1#1 := by
  have h : ∀ d : Fin 128, IntOp.andi (IntOp.cmpi .sge (BitVec.ofNat 32 d.val) 64#32) (IntOp.cmpi .slt (BitVec.ofNat 32 d.val) 128#32) = if d.val < 64 then 0#1 else 1#1 := by decide
  refine Eq.trans ?_ (h d)
  pointwise [k5_pay3]

theorem eighth : Ideal.ofBits .f32 0x3E000000#32 = ((1 / 8 : ℝ) : EReal) := by
  simp [Ideal.ofBits, Ideal.ieee, -EReal.coe_mul]; norm_num

theorem neg_inf : Ideal.ofBits .f32 0xFF800000#32 = ⊥ := by
  simp [Ideal.ofBits, Ideal.ieee, -EReal.coe_mul]

theorem named_l2e : (Named.named (F := Ideal) κ "log2_e" (0x3FB8AA3B#32 : BitVec 32) : Ideal .f32) = l2e :=
  IdealRules.named_const.ideal_named_scalar _ _ _ _ rfl

/-- The queries of both heads, one below the other, each masked to its head's lanes. -/
theorem qm_at (R : Fin 512) (d : Fin 128) : k5_pay15 (F := Ideal) k5_pay2 k5_pay3 q (ix2 R d)
    = if d.val / 64 = R.val / 256 then q (ix3 0 ⟨R.val % 256, by omega⟩ d) * ((1 / 8 : ℝ) : EReal) * l2e else 0 := by
  pointwise [k5_pay15]
  rw [eighth, named_l2e]
  by_cases h : (R : ℕ) < 256
  · rw [dif_pos h, lo_at]
    have e : (⟨(R : ℕ), h⟩ : Fin 256) = ⟨R.val % 256, by omega⟩ := Fin.ext (by show R.val = R.val % 256; omega)
    by_cases hd : d.val < 64
    · have hc : d.val / 64 = R.val / 256 := by omega
      rw [if_pos hd]
      exact (congrArg (fun w : Fin 256 => q (ix3 0 w d) * ((1 / 8 : ℝ) : EReal) * l2e) e).trans (if_pos hc).symm
    · have hc : ¬ d.val / 64 = R.val / 256 := by omega
      rw [if_neg hd]
      exact (if_neg hc).symm
  · rw [dif_neg h, hi_at]
    have e : (⟨(R : ℕ) - 256, by omega⟩ : Fin 256) = ⟨R.val % 256, by omega⟩ := Fin.ext (by show R.val - 256 = R.val % 256; omega)
    by_cases hd : d.val < 64
    · have hc : ¬ d.val / 64 = R.val / 256 := by omega
      rw [if_pos hd]
      exact (if_neg hc).symm
    · have hc : d.val / 64 = R.val / 256 := by omega
      rw [if_neg hd]
      exact (congrArg (fun w : Fin 256 => q (ix3 0 w d) * ((1 / 8 : ℝ) : EReal) * l2e) e).trans (if_pos hc).symm

/-- A masked row times a column is a sum over its head's lanes. -/
theorem row_at (R : Fin 512) (g : Fin 128 → EReal) :
    ∑ d : Fin 128, k5_pay15 (F := Ideal) k5_pay2 k5_pay3 q (ix2 R d) * g d
      = ∑ d : Fin 64, q (ix3 0 ⟨R.val % 256, by omega⟩ ⟨R.val / 256 * 64 + d.val, by omega⟩) * ((1 / 8 : ℝ) : EReal) * l2e * g ⟨R.val / 256 * 64 + d.val, by omega⟩ := by
  rw [← sum_block (R.val / 256 * 64) (by omega : R.val / 256 * 64 + 64 ≤ 128) (fun d : Fin 128 => k5_pay15 (F := Ideal) k5_pay2 k5_pay3 q (ix2 R d) * g d)
    (fun t ht => by rw [qm_at, if_neg (by omega), zero_mul])]
  refine Finset.sum_congr rfl fun d _ => ?_
  show k5_pay15 (F := Ideal) k5_pay2 k5_pay3 q (ix2 R ⟨R.val / 256 * 64 + d.val, by omega⟩) * g ⟨R.val / 256 * 64 + d.val, by omega⟩ = _
  rw [qm_at, if_pos (by show (R.val / 256 * 64 + d.val) / 64 = R.val / 256; omega)]

theorem sloc_at (R : Fin 512) (t : Fin 768) : k5_pay16 (F := Ideal) k5_pay2 k5_pay3 q k b (ix2 R t)
    = (∑ d : Fin 128, k5_pay15 (F := Ideal) k5_pay2 k5_pay3 q (ix2 R d) * k (ix3 0 t d))
      + b (ix4 0 ⟨R.val / 256, by omega⟩ ⟨R.val % 256, by omega⟩ t) := by
  pointwise [k5_pay16]

theorem out_at (M : FVec Ideal S512x128 .bf16) (S : FVec Ideal S512x768 .f32) (x : S1x256x128.Idx) (R : Fin 512)
    (hR : R.val = (x 2 : ℕ) / 64 * 256 + (x 1 : ℕ)) :
    k5_pay17 (F := Ideal) k5_pay2 k5_pay3 (k5_pay12 v) (k5_pay13 kc) (k5_pay14 vc) M S (constant S512x256 .f32 0x00000000#32) x
      = quot (fun t => S (ix2 R t)) (fun t => v (ix3 0 t (x 2))) (fun u => ∑ d : Fin 128, M (ix2 R d) * kc (ix3 0 u d)) (fun u => vc (ix3 0 u (x 2))) := by
  have h1 : (x 1 : ℕ) < 256 := (x 1).isLt
  have h2 : (x 2 : ℕ) < 128 := (x 2).isLt
  have hlt : (x 1 : ℕ) < 512 := by clear hR; omega
  have hlt' : 256 + (x 1 : ℕ) < 512 := by clear hR; omega
  pointwise [k5_pay17, k5_pay12, k5_pay13, k5_pay14]
  have sel0 : ∀ a b : EReal, Scalar.select (0#1) a b = b := fun _ _ => rfl
  have sel1 : ∀ a b : EReal, Scalar.select (1#1) a b = a := fun _ _ => rfl
  rw [lo_at (x 1) (x 2), hi_at (x 1) (x 2), neg_inf]
  by_cases hd : (x 2 : ℕ) < 64
  · rw [if_pos hd, if_pos hd, sel1, sel0, add_zero]
    obtain rfl : R = ⟨(x 1 : ℕ), hlt⟩ := Fin.ext (by show R.val = (x 1 : ℕ); omega)
    rfl
  · rw [if_neg hd, if_neg hd, sel1, sel0, zero_add]
    obtain rfl : R = ⟨256 + (x 1 : ℕ), hlt'⟩ := Fin.ext (by show R.val = 256 + (x 1 : ℕ); omega)
    rfl

/-- A unit's value: the quotient for the lane's head. -/
theorem blk_at (x : S1x256x128.Idx) (r : Fin 256) (hr : r.val = (x 1 : ℕ)) (s : Fin 2) (hs : s.val = (x 2 : ℕ) / 64) :
    blk q k v kc vc b x
      = quot (fun t => (∑ d : Fin 64, q (ix3 0 r ⟨s.val * 64 + d.val, by omega⟩) * ((1 / 8 : ℝ) : EReal) * l2e * k (ix3 0 t ⟨s.val * 64 + d.val, by omega⟩))
            + b (ix4 0 s r t))
          (fun t => v (ix3 0 t (x 2)))
          (fun u => ∑ d : Fin 64, q (ix3 0 r ⟨s.val * 64 + d.val, by omega⟩) * ((1 / 8 : ℝ) : EReal) * l2e * kc (ix3 0 u ⟨s.val * 64 + d.val, by omega⟩))
          (fun u => vc (ix3 0 u (x 2))) := by
  have h1 : (x 1 : ℕ) < 256 := (x 1).isLt
  have h2 : (x 2 : ℕ) < 128 := (x 2).isLt
  unfold blk
  rw [out_at v kc vc _ _ x ⟨(x 2 : ℕ) / 64 * 256 + (x 1 : ℕ), by omega⟩ rfl]
  have e1 : (((x 2 : ℕ) / 64 * 256 + (x 1 : ℕ)) / 256 : ℕ) = s.val := by omega
  have e2 : (((x 2 : ℕ) / 64 * 256 + (x 1 : ℕ)) % 256 : ℕ) = r.val := by omega
  simp only [sloc_at, row_at, e1, e2]

end Cert.NA

end
-- ==== Proof.NA.Unit.lean ====
/- A unit of the attention body, on the blocks that it loads, is the attention of its queries and heads. -/
module

public import proofs.«01_k».proof.Proof.NA.Pay

@[expose] public section

set_option maxRecDepth 16384

noncomputable section

namespace Cert.NA

open Idealize.ShloMosaic Idealize.ShloMosaic.TcCoe Idealize.SL.Sem Cert.KernelIdeal Cert.KernelIdeal.Gen

theorem start_le (s : Fin 8) : start s.val ≤ 20 := by unfold start; omega

theorem unit_at (q : Vec Ideal S1x256x128 .bf16) (k v : Vec Ideal S1x768x128 .bf16) (kc vc : Vec Ideal S1x256x128 .bf16) (b : Vec Ideal S1x2x256x768 .f32)
    (zx : FVec Ideal S32x2048x5120 .bf16) (kv : FVec Ideal S32x256x1024 .bf16) (rpb : FVec Ideal S8x15x31 .f32)
    (B : Fin 32) (s : Fin 8) (p : Fin 4)
    (hq : ∀ (r : Fin 256) (d : Fin 128), q (ix3 0 r d) = zx (ix3 B ⟨s.val * 256 + r.val, by omega⟩ ⟨1536 + p.val * 128 + d.val, by omega⟩))
    (hk : ∀ (t : Fin 768) (d : Fin 128), k (ix3 0 t d) = zx (ix3 B ⟨start s.val * 64 + t.val, by have := start_le s; omega⟩ ⟨2048 + p.val * 128 + d.val, by omega⟩))
    (hv : ∀ (t : Fin 768) (d : Fin 128), v (ix3 0 t d) = zx (ix3 B ⟨start s.val * 64 + t.val, by have := start_le s; omega⟩ ⟨2560 + p.val * 128 + d.val, by omega⟩))
    (hkc : ∀ (u : Fin 256) (d : Fin 128), kc (ix3 0 u d) = kv (ix3 B u ⟨p.val * 128 + d.val, by omega⟩))
    (hvc : ∀ (u : Fin 256) (d : Fin 128), vc (ix3 0 u d) = kv (ix3 B u ⟨512 + p.val * 128 + d.val, by omega⟩))
    (hb : ∀ (e : Fin 2) (r : Fin 256) (t : Fin 768), b (ix4 0 e r t) = biasVal rpb s ⟨p.val * 2 + e.val, by omega⟩ r t)
    (x : S1x256x128.Idx) (j : S32x2048x512.Idx) (h0 : (j 0 : ℕ) = B.val) (h1 : (j 1 : ℕ) = s.val * 256 + (x 1 : ℕ)) (h2 : (j 2 : ℕ) = p.val * 128 + (x 2 : ℕ)) :
    blk q k v kc vc b x = naArr zx kv rpb j := by
  have hx1 : (x 1 : ℕ) < 256 := (x 1).isLt
  have hx2 : (x 2 : ℕ) < 128 := (x 2).isLt
  have hst := start_le s
  obtain ⟨r, hr⟩ : ∃ r : Fin 256, r.val = (x 1 : ℕ) := ⟨⟨_, hx1⟩, rfl⟩
  obtain ⟨e, he⟩ : ∃ e : Fin 2, e.val = (x 2 : ℕ) / 64 := ⟨⟨(x 2 : ℕ) / 64, by omega⟩, rfl⟩
  rw [blk_at q k v kc vc b x r hr e he]
  obtain ⟨L, hL⟩ : ∃ L : Fin 2048, L.val = s.val * 256 + r.val := ⟨⟨s.val * 256 + r.val, by omega⟩, rfl⟩
  obtain ⟨H, hH⟩ : ∃ H : Fin 8, H.val = p.val * 2 + e.val := ⟨⟨p.val * 2 + e.val, by omega⟩, rfl⟩
  obtain ⟨D, hD⟩ : ∃ D : Fin 64, D.val = (x 2 : ℕ) % 64 := ⟨⟨(x 2 : ℕ) % 64, by omega⟩, rfl⟩
  have e0 : j 0 = B := Fin.ext h0
  have e1 : j 1 = L := Fin.ext (by rw [h1, hL, hr])
  have e2 : (⟨(j 2 : ℕ) / 64, by have := (j 2).isLt; change (j 2 : ℕ) < 512 at this; omega⟩ : Fin 8) = H := Fin.ext (by show (j 2 : ℕ) / 64 = H.val; omega)
  have e3 : (⟨(j 2 : ℕ) % 64, by omega⟩ : Fin 64) = D := Fin.ext (by show (j 2 : ℕ) % 64 = D.val; omega)
  have hl : L.val / 64 = s.val * 4 + r.val / 64 := by omega
  have hl' : L.val % 64 = r.val % 64 := by omega
  show _ = attn zx kv rpb (j 0) _ (j 1) _
  rw [e0, e1, e2, e3]
  unfold attn
  have hvc' : (fun u : Fin 256 => vc (ix3 0 u (x 2))) = fun u => kv (ix3 B u ⟨512 + H.val * 64 + D.val, by omega⟩) := funext fun u =>
    (hvc u (x 2)).trans (congrArg (fun w : Fin 1024 => kv (ix3 B u w)) (Fin.ext (by show 512 + p.val * 128 + (x 2 : ℕ) = 512 + H.val * 64 + D.val; omega)))
  rw [hvc']
  refine mean_block (start s.val * 64) (by omega : start s.val * 64 + 768 ≤ 2048) _ _ _ _ (fun t ht => ?_) _ _ _ (fun t => ?_) (fun t => ?_) (fun u => ?_)
  · have hn : ¬ rowIn (L.val / 64) (t.val / 64) := by
      rw [hl]
      unfold start at ht
      unfold rowIn rs
      omega
    unfold score
    rw [if_neg fun h => hn h.1]
  · have ht := t.isLt
    have ew : (at_ (start s.val * 64) (by omega : start s.val * 64 + 768 ≤ 2048) t).val = start s.val * 64 + t.val := rfl
    have ed : (at_ (start s.val * 64) (by omega : start s.val * 64 + 768 ≤ 2048) t).val / 64 = start s.val + t.val / 64 := by rw [ew]; omega
    have em : (at_ (start s.val * 64) (by omega : start s.val * 64 + 768 ≤ 2048) t).val % 64 = t.val % 64 := by rw [ew]; omega
    have hdot : ∑ d : Fin 64, q (ix3 0 r ⟨e.val * 64 + d.val, by omega⟩) * ((1 / 8 : ℝ) : EReal) * l2e * k (ix3 0 t ⟨e.val * 64 + d.val, by omega⟩)
        = l2e * (dotLoc zx B H L (at_ (start s.val * 64) (by omega : start s.val * 64 + 768 ≤ 2048) t) * ((1 / 8 : ℝ) : EReal)) := by
      rw [scaled]
      congr 2
      unfold dotLoc
      refine Finset.sum_congr rfl fun d _ => ?_
      rw [hq, hk]
      congr 2 <;> congr 1 <;> refine Fin.ext ?_
      · show s.val * 256 + r.val = L.val; omega
      · show 1536 + p.val * 128 + (e.val * 64 + d.val) = 1536 + H.val * 64 + d.val; omega
      · show 2048 + p.val * 128 + (e.val * 64 + d.val) = 2048 + H.val * 64 + d.val; omega
    rw [hdot, hb, show (⟨p.val * 2 + e.val, by omega⟩ : Fin 8) = H from Fin.ext hH.symm]
    unfold score biasVal
    rw [ed, em, hl, hl']
    split
    · unfold l2e
      rw [EReal.left_distrib_of_nonneg_of_ne_top (by exact_mod_cast l2e_pos.le) (EReal.coe_ne_top _)]
    · rw [l2e_bot, EReal.add_bot]
  · refine (hv t (x 2)).trans (congrArg (fun w : Fin 5120 => zx (ix3 B (at_ (start s.val * 64) (by omega : start s.val * 64 + 768 ≤ 2048) t) w)) (Fin.ext ?_))
    show 2560 + p.val * 128 + (x 2 : ℕ) = 2560 + H.val * 64 + D.val
    omega
  · show _ = l2e * ctxScore zx kv B H L u
    rw [scaled]
    unfold ctxScore
    congr 2
    refine Finset.sum_congr rfl fun d _ => ?_
    rw [hq, hkc]
    congr 2 <;> congr 1 <;> refine Fin.ext ?_
    · show s.val * 256 + r.val = L.val; omega
    · show 1536 + p.val * 128 + (e.val * 64 + d.val) = 1536 + H.val * 64 + d.val; omega
    · show p.val * 128 + (e.val * 64 + d.val) = H.val * 64 + d.val; omega

end Cert.NA

end
-- ==== Proof.NA.Body.lean ====
/- One grid point of the attention call: the block that the body leaves in its output buffer is the attention of its
   two samples and its four query rows. -/
module

public import proofs.«01_k».proof.Proof.NA.Unit
public import proofs.«01_k».proof.Proof.Gen.KernelIdeal.Frame
public import Idealize.ShloMosaic.Lib.Pipeline.ValueKit

@[expose] public section

set_option maxRecDepth 16384

noncomputable section

namespace Cert.NA

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem idx : ∀ t : Fin cfg5.N, win5_0.index t = ![t.val / 8, t.val % 8, 3] ∧ win5_1.index t = ![t.val / 8, 0, 4]
    ∧ win5_2.index t = ![t.val / 8, 0, 5] ∧ win5_3.index t = ![t.val / 8, 0, 0] ∧ win5_4.index t = ![cfg (t.val % 8), 0, 0, 0]
    ∧ win5_5.index t = ![t.val / 8, t.val % 8, 0] ∧ t.val < 128 :=
  (by decide +kernel : ∀ t : Fin grid5.N, _)

theorem offs : ∀ t : Fin cfg5.N, k5_off1 (grid5.coords t) = ![0, start (t.val % 8) * 64, 128 * 0] ∧ k5_off2 (grid5.coords t) = ![0, start (t.val % 8) * 64, 128 * 1] ∧ k5_off3 (grid5.coords t) = ![0, start (t.val % 8) * 64, 128 * 2] ∧ k5_off4 (grid5.coords t) = ![0, start (t.val % 8) * 64, 128 * 3] ∧ k5_off5 (grid5.coords t) = ![1, start (t.val % 8) * 64, 128 * 0] ∧ k5_off6 (grid5.coords t) = ![1, start (t.val % 8) * 64, 128 * 1] ∧ k5_off7 (grid5.coords t) = ![1, start (t.val % 8) * 64, 128 * 2] ∧ k5_off8 (grid5.coords t) = ![1, start (t.val % 8) * 64, 128 * 3] :=
  (by decide +kernel : ∀ t : Fin grid5.N, _)

/-- Each window's block at a grid point, read off the array it stages. -/
theorem iblk_0 (c : Dev nD) (t : Fin cfg5.N) : iblk5 V c 0 t = (win5_0.blk t).view.read (Elt Ideal) (V c main_v10) := rfl
theorem iblk_1 (c : Dev nD) (t : Fin cfg5.N) : iblk5 V c 1 t = (win5_1.blk t).view.read (Elt Ideal) (V c main_v10) := rfl
theorem iblk_2 (c : Dev nD) (t : Fin cfg5.N) : iblk5 V c 2 t = (win5_2.blk t).view.read (Elt Ideal) (V c main_v10) := rfl
theorem iblk_3 (c : Dev nD) (t : Fin cfg5.N) : iblk5 V c 3 t = (win5_3.blk t).view.read (Elt Ideal) (V c main_v17) := rfl
theorem iblk_4 (c : Dev nD) (t : Fin cfg5.N) : iblk5 V c 4 t = (win5_4.blk t).view.read (Elt Ideal) (V c main_v73) := rfl

section
variable (c : Dev nD) (t : Fin cfg5.N) (ht : t.val < 128) (m : ℕ) (hm : m < 2) (p : Fin 4)

theorem ld_q (off : Fin 3 → ℕ) (inb) (ho : off = ![m, 0, 128 * p.val]) (r : Fin 256) (d : Fin 128) :
    View.ld (iblk5 V c 0 t) (Rect.unit off ![1, 256, 128] inb) (ix3 0 r d)
      = V c main_v10 (ix3 ⟨t.val / 8 * 2 + m, by omega⟩ ⟨t.val % 8 * 256 + r.val, by omega⟩ ⟨1536 + p.val * 128 + d.val, by omega⟩) := by
  subst ho
  have hs : start (t.val % 8) ≤ 20 := by unfold start; omega
  rw [iblk_0, View.ld_apply]
  blk_point [idx t]
  all_goals
    rw [Rect.idx_unit_val]
    simp [idx t]
    try omega

theorem ld_k (off : Fin 3 → ℕ) (inb) (ho : off = ![m, start (t.val % 8) * 64, 128 * p.val]) (r : Fin 768) (d : Fin 128) :
    View.ld (iblk5 V c 1 t) (Rect.unit off ![1, 768, 128] inb) (ix3 0 r d)
      = V c main_v10 (ix3 ⟨t.val / 8 * 2 + m, by omega⟩ ⟨start (t.val % 8) * 64 + r.val, by have : start (t.val % 8) ≤ 20 := (by unfold start; omega); omega⟩ ⟨2048 + p.val * 128 + d.val, by omega⟩) := by
  subst ho
  have hs : start (t.val % 8) ≤ 20 := by unfold start; omega
  rw [iblk_1, View.ld_apply]
  blk_point [idx t]
  all_goals
    rw [Rect.idx_unit_val]
    simp [idx t]
    try omega

theorem ld_v (off : Fin 3 → ℕ) (inb) (ho : off = ![m, start (t.val % 8) * 64, 128 * p.val]) (r : Fin 768) (d : Fin 128) :
    View.ld (iblk5 V c 2 t) (Rect.unit off ![1, 768, 128] inb) (ix3 0 r d)
      = V c main_v10 (ix3 ⟨t.val / 8 * 2 + m, by omega⟩ ⟨start (t.val % 8) * 64 + r.val, by have : start (t.val % 8) ≤ 20 := (by unfold start; omega); omega⟩ ⟨2560 + p.val * 128 + d.val, by omega⟩) := by
  subst ho
  have hs : start (t.val % 8) ≤ 20 := by unfold start; omega
  rw [iblk_2, View.ld_apply]
  blk_point [idx t]
  all_goals
    rw [Rect.idx_unit_val]
    simp [idx t]
    try omega

theorem ld_kc (off : Fin 3 → ℕ) (inb) (ho : off = ![m, 0, 128 * p.val]) (r : Fin 256) (d : Fin 128) :
    View.ld (iblk5 V c 3 t) (Rect.unit off ![1, 256, 128] inb) (ix3 0 r d)
      = V c main_v17 (ix3 ⟨t.val / 8 * 2 + m, by omega⟩ r ⟨p.val * 128 + d.val, by omega⟩) := by
  subst ho
  have hs : start (t.val % 8) ≤ 20 := by unfold start; omega
  rw [iblk_3, View.ld_apply]
  blk_point [idx t]
  all_goals
    rw [Rect.idx_unit_val]
    simp [idx t]
    try omega

theorem ld_vc (off : Fin 3 → ℕ) (inb) (ho : off = ![m, 0, 512 + 128 * p.val]) (r : Fin 256) (d : Fin 128) :
    View.ld (iblk5 V c 3 t) (Rect.unit off ![1, 256, 128] inb) (ix3 0 r d)
      = V c main_v17 (ix3 ⟨t.val / 8 * 2 + m, by omega⟩ r ⟨512 + p.val * 128 + d.val, by omega⟩) := by
  subst ho
  have hs : start (t.val % 8) ≤ 20 := by unfold start; omega
  rw [iblk_3, View.ld_apply]
  blk_point [idx t]
  all_goals
    rw [Rect.idx_unit_val]
    simp [idx t]
    try omega

theorem ld_b (off : Fin 4 → ℕ) (inb) (ho : off = ![0, 2 * p.val, 0, 0]) (rpb : FVec Ideal S8x15x31 .f32)
    (hB : ∀ (s h : Fin 8) (r : Fin 256) (k : Fin 768), V c main_v73 (ix4 ⟨cfg s.val, by unfold cfg; omega⟩ h r k) = biasVal rpb s h r k)
    (e : Fin 2) (r : Fin 256) (k : Fin 768) :
    View.ld (iblk5 V c 4 t) (Rect.unit off ![1, 2, 256, 768] inb) (ix4 0 e r k)
      = biasVal rpb ⟨t.val % 8, by omega⟩ ⟨p.val * 2 + e.val, by omega⟩ r k := by
  subst ho
  have hc : cfg (t.val % 8) < 3 := by unfold cfg; omega
  rw [← hB, iblk_4, View.ld_apply]
  blk_point [idx t]
  all_goals
    rw [Rect.idx_unit_val]
    simp [idx t]
    try omega

end

set_option maxHeartbeats 4000000 in
/-- The array after the call is the attention of the arrays that the call is entered with. -/
theorem final (c : Dev nD) (rpb : FVec Ideal S8x15x31 .f32)
    (hB : ∀ (s h : Fin 8) (r : Fin 256) (k : Fin 768), V c main_v73 (ix4 ⟨cfg s.val, by unfold cfg; omega⟩ h r k) = biasVal rpb s h r k) :
    (dat5 V c).arrAt 5 cfg5.N = naArr (V c main_v10) (V c main_v17) rpb := by
  refine (dat5 V c).arrAt_eq_of_covers 5 _ (by decide +kernel) fun t _ y => ?_
  blk_simp
  rw [after5_5]
  unfold outsAt5
  frame_out
  have ht := (idx t).2.2.2.2.2.2
  have e0 : ((((View.whole main_v74).slice (win5_5.rect t)).emb y 0 : Fin _) : ℕ) = t.val / 8 * 2 + (y 0 : ℕ) := by blk_simp [idx t] <;> try omega
  have e1 : ((((View.whole main_v74).slice (win5_5.rect t)).emb y 1 : Fin _) : ℕ) = t.val % 8 * 256 + (y 1 : ℕ) := by blk_simp [idx t] <;> try omega
  have e2 : ((((View.whole main_v74).slice (win5_5.rect t)).emb y 2 : Fin _) : ℕ) = (y 2 : ℕ) := by blk_simp [idx t] <;> try omega
  generalize ((View.whole main_v74).slice (win5_5.rect t)).emb y = j at e0 e1 e2
  canon_tiles x h
  case piece0 =>
    refine (congrFun (blk_7 _ _ _ _ _ _) x).trans ?_
    exact unit_at _ _ _ _ _ _ (V c main_v10) (V c main_v17) rpb ⟨t.val / 8 * 2 + 1, by omega⟩ ⟨t.val % 8, by omega⟩ 3
      (ld_q V c t ht 1 (by omega) 3 _ _ rfl) (ld_k V c t ht 1 (by omega) 3 _ _ (offs t).2.2.2.2.2.2.2) (ld_v V c t ht 1 (by omega) 3 _ _ (offs t).2.2.2.2.2.2.2)
      (ld_kc V c t ht 1 (by omega) 3 _ _ rfl) (ld_vc V c t ht 1 (by omega) 3 _ _ rfl) (ld_b V c t 1 3 _ _ rfl rpb hB) x j (by show (j 0 : ℕ) = t.val / 8 * 2 + 1; omega) (by show (j 1 : ℕ) = t.val % 8 * 256 + (x 1 : ℕ); omega) (by show (j 2 : ℕ) = 3 * 128 + (x 2 : ℕ); omega)
  case piece1 =>
    refine (congrFun (blk_6 _ _ _ _ _ _) x).trans ?_
    try rw [Memref.IsWhole.read_unread]
    exact unit_at _ _ _ _ _ _ (V c main_v10) (V c main_v17) rpb ⟨t.val / 8 * 2 + 1, by omega⟩ ⟨t.val % 8, by omega⟩ 2
      (ld_q V c t ht 1 (by omega) 2 _ _ rfl) (ld_k V c t ht 1 (by omega) 2 _ _ (offs t).2.2.2.2.2.2.1) (ld_v V c t ht 1 (by omega) 2 _ _ (offs t).2.2.2.2.2.2.1)
      (ld_kc V c t ht 1 (by omega) 2 _ _ rfl) (ld_vc V c t ht 1 (by omega) 2 _ _ rfl) (ld_b V c t 1 2 _ _ rfl rpb hB) x j (by show (j 0 : ℕ) = t.val / 8 * 2 + 1; omega) (by show (j 1 : ℕ) = t.val % 8 * 256 + (x 1 : ℕ); omega) (by show (j 2 : ℕ) = 2 * 128 + (x 2 : ℕ); omega)
  case piece2 =>
    refine (congrFun (blk_5 _ _ _ _ _ _) x).trans ?_
    exact unit_at _ _ _ _ _ _ (V c main_v10) (V c main_v17) rpb ⟨t.val / 8 * 2 + 1, by omega⟩ ⟨t.val % 8, by omega⟩ 1
      (ld_q V c t ht 1 (by omega) 1 _ _ rfl) (ld_k V c t ht 1 (by omega) 1 _ _ (offs t).2.2.2.2.2.1) (ld_v V c t ht 1 (by omega) 1 _ _ (offs t).2.2.2.2.2.1)
      (ld_kc V c t ht 1 (by omega) 1 _ _ rfl) (ld_vc V c t ht 1 (by omega) 1 _ _ rfl) (ld_b V c t 1 1 _ _ rfl rpb hB) x j (by show (j 0 : ℕ) = t.val / 8 * 2 + 1; omega) (by show (j 1 : ℕ) = t.val % 8 * 256 + (x 1 : ℕ); omega) (by show (j 2 : ℕ) = 1 * 128 + (x 2 : ℕ); omega)
  case piece3 =>
    refine (congrFun (blk_4 _ _ _ _ _ _) x).trans ?_
    exact unit_at _ _ _ _ _ _ (V c main_v10) (V c main_v17) rpb ⟨t.val / 8 * 2 + 1, by omega⟩ ⟨t.val % 8, by omega⟩ 0
      (ld_q V c t ht 1 (by omega) 0 _ _ rfl) (ld_k V c t ht 1 (by omega) 0 _ _ (offs t).2.2.2.2.1) (ld_v V c t ht 1 (by omega) 0 _ _ (offs t).2.2.2.2.1)
      (ld_kc V c t ht 1 (by omega) 0 _ _ rfl) (ld_vc V c t ht 1 (by omega) 0 _ _ rfl) (ld_b V c t 1 0 _ _ rfl rpb hB) x j (by show (j 0 : ℕ) = t.val / 8 * 2 + 1; omega) (by show (j 1 : ℕ) = t.val % 8 * 256 + (x 1 : ℕ); omega) (by show (j 2 : ℕ) = 0 * 128 + (x 2 : ℕ); omega)
  case piece4 =>
    refine (congrFun (blk_3 _ _ _ _ _ _) x).trans ?_
    try rw [Memref.IsWhole.read_unread]
    exact unit_at _ _ _ _ _ _ (V c main_v10) (V c main_v17) rpb ⟨t.val / 8 * 2 + 0, by omega⟩ ⟨t.val % 8, by omega⟩ 3
      (ld_q V c t ht 0 (by omega) 3 _ _ rfl) (ld_k V c t ht 0 (by omega) 3 _ _ (offs t).2.2.2.1) (ld_v V c t ht 0 (by omega) 3 _ _ (offs t).2.2.2.1)
      (ld_kc V c t ht 0 (by omega) 3 _ _ rfl) (ld_vc V c t ht 0 (by omega) 3 _ _ rfl) (ld_b V c t 0 3 _ _ rfl rpb hB) x j (by show (j 0 : ℕ) = t.val / 8 * 2 + 0; omega) (by show (j 1 : ℕ) = t.val % 8 * 256 + (x 1 : ℕ); omega) (by show (j 2 : ℕ) = 3 * 128 + (x 2 : ℕ); omega)
  case piece5 =>
    rw [Memref.IsWhole.read_unread]
    show blk (View.ld (iblk5 V c 0 t) (Rect.unit ![0, 0, 256] ![1, 256, 128] _)) (View.ld (iblk5 V c 1 t) (Rect.unit (k5_off3 (grid5.coords t)) ![1, 768, 128] _)) (View.ld (iblk5 V c 2 t) (Rect.unit (k5_off3 (grid5.coords t)) ![1, 768, 128] _)) (View.ld (iblk5 V c 3 t) (Rect.unit ![0, 0, 256] ![1, 256, 128] _)) (View.ld (iblk5 V c 3 t) (Rect.unit ![0, 0, 768] ![1, 256, 128] _)) (View.ld (iblk5 V c 4 t) (Rect.unit ![0, 4, 0, 0] ![1, 2, 256, 768] _)) x = _
    exact unit_at _ _ _ _ _ _ (V c main_v10) (V c main_v17) rpb ⟨t.val / 8 * 2 + 0, by omega⟩ ⟨t.val % 8, by omega⟩ 2
      (ld_q V c t ht 0 (by omega) 2 _ _ rfl) (ld_k V c t ht 0 (by omega) 2 _ _ (offs t).2.2.1) (ld_v V c t ht 0 (by omega) 2 _ _ (offs t).2.2.1)
      (ld_kc V c t ht 0 (by omega) 2 _ _ rfl) (ld_vc V c t ht 0 (by omega) 2 _ _ rfl) (ld_b V c t 0 2 _ _ rfl rpb hB) x j (by show (j 0 : ℕ) = t.val / 8 * 2 + 0; omega) (by show (j 1 : ℕ) = t.val % 8 * 256 + (x 1 : ℕ); omega) (by show (j 2 : ℕ) = 2 * 128 + (x 2 : ℕ); omega)
  case piece6 =>
    show blk _ _ _ _ _ _ x = _
    exact unit_at _ _ _ _ _ _ (V c main_v10) (V c main_v17) rpb ⟨t.val / 8 * 2 + 0, by omega⟩ ⟨t.val % 8, by omega⟩ 1
      (ld_q V c t ht 0 (by omega) 1 _ _ rfl) (ld_k V c t ht 0 (by omega) 1 _ _ (offs t).2.1) (ld_v V c t ht 0 (by omega) 1 _ _ (offs t).2.1)
      (ld_kc V c t ht 0 (by omega) 1 _ _ rfl) (ld_vc V c t ht 0 (by omega) 1 _ _ rfl) (ld_b V c t 0 1 _ _ rfl rpb hB) x j (by show (j 0 : ℕ) = t.val / 8 * 2 + 0; omega) (by show (j 1 : ℕ) = t.val % 8 * 256 + (x 1 : ℕ); omega) (by show (j 2 : ℕ) = 1 * 128 + (x 2 : ℕ); omega)
  case piece7 =>
    refine (congrFun (blk_0 _ _ _ _ _ _) x).trans ?_
    try rw [Memref.IsWhole.read_unread]
    exact unit_at _ _ _ _ _ _ (V c main_v10) (V c main_v17) rpb ⟨t.val / 8 * 2 + 0, by omega⟩ ⟨t.val % 8, by omega⟩ 0
      (ld_q V c t ht 0 (by omega) 0 _ _ rfl) (ld_k V c t ht 0 (by omega) 0 _ _ (offs t).1) (ld_v V c t ht 0 (by omega) 0 _ _ (offs t).1)
      (ld_kc V c t ht 0 (by omega) 0 _ _ rfl) (ld_vc V c t ht 0 (by omega) 0 _ _ rfl) (ld_b V c t 0 0 _ _ rfl rpb hB) x j (by show (j 0 : ℕ) = t.val / 8 * 2 + 0; omega) (by show (j 1 : ℕ) = t.val % 8 * 256 + (x 1 : ℕ); omega) (by show (j 2 : ℕ) = 0 * 128 + (x 2 : ℕ); omega)

end Cert.NA

end
-- ==== Proof.NA.Bias.lean ====
/- The column biases: what the bias call leaves, from the arrays that it is entered with. -/
module

public import proofs.«01_k».proof.Proof.NA.Pay
public import proofs.«01_k».proof.Proof.Gen.KernelIdeal.Frame
public import Idealize.ShloMosaic.Lib.Pipeline.ValueKit

@[expose] public section

set_option maxRecDepth 16384

noncomputable section

namespace Cert.NA.Bias

open Idealize.ShloMosaic Idealize.ShloMosaic.TcCoe Idealize.SL.Sem Cert.KernelIdeal Cert.KernelIdeal.Gen
open Idealize.ShloMosaic.Pipeline (Dat)

theorem sum31 (b : EReal) (f : Fin 31 → EReal) : b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = b + ∑ i, f i := by
  simp only [Fin.sum_univ_castSucc, Finset.univ_eq_empty, Finset.sum_empty, zero_add, ← add_assoc]
  rfl

/-- The column biases from the padded relative biases, the choice of the column difference and the two masks. -/
def cols (x0 : FVec Ideal S128x31 .f32) (x1 : FVec Ideal S31x4096 .f32) (x2 : FVec Ideal S1x4096 .f32) (x3 : FVec Ideal S128x1 .f32) : FVec Ideal S128x4096 .f32 := fun j =>
  x2 (ix2 0 (j 1)) * ⊥ + x3 (ix2 (j 0) 0) * ⊥ + ∑ i : Fin 31, x0 (ix2 (j 0) i) * l2e * x1 (ix2 i (j 1))

theorem named_mask : (Named.named (F := Ideal) κ "mask" (0xF149F2CA#32 : BitVec 32) : Ideal .f32) = (⊥ : EReal) :=
  IdealRules.named_const.ideal_named_scalar _ _ _ _ rfl

set_option maxHeartbeats 4000000 in
theorem out_at (x0 : Vec Ideal S128x31 .f32) (x1 : Vec Ideal S31x4096 .f32) (x2 : Vec Ideal S1x4096 .f32) (x3 : Vec Ideal S128x1 .f32) (q : Fin 128) (n : Fin 4096) :
    out3_4 x0 x1 x2 x3 (ix2 q n) = cols x0 x1 x2 x3 (ix2 q n) := by
  unfold out3_4
  rw [View.canon_cons_unit_lit _ _ _ (by decide)]
  pointwise [k3_pay1, k3_pay2, k3_pay3, k3_pay4, k3_pay5, k3_pay6, k3_pay7, k3_pay8, k3_pay9, k3_pay10, k3_pay11, k3_pay12, k3_pay13, k3_pay14, k3_pay15, k3_pay16, k3_pay17]
  rw [named_mask, named_l2e]
  exact sum31 (x2 (ix2 0 n) * ⊥ + x3 (ix2 q 0) * ⊥) (fun i => x0 (ix2 q i) * l2e * x1 (ix2 i n))

/-- The column bias of key column `n % 64` for query column `n / 64`, at row difference `q % 16` of head `q / 16`. -/
theorem cols_at (x0 : FVec Ideal S128x31 .f32) (x1 : FVec Ideal S31x4096 .f32) (x2 : FVec Ideal S1x4096 .f32) (x3 : FVec Ideal S128x1 .f32)
    (rpb : FVec Ideal S8x15x31 .f32)
    (h0 : ∀ (q : Fin 128) (i : Fin 31), x0 (ix2 q i) = if h : q.val % 16 < 15 then rpb (ix3 ⟨q.val / 16, by omega⟩ ⟨q.val % 16, h⟩ i) else 0)
    (h1 : ∀ (i : Fin 31) (n : Fin 4096), x1 (ix2 i n) = if colIn (n.val / 64) (n.val % 64) ∧ i = dc (n.val / 64) (n.val % 64) then 1 else 0)
    (h2 : ∀ n : Fin 4096, x2 (ix2 0 n) = if colIn (n.val / 64) (n.val % 64) then 0 else 1)
    (h3 : ∀ q : Fin 128, x3 (ix2 q 0) = if q.val % 16 = 15 then 1 else 0) (q : Fin 128) (n : Fin 4096) :
    cols x0 x1 x2 x3 (ix2 q n) = if h : q.val % 16 < 15 ∧ colIn (n.val / 64) (n.val % 64)
      then l2e * rpb (ix3 ⟨q.val / 16, by omega⟩ ⟨q.val % 16, h.1⟩ (dc (n.val / 64) (n.val % 64))) else ⊥ := by
  show x2 (ix2 0 n) * ⊥ + x3 (ix2 q 0) * ⊥ + ∑ i : Fin 31, x0 (ix2 q i) * l2e * x1 (ix2 i n) = _
  rw [h2, h3]
  by_cases hc : colIn (n.val / 64) (n.val % 64)
  · by_cases hq : q.val % 16 < 15
    · rw [dif_pos ⟨hq, hc⟩, if_pos hc, if_neg (by omega : ¬ q.val % 16 = 15), zero_mul, add_zero, zero_add]
      refine (Finset.sum_eq_single (dc (n.val / 64) (n.val % 64)) (fun i _ hi => ?_) (fun h => absurd (Finset.mem_univ _) h)).trans ?_
      · rw [h1, if_neg (fun h => hi h.2), mul_zero]
      · rw [h1, if_pos ⟨hc, rfl⟩, mul_one, h0, dif_pos hq, mul_comm]
    · rw [dif_neg (fun h => hq h.1), if_pos (by omega : q.val % 16 = 15), one_mul, EReal.add_bot, EReal.bot_add]
  · rw [dif_neg (fun h => hc h.2), if_neg hc, one_mul, EReal.bot_add, EReal.bot_add]

variable (V : (c : Dev nD) → (b : Ref sig .tc) → Buf (Elt Ideal) ((c : Thread nD τ).loc b))

theorem idx : ∀ t : Fin cfg3.N, win3_0.index t = ![0, 0] ∧ win3_1.index t = ![0, 0] ∧ win3_2.index t = ![0, 0] ∧ win3_3.index t = ![0, 0] ∧ win3_4.index t = ![0, 0] :=
  (by decide +kernel : ∀ t : Fin grid3.N, _)

theorem iblk_0 (c : Dev nD) (t : Fin cfg3.N) : (iblk3 V c 0 t : Vec Ideal S128x31 .f32) = V c main_v69 := by
  funext x
  blk_point [iblk3, idx t]

theorem iblk_1 (c : Dev nD) (t : Fin cfg3.N) : (iblk3 V c 1 t : Vec Ideal S31x4096 .f32) = V c main_v56 := by
  funext x
  blk_point [iblk3, idx t]

theorem iblk_2 (c : Dev nD) (t : Fin cfg3.N) : (iblk3 V c 2 t : Vec Ideal S1x4096 .f32) = V c main_v59 := by
  funext x
  blk_point [iblk3, idx t]

theorem iblk_3 (c : Dev nD) (t : Fin cfg3.N) : (iblk3 V c 3 t : Vec Ideal S128x1 .f32) = V c main_v70 := by
  funext x
  blk_point [iblk3, idx t]

/-- The array after the call, from the arrays that it is entered with. -/
theorem final (c : Dev nD) : (dat3 V c).arrAt 4 cfg3.N = cols (V c main_v69) (V c main_v56) (V c main_v59) (V c main_v70) := by
  refine (dat3 V c).arrAt_eq_of_covers 4 _ (by decide +kernel) fun t _ y => ?_
  blk_simp
  rw [after3_4, iblk_0, iblk_1, iblk_2, iblk_3]
  have e0 : ((((View.whole main_v71).slice (win3_4.rect t)).emb y 0 : Fin _) : ℕ) = (y 0 : ℕ) := by blk_simp [idx t] <;> try omega
  have e1 : ((((View.whole main_v71).slice (win3_4.rect t)).emb y 1 : Fin _) : ℕ) = (y 1 : ℕ) := by blk_simp [idx t] <;> try omega
  generalize ((View.whole main_v71).slice (win3_4.rect t)).emb y = j at e0 e1
  idx_vars y
  refine (out_at _ _ _ _ y0 y1).trans ?_
  obtain rfl : j 0 = y0 := Fin.ext e0
  obtain rfl : j 1 = y1 := Fin.ext e1
  rfl

end Cert.NA.Bias

end
-- ==== Proof.NA.Tables.lean ====
/- The bias tables: each of their tiles is two of the column biases, chosen by the row differences. -/
module

public import proofs.«01_k».proof.Proof.NA.Spec
public import proofs.«01_k».proof.Proof.Gen.KernelIdeal.Frame
public import Idealize.ShloMosaic.Lib.Pipeline.ValueKit

@[expose] public section

set_option maxRecDepth 16384

noncomputable section

namespace Cert.NA.Tables

open Idealize.ShloMosaic Idealize.ShloMosaic.TcCoe Idealize.SL.Sem Cert.KernelIdeal Cert.KernelIdeal.Gen
open Idealize.ShloMosaic.Pipeline (Dat)

/-- The row difference of key row `k` of the slab for query row `i` of table `c`, and 15 outside the window. -/
def ri (c i k : ℕ) : ℕ :=
  if rowIn ((if c = 0 then 0 else if c = 1 then 4 else 28) + i) ((if c = 2 then 20 else 0) + k)
  then min ((if c = 2 then 20 else 0) + k + 7 - ((if c = 0 then 0 else if c = 1 then 4 else 28) + i)) 15 else 15

theorem ri_lt (c i k : ℕ) : ri c i k < 16 := by
  unfold ri
  generalize (if c = 0 then 0 else if c = 1 then 4 else 28) = a
  generalize (if c = 2 then 20 else 0) = b
  split <;> omega

/-- The tables, from the column biases. -/
def tabs (X : FVec Ideal S8x16x64x64 .f32) : FVec Ideal S3x8x256x768 .f32 := fun j =>
  X (ix4 (j 1) ⟨ri (j 0 : ℕ) ((j 2 : ℕ) / 64) ((j 3 : ℕ) / 64), ri_lt _ _ _⟩ ⟨(j 2 : ℕ) % 64, by omega⟩ ⟨(j 3 : ℕ) % 64, by omega⟩)

/-- One tile: two column biases side by side. -/
def tile (a b : Vec Ideal S8x1x64x64 .f32) : FVec Ideal S1x8x64x128 .f32 := k4_pay94 a b

theorem tile_at (a b : Vec Ideal S8x1x64x64 .f32) (x : S1x8x64x128.Idx) :
    tile a b x = if h : (x 3 : ℕ) < 64 then (a (ix4 (x 1) 0 (x 2) ⟨(x 3 : ℕ), h⟩) : EReal)
      else b (ix4 (x 1) 0 (x 2) ⟨(x 3 : ℕ) - 64, by have := (x 3).isLt; change (x 3 : ℕ) < 128 at this; omega⟩) := by
  unfold tile
  pointwise [k4_pay94]
  try rfl

theorem piece (X : Vec Ideal S8x16x64x64 .f32) (c i k ka kb : ℕ) (ia ib) (x : S1x8x64x128.Idx) (j : S3x8x256x768.Idx)
    (h0 : (j 0 : ℕ) = c) (h1 : (j 1 : ℕ) = (x 1 : ℕ)) (h2 : (j 2 : ℕ) = 64 * i + (x 2 : ℕ)) (h3 : (j 3 : ℕ) = 128 * k + (x 3 : ℕ))
    (ha : ri c i (2 * k) = ka) (hb : ri c i (2 * k + 1) = kb) :
    tile (View.ld X (Rect.unit ![0, ka, 0, 0] S8x1x64x64.size ia)) (View.ld X (Rect.unit ![0, kb, 0, 0] S8x1x64x64.size ib)) x = tabs X j := by
  have hx2 : (x 2 : ℕ) < 64 := (x 2).isLt
  have hx3 : (x 3 : ℕ) < 128 := (x 3).isLt
  have ei : (j 2 : ℕ) / 64 = i := by omega
  rw [tile_at]
  unfold tabs
  split
  · rename_i h
    have ek : (j 3 : ℕ) / 64 = 2 * k := by omega
    rw [View.ld_apply]
    blk_point [h0, ei, ek, ha]
    all_goals
      rw [Rect.idx_unit_val]
      simp [h0, ei, ek, ha]
      try omega
  · rename_i h
    have ek : (j 3 : ℕ) / 64 = 2 * k + 1 := by omega
    rw [View.ld_apply]
    blk_point [h0, ei, ek, hb]
    all_goals
      rw [Rect.idx_unit_val]
      simp [h0, ei, ek, hb]
      try omega

variable (V : (c : Dev nD) → (b : Ref sig .tc) → Buf (Elt Ideal) ((c : Thread nD τ).loc b))

theorem idx : ∀ t : Fin cfg4.N, win4_0.index t = ![0, 0, 0, 0] ∧ win4_1.index t = ![0, 0, 0, 0] :=
  (by decide +kernel : ∀ t : Fin grid4.N, _)

theorem iblk_0 (c : Dev nD) (t : Fin cfg4.N) : iblk4 V c 0 t = (win4_0.blk t).view.read (Elt Ideal) (V c main_v72) := rfl

theorem blk_at (c : Dev nD) (t : Fin cfg4.N) (x0 : Fin 8) (x1 : Fin 16) (x2 x3 : Fin 64) :
    (iblk4 V c 0 t : Vec Ideal S8x16x64x64 .f32) (ix4 x0 x1 x2 x3) = V c main_v72 (ix4 x0 x1 x2 x3) := by
  rw [iblk_0]
  blk_point [idx t]

theorem blk (c : Dev nD) (t : Fin cfg4.N) : (iblk4 V c 0 t : Vec Ideal S8x16x64x64 .f32) = V c main_v72 := by
  funext x
  idx_vars x
  exact blk_at V c t _ _ _ _

set_option maxHeartbeats 20000000 in
theorem out_eq (X : Vec Ideal S8x16x64x64 .f32) (y j : S3x8x256x768.Idx) (e0 : (j 0 : ℕ) = (y 0 : ℕ)) (e1 : (j 1 : ℕ) = (y 1 : ℕ))
    (e2 : (j 2 : ℕ) = (y 2 : ℕ)) (e3 : (j 3 : ℕ) = (y 3 : ℕ)) : out4_1 X y = tabs X j := by
  unfold out4_1
  canon_tiles x h
  case piece0 => exact piece X 2 3 5 6 7 _ _ x j (by omega) (by omega) (by omega) (by omega) (by decide) (by decide)
  case piece1 => exact piece X 2 3 4 4 5 _ _ x j (by omega) (by omega) (by omega) (by omega) (by decide) (by decide)
  case piece2 => exact piece X 2 3 3 2 3 _ _ x j (by omega) (by omega) (by omega) (by omega) (by decide) (by decide)
  case piece3 => exact piece X 2 3 2 0 1 _ _ x j (by omega) (by omega) (by omega) (by omega) (by decide) (by decide)
  case piece4 => exact piece X 2 3 1 15 15 _ _ x j (by omega) (by omega) (by omega) (by omega) (by decide) (by decide)
  case piece5 => exact piece X 2 3 0 15 15 _ _ x j (by omega) (by omega) (by omega) (by omega) (by decide) (by decide)
  case piece6 => exact piece X 2 2 5 7 8 _ _ x j (by omega) (by omega) (by omega) (by omega) (by decide) (by decide)
  case piece7 => exact piece X 2 2 4 5 6 _ _ x j (by omega) (by omega) (by omega) (by omega) (by decide) (by decide)
  case piece8 => exact piece X 2 2 3 3 4 _ _ x j (by omega) (by omega) (by omega) (by omega) (by decide) (by decide)
  case piece9 => exact piece X 2 2 2 1 2 _ _ x j (by omega) (by omega) (by omega) (by omega) (by decide) (by decide)
  case piece10 => exact piece X 2 2 1 15 15 _ _ x j (by omega) (by omega) (by omega) (by omega) (by decide) (by decide)
  case piece11 => exact piece X 2 2 0 15 15 _ _ x j (by omega) (by omega) (by omega) (by omega) (by decide) (by decide)
  case piece12 => exact piece X 2 1 5 8 9 _ _ x j (by omega) (by omega) (by omega) (by omega) (by decide) (by decide)
  case piece13 => exact piece X 2 1 4 6 7 _ _ x j (by omega) (by omega) (by omega) (by omega) (by decide) (by decide)
  case piece14 => exact piece X 2 1 3 4 5 _ _ x j (by omega) (by omega) (by omega) (by omega) (by decide) (by decide)
  case piece15 => exact piece X 2 1 2 2 3 _ _ x j (by omega) (by omega) (by omega) (by omega) (by decide) (by decide)
  case piece16 => exact piece X 2 1 1 15 15 _ _ x j (by omega) (by omega) (by omega) (by omega) (by decide) (by decide)
  case piece17 => exact piece X 2 1 0 15 15 _ _ x j (by omega) (by omega) (by omega) (by omega) (by decide) (by decide)
  case piece18 => exact piece X 2 0 5 9 10 _ _ x j (by omega) (by omega) (by omega) (by omega) (by decide) (by decide)
  case piece19 => exact piece X 2 0 4 7 8 _ _ x j (by omega) (by omega) (by omega) (by omega) (by decide) (by decide)
  case piece20 => exact piece X 2 0 3 5 6 _ _ x j (by omega) (by omega) (by omega) (by omega) (by decide) (by decide)
  case piece21 => exact piece X 2 0 2 3 4 _ _ x j (by omega) (by omega) (by omega) (by omega) (by decide) (by decide)
  case piece22 => exact piece X 2 0 1 15 15 _ _ x j (by omega) (by omega) (by omega) (by omega) (by decide) (by decide)
  case piece23 => exact piece X 2 0 0 15 15 _ _ x j (by omega) (by omega) (by omega) (by omega) (by decide) (by decide)
  case piece24 => exact piece X 1 3 5 10 15 _ _ x j (by omega) (by omega) (by omega) (by omega) (by decide) (by decide)
  case piece25 => exact piece X 1 3 4 8 9 _ _ x j (by omega) (by omega) (by omega) (by omega) (by decide) (by decide)
  case piece26 => exact piece X 1 3 3 6 7 _ _ x j (by omega) (by omega) (by omega) (by omega) (by decide) (by decide)
  case piece27 => exact piece X 1 3 2 4 5 _ _ x j (by omega) (by omega) (by omega) (by omega) (by decide) (by decide)
  case piece28 => exact piece X 1 3 1 15 3 _ _ x j (by omega) (by omega) (by omega) (by omega) (by decide) (by decide)
  case piece29 => exact piece X 1 3 0 15 15 _ _ x j (by omega) (by omega) (by omega) (by omega) (by decide) (by decide)
  case piece30 => exact piece X 1 2 5 15 15 _ _ x j (by omega) (by omega) (by omega) (by omega) (by decide) (by decide)
  case piece31 => exact piece X 1 2 4 9 10 _ _ x j (by omega) (by omega) (by omega) (by omega) (by decide) (by decide)
  case piece32 => exact piece X 1 2 3 7 8 _ _ x j (by omega) (by omega) (by omega) (by omega) (by decide) (by decide)
  case piece33 => exact piece X 1 2 2 5 6 _ _ x j (by omega) (by omega) (by omega) (by omega) (by decide) (by decide)
  case piece34 => exact piece X 1 2 1 3 4 _ _ x j (by omega) (by omega) (by omega) (by omega) (by decide) (by decide)
  case piece35 => exact piece X 1 2 0 15 15 _ _ x j (by omega) (by omega) (by omega) (by omega) (by decide) (by decide)
  case piece36 => exact piece X 1 1 5 15 15 _ _ x j (by omega) (by omega) (by omega) (by omega) (by decide) (by decide)
  case piece37 => exact piece X 1 1 4 10 15 _ _ x j (by omega) (by omega) (by omega) (by omega) (by decide) (by decide)
  case piece38 => exact piece X 1 1 3 8 9 _ _ x j (by omega) (by omega) (by omega) (by omega) (by decide) (by decide)
  case piece39 => exact piece X 1 1 2 6 7 _ _ x j (by omega) (by omega) (by omega) (by omega) (by decide) (by decide)
  case piece40 => exact piece X 1 1 1 4 5 _ _ x j (by omega) (by omega) (by omega) (by omega) (by decide) (by decide)
  case piece41 => exact piece X 1 1 0 15 3 _ _ x j (by omega) (by omega) (by omega) (by omega) (by decide) (by decide)
  case piece42 => exact piece X 1 0 5 15 15 _ _ x j (by omega) (by omega) (by omega) (by omega) (by decide) (by decide)
  case piece43 => exact piece X 1 0 4 15 15 _ _ x j (by omega) (by omega) (by omega) (by omega) (by decide) (by decide)
  case piece44 => exact piece X 1 0 3 9 10 _ _ x j (by omega) (by omega) (by omega) (by omega) (by decide) (by decide)
  case piece45 => exact piece X 1 0 2 7 8 _ _ x j (by omega) (by omega) (by omega) (by omega) (by decide) (by decide)
  case piece46 => exact piece X 1 0 1 5 6 _ _ x j (by omega) (by omega) (by omega) (by omega) (by decide) (by decide)
  case piece47 => exact piece X 1 0 0 3 4 _ _ x j (by omega) (by omega) (by omega) (by omega) (by decide) (by decide)
  case piece48 => exact piece X 0 3 5 15 15 _ _ x j (by omega) (by omega) (by omega) (by omega) (by decide) (by decide)
  case piece49 => exact piece X 0 3 4 15 15 _ _ x j (by omega) (by omega) (by omega) (by omega) (by decide) (by decide)
  case piece50 => exact piece X 0 3 3 10 11 _ _ x j (by omega) (by omega) (by omega) (by omega) (by decide) (by decide)
  case piece51 => exact piece X 0 3 2 8 9 _ _ x j (by omega) (by omega) (by omega) (by omega) (by decide) (by decide)
  case piece52 => exact piece X 0 3 1 6 7 _ _ x j (by omega) (by omega) (by omega) (by omega) (by decide) (by decide)
  case piece53 => exact piece X 0 3 0 4 5 _ _ x j (by omega) (by omega) (by omega) (by omega) (by decide) (by decide)
  case piece54 => exact piece X 0 2 5 15 15 _ _ x j (by omega) (by omega) (by omega) (by omega) (by decide) (by decide)
  case piece55 => exact piece X 0 2 4 15 15 _ _ x j (by omega) (by omega) (by omega) (by omega) (by decide) (by decide)
  case piece56 => exact piece X 0 2 3 11 12 _ _ x j (by omega) (by omega) (by omega) (by omega) (by decide) (by decide)
  case piece57 => exact piece X 0 2 2 9 10 _ _ x j (by omega) (by omega) (by omega) (by omega) (by decide) (by decide)
  case piece58 => exact piece X 0 2 1 7 8 _ _ x j (by omega) (by omega) (by omega) (by omega) (by decide) (by decide)
  case piece59 => exact piece X 0 2 0 5 6 _ _ x j (by omega) (by omega) (by omega) (by omega) (by decide) (by decide)
  case piece60 => exact piece X 0 1 5 15 15 _ _ x j (by omega) (by omega) (by omega) (by omega) (by decide) (by decide)
  case piece61 => exact piece X 0 1 4 15 15 _ _ x j (by omega) (by omega) (by omega) (by omega) (by decide) (by decide)
  case piece62 => exact piece X 0 1 3 12 13 _ _ x j (by omega) (by omega) (by omega) (by omega) (by decide) (by decide)
  case piece63 => exact piece X 0 1 2 10 11 _ _ x j (by omega) (by omega) (by omega) (by omega) (by decide) (by decide)
  case piece64 => exact piece X 0 1 1 8 9 _ _ x j (by omega) (by omega) (by omega) (by omega) (by decide) (by decide)
  case piece65 => exact piece X 0 1 0 6 7 _ _ x j (by omega) (by omega) (by omega) (by omega) (by decide) (by decide)
  case piece66 => exact piece X 0 0 5 15 15 _ _ x j (by omega) (by omega) (by omega) (by omega) (by decide) (by decide)
  case piece67 => exact piece X 0 0 4 15 15 _ _ x j (by omega) (by omega) (by omega) (by omega) (by decide) (by decide)
  case piece68 => exact piece X 0 0 3 13 14 _ _ x j (by omega) (by omega) (by omega) (by omega) (by decide) (by decide)
  case piece69 => exact piece X 0 0 2 11 12 _ _ x j (by omega) (by omega) (by omega) (by omega) (by decide) (by decide)
  case piece70 => exact piece X 0 0 1 9 10 _ _ x j (by omega) (by omega) (by omega) (by omega) (by decide) (by decide)
  case piece71 => exact piece X 0 0 0 7 8 _ _ x j (by omega) (by omega) (by omega) (by omega) (by decide) (by decide)

/-- The array after the call, from the array that it is entered with. -/
theorem final (c : Dev nD) : (dat4 V c).arrAt 1 cfg4.N = tabs (V c main_v72) := by
  refine (dat4 V c).arrAt_eq_of_covers 1 _ (by decide +kernel) fun t _ y => ?_
  blk_simp
  rw [after4_1, blk]
  have e0 : ((((View.whole main_v73).slice (win4_1.rect t)).emb y 0 : Fin _) : ℕ) = (y 0 : ℕ) := by blk_simp [idx t] <;> try omega
  have e1 : ((((View.whole main_v73).slice (win4_1.rect t)).emb y 1 : Fin _) : ℕ) = (y 1 : ℕ) := by blk_simp [idx t] <;> try omega
  have e2 : ((((View.whole main_v73).slice (win4_1.rect t)).emb y 2 : Fin _) : ℕ) = (y 2 : ℕ) := by blk_simp [idx t] <;> try omega
  have e3 : ((((View.whole main_v73).slice (win4_1.rect t)).emb y 3 : Fin _) : ℕ) = (y 3 : ℕ) := by blk_simp [idx t] <;> try omega
  exact out_eq _ y _ e0 e1 e2 e3

end Cert.NA.Tables

end
-- ==== Proof.NA.Host.lean ====
/- The tables that the host prepares for the bias call: which key columns are in a query column's window, which column
   difference a pair of columns has, and the padded relative biases. -/
module

public import proofs.«01_k».proof.Proof.NA.Bias
public import proofs.«01_k».proof.Proof.NA.Tables

@[expose] public section

set_option maxRecDepth 16384

noncomputable section

namespace Cert.NA.Host

open Idealize.ShloMosaic Idealize.ShloMosaic.TcCoe Idealize.SL.Sem Cert.KernelIdeal Cert.KernelIdeal.Gen Cert.NA

variable (m : (ℓ : Loc nD τ sig) → Buf (Elt Ideal) ℓ) (ρ : Dev nD → PrngReg)

theorem q7 (c : Dev nD) : (W7 m ρ c (Proc.devRef .tc main_v18) : IVec S64 32) = (iotaInDim S64 32 0 : IVec S64 32) := by
  show StableHlo.after hostOps3 (W6 m ρ c) (Proc.devRef .tc main_v18) = _
  unfold hostOps3
  after_results
  try rfl

theorem k7 (c : Dev nD) : (W7 m ρ c (Proc.devRef .tc main_v19) : IVec S64 32) = (iotaInDim S64 32 0 : IVec S64 32) := by
  show StableHlo.after hostOps3 (W6 m ρ c) (Proc.devRef .tc main_v19) = _
  unfold hostOps3
  after_results
  try rfl

theorem d7 (c : Dev nD) : (W7 m ρ c (Proc.devRef .tc main_v21) : IVec S64 32) = subi (iotaInDim S64 32 0 : IVec S64 32) (broadcastInDim S64 ![] bcast_S_S64 (constantI S_ 32 8#32)) := by
  show StableHlo.after hostOps3 (W6 m ρ c) (Proc.devRef .tc main_v21) = _
  unfold hostOps3
  after_results
  try rfl

theorem lo7 (c : Dev nD) : (W7 m ρ c (Proc.devRef .tc main_c_2) : IVec S_ 32) = constantI S_ 32 0#32 := by
  show StableHlo.after hostOps3 (W6 m ρ c) (Proc.devRef .tc main_c_2) = _
  unfold hostOps3
  after_results
  try rfl

theorem hi7 (c : Dev nD) : (W7 m ρ c (Proc.devRef .tc main_c_3) : IVec S_ 32) = constantI S_ 32 48#32 := by
  show StableHlo.after hostOps3 (W6 m ρ c) (Proc.devRef .tc main_c_3) = _
  unfold hostOps3
  after_results
  try rfl

theorem w8 (c : Dev nD) : (W8 m ρ c (Proc.devRef .tc main_v22) : IVec S64 32) = minsi (broadcastInDim S64 ![] bcast_S_S64 (W7 m ρ c (Proc.devRef .tc main_c_3) : IVec S_ 32)) (maxsi (broadcastInDim S64 ![] bcast_S_S64 (W7 m ρ c (Proc.devRef .tc main_c_2) : IVec S_ 32)) (W7 m ρ c (Proc.devRef .tc main_v21) : IVec S64 32)) := by
  show StableHlo.after hostOps3_1 (W7 m ρ c) (Proc.devRef .tc main_v22) = _
  unfold hostOps3_1
  after_results
  try rfl

/-- The first key column of each query column's window. -/
theorem start_at (c : Dev nD) (q : Fin 64) : (W8 m ρ c (Proc.devRef .tc main_v22) : IVec S64 32) (ix1 q) = BitVec.ofNat 32 (ws q.val) := by
  rw [w8, lo7, hi7, d7]
  pointwise
  exact (by decide : ∀ q : Fin 64, IntOp.minsi 48#32 (IntOp.maxsi 0#32 (IntOp.subi (BitVec.ofNat 32 q.val) 8#32)) = BitVec.ofNat 32 (ws q.val)) q

theorem in9 (c : Dev nD) : (W9 m ρ c (Proc.devRef .tc main_v35) : IVec S64x64 1) = andi (cmpi .sge (broadcastInDim S64x64 ![0, 1] bcast_S1x64_S64x64_0_1 (broadcastInDim S1x64 ![1] bcast_S64_S1x64_1 (W8 m ρ c (Proc.devRef .tc main_v19) : IVec S64 32))) (broadcastInDim S64x64 ![0, 1] bcast_S64x1_S64x64_0_1 (broadcastInDim S64x1 ![0] bcast_S64_S64x1_0 (W8 m ρ c (Proc.devRef .tc main_v22) : IVec S64 32)))) (cmpi .slt (broadcastInDim S64x64 ![0, 1] bcast_S1x64_S64x64_0_1 (broadcastInDim S1x64 ![1] bcast_S64_S1x64_1 (W8 m ρ c (Proc.devRef .tc main_v19) : IVec S64 32))) (broadcastInDim S64x64 ![0, 1] bcast_S64x1_S64x64_0_1 (addi (broadcastInDim S64x1 ![0] bcast_S64_S64x1_0 (W8 m ρ c (Proc.devRef .tc main_v22) : IVec S64 32)) (broadcastInDim S64x1 ![] bcast_S_S64x1 (constantI S_ 32 16#32))))) := by
  show StableHlo.after hostOps3_2 (W8 m ρ c) (Proc.devRef .tc main_v35) = _
  unfold hostOps3_2
  after_results
  try rfl

theorem diff9 (c : Dev nD) : (W9 m ρ c (Proc.devRef .tc main_v44) : IVec S64x64 32) = subi (addi (subi (broadcastInDim S64x64 ![0, 1] bcast_S1x64_S64x64_0_1 (broadcastInDim S1x64 ![1] bcast_S64_S1x64_1 (W8 m ρ c (Proc.devRef .tc main_v19) : IVec S64 32))) (broadcastInDim S64x64 ![0, 1] bcast_S64x1_S64x64_0_1 (broadcastInDim S64x1 ![0] bcast_S64_S64x1_0 (W8 m ρ c (Proc.devRef .tc main_v18) : IVec S64 32)))) (broadcastInDim S64x64 ![] bcast_S_S64x64 (constantI S_ 32 16#32))) (broadcastInDim S64x64 ![] bcast_S_S64x64 (constantI S_ 32 1#32)) := by
  show StableHlo.after hostOps3_2 (W8 m ρ c) (Proc.devRef .tc main_v44) = _
  unfold hostOps3_2
  after_results
  try rfl

theorem lo9 (c : Dev nD) : (W9 m ρ c (Proc.devRef .tc main_c_7) : IVec S_ 32) = constantI S_ 32 0#32 := by
  show StableHlo.after hostOps3_2 (W8 m ρ c) (Proc.devRef .tc main_c_7) = _
  unfold hostOps3_2
  after_results
  try rfl

theorem hi9 (c : Dev nD) : (W9 m ρ c (Proc.devRef .tc main_c_8) : IVec S_ 32) = constantI S_ 32 30#32 := by
  show StableHlo.after hostOps3_2 (W8 m ρ c) (Proc.devRef .tc main_c_8) = _
  unfold hostOps3_2
  after_results
  try rfl

theorem k8 (c : Dev nD) : (W8 m ρ c (Proc.devRef .tc main_v19) : IVec S64 32) = iotaInDim S64 32 0 :=
  (W8_of m ρ c main_v19 (by decide)).trans (k7 m ρ c)

theorem q8 (c : Dev nD) : (W8 m ρ c (Proc.devRef .tc main_v18) : IVec S64 32) = iotaInDim S64 32 0 :=
  (W8_of m ρ c main_v18 (by decide)).trans (q7 m ρ c)

/-- The pairs of columns that are in a window. -/
theorem in_at (c : Dev nD) (q k : Fin 64) : (W9 m ρ c (Proc.devRef .tc main_v35) : IVec S64x64 1) (ix2 q k) = if colIn q.val k.val then 1#1 else 0#1 := by
  rw [in9, k8]
  have hw := start_at m ρ c q
  generalize (W8 m ρ c (Proc.devRef .tc main_v22) : IVec S64 32) = v at hw ⊢
  pointwise
  rw [hw]
  exact (by decide +kernel : ∀ q k : Fin 64, IntOp.andi (IntOp.cmpi .sge (BitVec.ofNat 32 k.val) (BitVec.ofNat 32 (ws q.val)))
    (IntOp.cmpi .slt (BitVec.ofNat 32 k.val) (IntOp.addi (BitVec.ofNat 32 (ws q.val)) 16#32)) = if colIn q.val k.val then 1#1 else 0#1) q k

theorem diff10 (c : Dev nD) : (W10 m ρ c (Proc.devRef .tc main_v45) : IVec S64x64 32) = minsi (broadcastInDim S64x64 ![] bcast_S_S64x64 (W9 m ρ c (Proc.devRef .tc main_c_8) : IVec S_ 32)) (maxsi (broadcastInDim S64x64 ![] bcast_S_S64x64 (W9 m ρ c (Proc.devRef .tc main_c_7) : IVec S_ 32)) (W9 m ρ c (Proc.devRef .tc main_v44) : IVec S64x64 32)) := by
  show StableHlo.after hostOps3_3 (W9 m ρ c) (Proc.devRef .tc main_v45) = _
  unfold hostOps3_3
  after_results
  try rfl

/-- The clipped column difference of a pair of columns. -/
theorem diff_at (c : Dev nD) (q k : Fin 64) : (W10 m ρ c (Proc.devRef .tc main_v45) : IVec S64x64 32) (ix2 q k) = BitVec.ofNat 32 (dc q.val k.val).val := by
  rw [diff10, lo9, hi9, diff9, k8, q8]
  pointwise
  exact (by decide +kernel : ∀ q k : Fin 64, IntOp.minsi 30#32 (IntOp.maxsi 0#32 (IntOp.subi (IntOp.addi (IntOp.subi (BitVec.ofNat 32 k.val) (BitVec.ofNat 32 q.val)) 16#32) 1#32)) = BitVec.ofNat 32 (dc q.val k.val).val) q k

theorem in10 (c : Dev nD) : (W10 m ρ c (Proc.devRef .tc main_v35) : IVec S64x64 1) = (W9 m ρ c (Proc.devRef .tc main_v35) : IVec S64x64 1) :=
  W10_of m ρ c main_v35 (by decide)

theorem sel11 (c : Dev nD) : (W11 m ρ c (Proc.devRef .tc main_v56) : FVec Ideal S31x4096 .f32) = shapeCast S31x4096 (uitofp (F := Ideal) .f32 (andi (cmpi .eq (broadcastInDim S31x64x64 ![0, 1, 2] bcast_S1x64x64_S31x64x64_0_1_2 (broadcastInDim S1x64x64 ![1, 2] bcast_S64x64_S1x64x64_1_2 (W10 m ρ c (Proc.devRef .tc main_v45) : IVec S64x64 32))) (broadcastInDim S31x64x64 ![0, 1, 2] bcast_S31x1x1_S31x64x64_0_1_2 (broadcastInDim S31x1x1 ![0] bcast_S31_S31x1x1_0 (iotaInDim S31 32 0 : IVec S31 32)))) (broadcastInDim S31x64x64 ![0, 1, 2] bcast_S1x64x64_S31x64x64_0_1_2 (broadcastInDim S1x64x64 ![1, 2] bcast_S64x64_S1x64x64_1_2 (W10 m ρ c (Proc.devRef .tc main_v35) : IVec S64x64 1))))) shapeCasts_S31x64x64_S31x4096 := by
  show StableHlo.after hostOps3_4 (W10 m ρ c) (Proc.devRef .tc main_v56) = _
  unfold hostOps3_4
  after_results
  try rfl

theorem eq_ofNat (a b : Fin 31) : IntOp.cmpi .eq (BitVec.ofNat 32 a.val) (BitVec.ofNat 32 b.val) = if b = a then 1#1 else 0#1 :=
  (by decide +kernel : ∀ a b : Fin 31, IntOp.cmpi .eq (BitVec.ofNat 32 a.val) (BitVec.ofNat 32 b.val) = if b = a then 1#1 else 0#1) a b

theorem uit0 : (FloatOps.uitofp (F := Ideal) .f32 (0#1 : BitVec 1) : EReal) = 0 := by
  simp [FloatOps.uitofp]

theorem uit1 : (FloatOps.uitofp (F := Ideal) .f32 (1#1 : BitVec 1) : EReal) = 1 := by
  simp [FloatOps.uitofp]

/-- The choice of the column difference. -/
theorem sel_at (c : Dev nD) (i : Fin 31) (n : Fin 4096) : (W11 m ρ c (Proc.devRef .tc main_v56) : FVec Ideal S31x4096 .f32) (ix2 i n)
    = if colIn (n.val / 64) (n.val % 64) ∧ i = dc (n.val / 64) (n.val % 64) then (1 : EReal) else (0 : EReal) := by
  rw [sel11, in10]
  have hd := diff_at m ρ c ⟨n.val / 64, by omega⟩ ⟨n.val % 64, by omega⟩
  have hi := in_at m ρ c ⟨n.val / 64, by omega⟩ ⟨n.val % 64, by omega⟩
  generalize (W10 m ρ c (Proc.devRef .tc main_v45) : IVec S64x64 32) = v at hd ⊢
  generalize (W9 m ρ c (Proc.devRef .tc main_v35) : IVec S64x64 1) = w at hi ⊢
  pointwise
  rw [hd, hi, eq_ofNat]
  by_cases h1 : colIn (n.val / 64) (n.val % 64) <;> by_cases h2 : i = dc (n.val / 64) (n.val % 64) <;> simp [h1, h2, IntOp.andi, uit0, uit1]

theorem one11 (c : Dev nD) : (W11 m ρ c (Proc.devRef .tc main_cst_10) : FVec Ideal S_ .f32) = constant (F := Ideal) S_ .f32 0x3F800000#32 := by
  show StableHlo.after hostOps3_4 (W10 m ρ c) (Proc.devRef .tc main_cst_10) = _
  unfold hostOps3_4
  after_results
  try rfl

theorem zero11 (c : Dev nD) : (W11 m ρ c (Proc.devRef .tc main_cst_9) : FVec Ideal S_ .f32) = constant (F := Ideal) S_ .f32 0x00000000#32 := by
  show StableHlo.after hostOps3_4 (W10 m ρ c) (Proc.devRef .tc main_cst_9) = _
  unfold hostOps3_4
  after_results
  try rfl

theorem m12 (c : Dev nD) : (W12 m ρ c (Proc.devRef .tc main_v57) : FVec Ideal S64x64 .f32) = select (W11 m ρ c (Proc.devRef .tc main_v35) : IVec S64x64 1) (broadcastInDim S64x64 ![] bcast_S_S64x64 (W11 m ρ c (Proc.devRef .tc main_cst_9) : FVec Ideal S_ .f32)) (broadcastInDim S64x64 ![] bcast_S_S64x64 (W11 m ρ c (Proc.devRef .tc main_cst_10) : FVec Ideal S_ .f32)) := by
  show StableHlo.after hostOps3_5 (W11 m ρ c) (Proc.devRef .tc main_v57) = _
  unfold hostOps3_5
  after_results
  try rfl

theorem m13 (c : Dev nD) : (W13 m ρ c (Proc.devRef .tc main_v59) : FVec Ideal S1x4096 .f32) = shapeCast S1x4096 (W12 m ρ c (Proc.devRef .tc main_v57) : FVec Ideal S64x64 .f32) shapeCasts_S64x64_S1x4096 := by
  show StableHlo.after hostOps3_6 (W12 m ρ c) (Proc.devRef .tc main_v59) = _
  unfold hostOps3_6
  after_results
  try rfl

theorem last13 (c : Dev nD) : (W13 m ρ c (Proc.devRef .tc main_v62) : IVec S16 1) = cmpi .eq (iotaInDim S16 32 0 : IVec S16 32) (broadcastInDim S16 ![] bcast_S_S16 (constantI S_ 32 15#32)) := by
  show StableHlo.after hostOps3_6 (W12 m ρ c) (Proc.devRef .tc main_v62) = _
  unfold hostOps3_6
  after_results
  try rfl

theorem one13 (c : Dev nD) : (W13 m ρ c (Proc.devRef .tc main_cst_12) : FVec Ideal S_ .f32) = constant (F := Ideal) S_ .f32 0x3F800000#32 := by
  show StableHlo.after hostOps3_6 (W12 m ρ c) (Proc.devRef .tc main_cst_12) = _
  unfold hostOps3_6
  after_results
  try rfl

theorem zero13 (c : Dev nD) : (W13 m ρ c (Proc.devRef .tc main_cst_13) : FVec Ideal S_ .f32) = constant (F := Ideal) S_ .f32 0x00000000#32 := by
  show StableHlo.after hostOps3_6 (W12 m ρ c) (Proc.devRef .tc main_cst_13) = _
  unfold hostOps3_6
  after_results
  try rfl

theorem r14 (c : Dev nD) : (W14 m ρ c (Proc.devRef .tc main_v63) : FVec Ideal S16 .f32) = select (W13 m ρ c (Proc.devRef .tc main_v62) : IVec S16 1) (broadcastInDim S16 ![] bcast_S_S16 (W13 m ρ c (Proc.devRef .tc main_cst_12) : FVec Ideal S_ .f32)) (broadcastInDim S16 ![] bcast_S_S16 (W13 m ρ c (Proc.devRef .tc main_cst_13) : FVec Ideal S_ .f32)) := by
  show StableHlo.after hostOps3_7 (W13 m ρ c) (Proc.devRef .tc main_v63) = _
  unfold hostOps3_7
  after_results
  try rfl

theorem r15 (c : Dev nD) : (W15 m ρ c (Proc.devRef .tc main_v67) : FVec Ideal S128 .f32) = shapeCast S128 (broadcastInDim S8x16 ![0, 1] bcast_S1x16_S8x16_0_1 (shapeCast S1x16 (W14 m ρ c (Proc.devRef .tc main_v63) : FVec Ideal S16 .f32) shapeCasts_S16_S1x16)) shapeCasts_S8x16_S128 := by
  show StableHlo.after hostOps3_8 (W14 m ρ c) (Proc.devRef .tc main_v67) = _
  unfold hostOps3_8
  after_results
  try rfl

theorem c15 (c : Dev nD) : (W15 m ρ c (Proc.devRef .tc main_c_14) : IVec S_ 32) = constantI S_ 32 0#32 := by
  show StableHlo.after hostOps3_8 (W14 m ρ c) (Proc.devRef .tc main_c_14) = _
  unfold hostOps3_8
  after_results
  try rfl

theorem p16 (c : Dev nD) : (W16 m ρ c (Proc.devRef .tc main_v68) : FVec Ideal S8x16x31 .f32) = pad S8x16x31 ![0, 0, 0] ![0, 1, 0] ![0, 0, 0] (W15 m ρ c (Proc.devRef .tc main_arg11) : FVec Ideal S8x15x31 .f32) (sitofp (F := Ideal) .f32 (W15 m ρ c (Proc.devRef .tc main_c_14) : IVec S_ 32)) pads_S8x15x31_S8x16x31_000_010_000 h_S_ := by
  show StableHlo.after hostOps3_9 (W15 m ρ c) (Proc.devRef .tc main_v68) = _
  unfold hostOps3_9
  after_results
  try rfl

theorem p17 (c : Dev nD) : (W17 m ρ c (Proc.devRef .tc main_v69) : FVec Ideal S128x31 .f32) = shapeCast S128x31 (W16 m ρ c (Proc.devRef .tc main_v68) : FVec Ideal S8x16x31 .f32) shapeCasts_S8x16x31_S128x31 := by
  show StableHlo.after hostOps3_10 (W16 m ρ c) (Proc.devRef .tc main_v69) = _
  unfold hostOps3_10
  after_results
  try rfl

theorem r17 (c : Dev nD) : (W17 m ρ c (Proc.devRef .tc main_v70) : FVec Ideal S128x1 .f32) = shapeCast S128x1 (W16 m ρ c (Proc.devRef .tc main_v67) : FVec Ideal S128 .f32) shapeCasts_S128_S128x1 := by
  show StableHlo.after hostOps3_10 (W16 m ρ c) (Proc.devRef .tc main_v70) = _
  unfold hostOps3_10
  after_results
  try rfl

theorem mask_at (c : Dev nD) (n : Fin 4096) : (W13 m ρ c (Proc.devRef .tc main_v59) : FVec Ideal S1x4096 .f32) (ix2 0 n) = if colIn (n.val / 64) (n.val % 64) then (0 : EReal) else (1 : EReal) := by
  have e : (W11 m ρ c (Proc.devRef .tc main_v35) : IVec S64x64 1) = (W9 m ρ c (Proc.devRef .tc main_v35) : IVec S64x64 1) :=
    (W11_of m ρ c main_v35 (by decide)).trans (in10 m ρ c)
  rw [m13, m12, e, one11, zero11]
  have hi := in_at m ρ c ⟨n.val / 64, by omega⟩ ⟨n.val % 64, by omega⟩
  generalize (W9 m ρ c (Proc.devRef .tc main_v35) : IVec S64x64 1) = w at hi ⊢
  pointwise
  rw [hi]
  by_cases h1 : colIn (n.val / 64) (n.val % 64) <;> simp [h1, Scalar.select] <;> try rfl

theorem last_at (c : Dev nD) (q : Fin 128) : (W17 m ρ c (Proc.devRef .tc main_v70) : FVec Ideal S128x1 .f32) (ix2 q 0) = if q.val % 16 = 15 then (1 : EReal) else (0 : EReal) := by
  have e : (W16 m ρ c (Proc.devRef .tc main_v67) : FVec Ideal S128 .f32) = (W15 m ρ c (Proc.devRef .tc main_v67) : FVec Ideal S128 .f32) :=
    W16_of m ρ c main_v67 (by decide)
  rw [r17, e, r15, r14, last13, one13, zero13]
  pointwise
  rw [(by decide : ∀ r : Fin 16, IntOp.cmpi .eq (BitVec.ofNat 32 r.val) 15#32 = if r.val = 15 then 1#1 else 0#1) ⟨q.val % 16, by omega⟩]
  by_cases h : q.val % 16 = 15 <;> simp [h, Scalar.select]

theorem rel_at (c : Dev nD) (q : Fin 128) (i : Fin 31) : (W17 m ρ c (Proc.devRef .tc main_v69) : FVec Ideal S128x31 .f32) (ix2 q i)
    = if h : q.val % 16 < 15 then (m ((c : Thread nD τ).loc main_arg11) : FVec Ideal S8x15x31 .f32) (ix3 ⟨q.val / 16, by omega⟩ ⟨q.val % 16, h⟩ i) else (0 : EReal) := by
  have e : (W15 m ρ c (Proc.devRef .tc main_arg11) : FVec Ideal S8x15x31 .f32) = m ((c : Thread nD τ).loc main_arg11) := W15_args m ρ c main_arg11 (by decide)
  rw [p17, p16, e, c15]
  pointwise
  by_cases h : q.val % 16 < 15
  · rw [dif_pos h]
    refine (dif_pos fun a => ?_).trans rfl
    match a with
    | ⟨0, _⟩ => exact ⟨Nat.zero_le _, Nat.mod_one _, by show (q.val / 16 - 0) / (0 + 1) < 8; omega⟩
    | ⟨1, _⟩ => exact ⟨Nat.zero_le _, Nat.mod_one _, by show (q.val % 16 - 0) / (0 + 1) < 15; omega⟩
    | ⟨2, _⟩ => exact ⟨Nat.zero_le _, Nat.mod_one _, by show (i.val - 0) / (0 + 1) < 31; omega⟩
  · rw [dif_neg h]
    refine (dif_neg fun hin => ?_).trans ?_
    · have h1 := (hin ⟨1, by decide⟩).2.2
      change (q.val % 16 - 0) / (0 + 1) < 15 at h1
      omega
    · simp [FloatOps.sitofp]

theorem sel17 (c : Dev nD) : (W17 m ρ c (Proc.devRef .tc main_v56) : FVec Ideal S31x4096 .f32) = (W11 m ρ c (Proc.devRef .tc main_v56) : FVec Ideal S31x4096 .f32) :=
  (W17_of m ρ c main_v56 (by decide)).trans ((W16_of m ρ c main_v56 (by decide)).trans ((W15_of m ρ c main_v56 (by decide)).trans
    ((W14_of m ρ c main_v56 (by decide)).trans ((W13_of m ρ c main_v56 (by decide)).trans (W12_of m ρ c main_v56 (by decide))))))

theorem mask17 (c : Dev nD) : (W17 m ρ c (Proc.devRef .tc main_v59) : FVec Ideal S1x4096 .f32) = (W13 m ρ c (Proc.devRef .tc main_v59) : FVec Ideal S1x4096 .f32) :=
  (W17_of m ρ c main_v59 (by decide)).trans ((W16_of m ρ c main_v59 (by decide)).trans ((W15_of m ρ c main_v59 (by decide)).trans
    (W14_of m ρ c main_v59 (by decide))))

/-- The column biases that the bias call leaves. -/
theorem cols_eq (c : Dev nD) (q : Fin 128) (n : Fin 4096) : (W18 m ρ c (Proc.devRef .tc main_v71) : FVec Ideal S128x4096 .f32) (ix2 q n)
    = if h : q.val % 16 < 15 ∧ colIn (n.val / 64) (n.val % 64)
      then l2e * (m ((c : Thread nD τ).loc main_arg11) : FVec Ideal S8x15x31 .f32) (ix3 ⟨q.val / 16, by omega⟩ ⟨q.val % 16, h.1⟩ (dc (n.val / 64) (n.val % 64))) else ⊥ := by
  have h : (W18 m ρ c (Proc.devRef .tc main_v71) : FVec Ideal S128x4096 .f32)
      = Bias.cols (V17 m ρ c main_v69) (V17 m ρ c main_v56) (V17 m ρ c main_v59) (V17 m ρ c main_v70) :=
    (W18_arr m ρ c 4).trans (Bias.final (V17 m ρ) c)
  rw [h]
  exact Bias.cols_at _ _ _ _ _ (rel_at m ρ c) (fun i n => (congrFun (sel17 m ρ c) _).trans (sel_at m ρ c i n))
    (fun n => (congrFun (mask17 m ρ c) _).trans (mask_at m ρ c n)) (last_at m ρ c) q n

theorem row_diff : ∀ (s : Fin 8) (i : Fin 4) (k : Fin 12), Tables.ri (cfg s.val) i.val k.val
    = if rowIn (s.val * 4 + i.val) (start s.val + k.val) then (dr (s.val * 4 + i.val) (start s.val + k.val)).val else 15 := by
  decide +kernel

theorem row_of (X : FVec Ideal S128x4096 .f32) (h : Fin 8) (w : Fin 16) (a b : Fin 64) :
    shapeCast S8x16x64x64 X shapeCasts_S128x4096_S8x16x64x64 (ix4 h w a b) = X (ix2 ⟨h.val * 16 + w.val, by omega⟩ ⟨a.val * 64 + b.val, by omega⟩) := by
  pointwise

/-- The bias tables hold the scaled biases of each block's slab. -/
theorem tables (c : Dev nD) (s h : Fin 8) (r : Fin 256) (k : Fin 768) :
    (V20 m ρ c main_v73 : FVec Ideal S3x8x256x768 .f32) (ix4 ⟨cfg s.val, by unfold cfg; omega⟩ h r k) = biasVal (m ((c : Thread nD τ).loc main_arg11)) s h r k := by
  have e : (V20 m ρ c main_v73 : FVec Ideal S3x8x256x768 .f32) = Tables.tabs (V19 m ρ c main_v72) :=
    (W20_arr m ρ c 1).trans (Tables.final (V19 m ρ) c)
  have e2 : (V19 m ρ c main_v72 : FVec Ideal S8x16x64x64 .f32) = shapeCast S8x16x64x64 (W18 m ρ c (Proc.devRef .tc main_v71) : FVec Ideal S128x4096 .f32) shapeCasts_S128x4096_S8x16x64x64 := by
    show StableHlo.after hostOps4 (W18 m ρ c) (Proc.devRef .tc main_v72) = _
    unfold hostOps4
    after_results
    try rfl
  have hd := row_diff s ⟨r.val / 64, by omega⟩ ⟨k.val / 64, by omega⟩
  dsimp only at hd
  have hlt := Tables.ri_lt (cfg s.val) (r.val / 64) (k.val / 64)
  have hc := cols_eq m ρ c ⟨h.val * 16 + Tables.ri (cfg s.val) (r.val / 64) (k.val / 64), by omega⟩ ⟨r.val % 64 * 64 + k.val % 64, by omega⟩
  rw [e, e2]
  generalize (W18 m ρ c (Proc.devRef .tc main_v71) : FVec Ideal S128x4096 .f32) = X at hc ⊢
  show shapeCast S8x16x64x64 X shapeCasts_S128x4096_S8x16x64x64 (ix4 h ⟨Tables.ri (cfg s.val) (r.val / 64) (k.val / 64), hlt⟩ ⟨r.val % 64, by omega⟩ ⟨k.val % 64, by omega⟩) = _
  have hx := row_of X h ⟨Tables.ri (cfg s.val) (r.val / 64) (k.val / 64), hlt⟩ ⟨r.val % 64, by omega⟩ ⟨k.val % 64, by omega⟩
  refine hx.trans (Eq.trans (b := X (ix2 ⟨h.val * 16 + Tables.ri (cfg s.val) (r.val / 64) (k.val / 64), by omega⟩ ⟨r.val % 64 * 64 + k.val % 64, by omega⟩)) rfl ?_)
  rw [hc]
  have a1 : (r.val % 64 * 64 + k.val % 64) / 64 = r.val % 64 := by omega
  have a2 : (r.val % 64 * 64 + k.val % 64) % 64 = k.val % 64 := by omega
  have a3 : (h.val * 16 + Tables.ri (cfg s.val) (r.val / 64) (k.val / 64)) % 16 = Tables.ri (cfg s.val) (r.val / 64) (k.val / 64) := by omega
  have a4 : (⟨(h.val * 16 + Tables.ri (cfg s.val) (r.val / 64) (k.val / 64)) / 16, by omega⟩ : Fin 8) = h := Fin.ext (by show (h.val * 16 + _) / 16 = h.val; omega)
  simp only [a1, a2, a4]
  unfold biasVal
  by_cases hr : rowIn (s.val * 4 + r.val / 64) (start s.val + k.val / 64)
  · rw [if_pos hr] at hd
    have hlt15 : (h.val * 16 + Tables.ri (cfg s.val) (r.val / 64) (k.val / 64)) % 16 < 15 := by
      rw [a3, hd]
      exact (dr _ _).isLt
    have a5 : (⟨(h.val * 16 + Tables.ri (cfg s.val) (r.val / 64) (k.val / 64)) % 16, hlt15⟩ : Fin 15) = dr (s.val * 4 + r.val / 64) (start s.val + k.val / 64) :=
      Fin.ext (by show (h.val * 16 + _) % 16 = _; rw [a3, hd])
    by_cases hcol : colIn (r.val % 64) (k.val % 64)
    · rw [dif_pos ⟨hlt15, hcol⟩, if_pos ⟨hr, hcol⟩, a5]
    · rw [dif_neg (fun h => hcol h.2), if_neg (fun h => hcol h.2)]
  · rw [if_neg hr] at hd
    rw [dif_neg (fun h => by have := h.1; rw [a3, hd] at this; omega), if_neg (fun h => hr h.1)]

end Cert.NA.Host

end
-- ==== Proof.Combine.Spec.lean ====
/- What a token gets back from the experts, as sums over the extended reals, and the normalised residual. -/
module

public import proofs.«01_k».proof.KernelIdeal
public import Idealize.ShloMosaic.Lib.Pointwise

@[expose] public section

set_option maxRecDepth 16384

noncomputable section

namespace Cert.Combine

open Idealize.ShloMosaic Idealize.SL.Sem Cert.KernelIdeal

/-- The column of the rank and gate tables that expert `e` has. -/
def lane (e : Fin 16) : Fin 128 := ⟨e.val, by omega⟩

/-- Feature `k` of what token `t` of sample `b` gets back: each expert's output at the slot the token holds there, times
    the expert's gate. -/
def back (R : IVec S32x2048x128 32) (G : FVec Ideal S32x2048x128 .f32) (Y : FVec Ideal S32x16x256x1024 .bf16)
    (b : Fin 32) (t : Fin 2048) (k : Fin 1024) : EReal :=
  ∑ e : Fin 16, ∑ s : Fin 256, (if R (ix3 b t (lane e)) = BitVec.ofNat 32 s.val then (G (ix3 b t (lane e)) : EReal) else 0) * Y (ix4 b e s k)

/-- The residual with the experts' part, scaled by the sixth modulation row. -/
def resid (R : IVec S32x2048x128 32) (G : FVec Ideal S32x2048x128 .f32) (Y : FVec Ideal S32x16x256x1024 .bf16)
    (X : FVec Ideal S32x2048x1024 .f32) (M : FVec Ideal S40x6x1024 .f32) (b : Fin 32) (t : Fin 2048) (k : Fin 1024) : EReal :=
  X (ix3 b t k) + M (ix3 ⟨b.val, by omega⟩ 5 k) * back R G Y b t k

/-- A row divided by its root mean square, times a weight. -/
def rms (x : Fin 1024 → EReal) (g : EReal) (k : Fin 1024) : EReal :=
  x k * Ideal.rsqrt (Ideal.div (∑ j : Fin 1024, x j * x j) (Ideal.ofBits .f32 0x44800000#32) + Ideal.ofBits .f32 0x358637BD#32) * g

/-- The whole result. -/
def outArr (R : IVec S32x2048x128 32) (G : FVec Ideal S32x2048x128 .f32) (Y : FVec Ideal S32x16x256x1024 .bf16)
    (X : FVec Ideal S32x2048x1024 .f32) (M : FVec Ideal S40x6x1024 .f32) (N : FVec Ideal S1024 .f32) : FVec Ideal S32x2048x1024 .f32 :=
  fun j => rms (resid R G Y X M (j 0) (j 1)) (N (ix1 (j 2))) (j 2)

end Cert.Combine

end
-- ==== Proof.Layer.Spec.lean ====
/- The modulation, the combined input projection and the merge of the branches, as sums over the extended reals. -/
module

public import proofs.«01_k».proof.Proof.Combine.Spec

@[expose] public section

set_option maxRecDepth 16384

noncomputable section

namespace Cert.Layer

open Idealize.ShloMosaic Idealize.SL.Sem Cert.KernelIdeal

/-- Entry `n` of the modulation of a conditioning row: the map applied to the row's swish. -/
def modVal (r : Fin 1024 → EReal) (W : FVec Ideal S1024x6144 .f32) (b : EReal) (n : Fin 6144) : EReal :=
  (∑ d : Fin 1024, r d * Ideal.logistic (r d) * W (ix2 d n)) + b

/-- A row divided by its root mean square, times a weight, then scaled and shifted. -/
def norm (x g sh sc : Fin 1024 → EReal) (k : Fin 1024) : EReal :=
  Cert.Combine.rms x (g k) k * (Ideal.ofBits .f32 0x3F800000#32 + sc k) + sh k

/-- One entry of an affine map of a row. -/
def affine (x w : Fin 1024 → EReal) (b : EReal) : EReal := (∑ d : Fin 1024, x d * w d) + b

/-- A row plus the gated branches of its token, mapped and scaled. -/
def mix (hy na : Fin 512 → EReal) (gh gn x g : Fin 1024 → EReal) (WH WN : FVec Ideal S512x1024 .bf16) (WO : FVec Ideal S1024x1024 .bf16)
    (k : Fin 1024) : EReal :=
  x k + g k * ∑ d : Fin 1024, (Ideal.logistic (gh d) * (∑ e : Fin 512, hy e * WH (ix2 e d)) + Ideal.logistic (gn d) * ∑ e : Fin 512, na e * WN (ix2 e d)) * WO (ix2 d k)

/-- The modulation table. -/
def modArr (C : FVec Ideal S40x1024 .f32) (W : FVec Ideal S1024x6144 .f32) (B : FVec Ideal S1x6144 .f32) : FVec Ideal S40x6144 .f32 :=
  fun j => modVal (fun d => C (ix2 (j 0) d)) W (B (ix2 0 (j 1))) (j 1)

/-- The projection of the latent tokens, each sample with its own modulation row. -/
def zxArr (X : FVec Ideal S32x2048x1024 .f32) (M : FVec Ideal S40x6x1024 .f32) (G : FVec Ideal S1x1024 .f32) (W : FVec Ideal S1024x5120 .bf16)
    (B : FVec Ideal S1x5120 .f32) : FVec Ideal S32x2048x5120 .bf16 :=
  fun j => affine (norm (fun d => X (ix3 (j 0) (j 1) d)) (fun d => G (ix2 0 d)) (fun d => M (ix3 ⟨(j 0 : ℕ), by have := (j 0).isLt; change (j 0 : ℕ) < 32 at this; omega⟩ 0 d))
    (fun d => M (ix3 ⟨(j 0 : ℕ), by have := (j 0).isLt; change (j 0 : ℕ) < 32 at this; omega⟩ 1 d))) (fun d => W (ix2 d (j 2))) (B (ix2 0 (j 2)))

/-- The projection of the context tokens, all with one modulation row. -/
def kvArr (X : FVec Ideal S1x8192x1024 .f32) (M : FVec Ideal S40x6x1024 .f32) (G : FVec Ideal S1x1024 .f32) (W : FVec Ideal S1024x1024 .bf16)
    (B : FVec Ideal S1x1024 .f32) : FVec Ideal S1x8192x1024 .bf16 :=
  fun j => affine (norm (fun d => X (ix3 0 (j 1) d)) (fun d => G (ix2 0 d)) (fun d => M (ix3 32 0 d)) (fun d => M (ix3 32 1 d))) (fun d => W (ix2 d (j 2))) (B (ix2 0 (j 2)))

/-- Token `r` of sample `b` with its branches merged in. -/
def mixRow (H N : FVec Ideal S32x2048x512 .bf16) (Z : FVec Ideal S32x2048x5120 .bf16) (X : FVec Ideal S32x2048x1024 .f32) (M : FVec Ideal S40x6x1024 .f32)
    (WH WN : FVec Ideal S512x1024 .bf16) (WO : FVec Ideal S1024x1024 .bf16) (b : Fin 32) (r : Fin 2048) : Fin 1024 → EReal :=
  mix (fun e => H (ix3 b r e)) (fun e => N (ix3 b r e)) (fun d => Z (ix3 b r ⟨3072 + d.val, by omega⟩)) (fun d => Z (ix3 b r ⟨4096 + d.val, by omega⟩))
    (fun d => X (ix3 b r d)) (fun d => M (ix3 ⟨b.val, by omega⟩ 2 d)) WH WN WO

/-- The same row normalised and modulated by the second pair. -/
def normRow (H N : FVec Ideal S32x2048x512 .bf16) (Z : FVec Ideal S32x2048x5120 .bf16) (X : FVec Ideal S32x2048x1024 .f32) (M : FVec Ideal S40x6x1024 .f32)
    (G : FVec Ideal S1x1024 .f32) (WH WN : FVec Ideal S512x1024 .bf16) (WO : FVec Ideal S1024x1024 .bf16) (b : Fin 32) (r : Fin 2048) : Fin 1024 → EReal :=
  norm (mixRow H N Z X M WH WN WO b r) (fun d => G (ix2 0 d)) (fun d => M (ix3 ⟨b.val, by omega⟩ 3 d)) (fun d => M (ix3 ⟨b.val, by omega⟩ 4 d))

/-- The three arrays the merge leaves: the residual, its normalised rows, and the router's logits with the experts first. -/
def x1Arr (H N : FVec Ideal S32x2048x512 .bf16) (Z : FVec Ideal S32x2048x5120 .bf16) (X : FVec Ideal S32x2048x1024 .f32) (M : FVec Ideal S40x6x1024 .f32)
    (WH WN : FVec Ideal S512x1024 .bf16) (WO : FVec Ideal S1024x1024 .bf16) : FVec Ideal S32x2048x1024 .f32 :=
  fun j => mixRow H N Z X M WH WN WO (j 0) (j 1) (j 2)

def h2Arr (H N : FVec Ideal S32x2048x512 .bf16) (Z : FVec Ideal S32x2048x5120 .bf16) (X : FVec Ideal S32x2048x1024 .f32) (M : FVec Ideal S40x6x1024 .f32)
    (G : FVec Ideal S1x1024 .f32) (WH WN : FVec Ideal S512x1024 .bf16) (WO : FVec Ideal S1024x1024 .bf16) : FVec Ideal S32x2048x1024 .bf16 :=
  fun j => normRow H N Z X M G WH WN WO (j 0) (j 1) (j 2)

def logitArr (H N : FVec Ideal S32x2048x512 .bf16) (Z : FVec Ideal S32x2048x5120 .bf16) (X : FVec Ideal S32x2048x1024 .f32) (M : FVec Ideal S40x6x1024 .f32)
    (G : FVec Ideal S1x1024 .f32) (WH WN : FVec Ideal S512x1024 .bf16) (WO : FVec Ideal S1024x1024 .bf16) (WR : FVec Ideal S16x1024 .f32) :
    FVec Ideal S32x16x2048 .f32 :=
  fun j => ∑ d : Fin 1024, WR (ix2 (j 1) d) * normRow H N Z X M G WH WN WO (j 0) (j 2) d

end Cert.Layer

end
-- ==== Proof.Experts.Spec.lean ====
/- What the expert feed-forward computes, as sums over the extended reals: the row that a slot receives from the tokens
   ranked to it, and the gated feed-forward of that row with its expert's weights. -/
module

public import proofs.«01_k».proof.KernelIdeal
public import Idealize.ShloMosaic.Lib.Pointwise

@[expose] public section

set_option maxRecDepth 16384

noncomputable section

namespace Cert.Experts

open Idealize.ShloMosaic Idealize.SL.Sem Cert.KernelIdeal

/-- Feature `d` of what slot `s` of expert `e` receives in sample `b`: the sum over the tokens whose rank is `s`. -/
def slotRow (R : IVec S32x16x2048 32) (H : FVec Ideal S32x2048x1024 .bf16) (b : Fin 32) (e : Fin 16) (s : Fin 256) (d : Fin 1024) : EReal :=
  ∑ t : Fin 2048, if R (ix3 b e t) = BitVec.ofNat 32 s.val then (H (ix3 b t d) : EReal) else 0

/-- Column `f` of a slot's row times one of its expert's two input matrices. -/
def proj (R : IVec S32x16x2048 32) (H : FVec Ideal S32x2048x1024 .bf16) (W : FVec Ideal S16x1024x2816 .bf16)
    (b : Fin 32) (e : Fin 16) (s : Fin 256) (f : Fin 2816) : EReal :=
  ∑ d : Fin 1024, slotRow R H b e s d * W (ix3 e d f)

/-- The hidden activation: the gate's `x · σ(x)` times the up-projection. -/
def hidden (R : IVec S32x16x2048 32) (H : FVec Ideal S32x2048x1024 .bf16) (Wg Wu : FVec Ideal S16x1024x2816 .bf16)
    (b : Fin 32) (e : Fin 16) (s : Fin 256) (f : Fin 2816) : EReal :=
  proj R H Wg b e s f * Ideal.logistic (proj R H Wg b e s f) * proj R H Wu b e s f

/-- Feature `k` of the expert's output for a slot. -/
def out (R : IVec S32x16x2048 32) (H : FVec Ideal S32x2048x1024 .bf16) (Wg Wu : FVec Ideal S16x1024x2816 .bf16)
    (Wd : FVec Ideal S16x2816x1024 .bf16) (b : Fin 32) (e : Fin 16) (s : Fin 256) (k : Fin 1024) : EReal :=
  ∑ f : Fin 2816, hidden R H Wg Wu b e s f * Wd (ix3 e f k)

/-- The whole array of expert outputs. -/
def outArr (R : IVec S32x16x2048 32) (H : FVec Ideal S32x2048x1024 .bf16) (Wg Wu : FVec Ideal S16x1024x2816 .bf16)
    (Wd : FVec Ideal S16x2816x1024 .bf16) : FVec Ideal S32x16x256x1024 .bf16 :=
  fun j => out R H Wg Wu Wd (j 0) (j 1) (j 2) (j 3)

end Cert.Experts

end
-- ==== Proof.Layer.Tab.lean ====
/- The four results as functions of the arguments. -/
module

public import proofs.«01_k».proof.Proof.NA.Spec
public import proofs.«01_k».proof.Proof.Layer.Spec
public import proofs.«01_k».proof.Proof.Experts.Spec

@[expose] public section

set_option maxRecDepth 16384

noncomputable section

namespace Cert.Layer

open Idealize.ShloMosaic Idealize.ShloMosaic.TcCoe Idealize.SL.Sem Cert.KernelIdeal

/-- The arguments: tokens, conditioning vectors, context, context conditioning, modulation map, the two gains, input projection,
    one mixing branch, the other's relative biases, the two branches' maps, output map, router, ranks and gates, the experts' weights, final gain. -/
structure Args where
  x : FVec Ideal S32x2048x1024 .f32
  c : FVec Ideal S32x1024 .f32
  ctx : FVec Ideal S32x256x1024 .f32
  cx : FVec Ideal S1024 .f32
  wm : FVec Ideal S1024x6144 .f32
  bm : FVec Ideal S6144 .f32
  g1 : FVec Ideal S1024 .f32
  g2 : FVec Ideal S1024 .f32
  wi : FVec Ideal S1024x5120 .bf16
  bi : FVec Ideal S5120 .f32
  hy : FVec Ideal S32x2048x512 .bf16
  rpb : FVec Ideal S8x15x31 .f32
  wh : FVec Ideal S512x1024 .bf16
  wn : FVec Ideal S512x1024 .bf16
  wo : FVec Ideal S1024x1024 .bf16
  wr : FVec Ideal S1024x16 .f32
  rk : IVec S32x16x2048 32
  rt : IVec S32x2048x128 32
  gt : FVec Ideal S32x2048x128 .f32
  wg : FVec Ideal S16x1024x2816 .bf16
  wu : FVec Ideal S16x1024x2816 .bf16
  wd : FVec Ideal S16x2816x1024 .bf16
  gf : FVec Ideal S1024 .f32

/-- Row `r` of the conditioning table: a sample's, then the context's, then zeros. -/
def condRow (C : FVec Ideal S32x1024 .f32) (X : FVec Ideal S1024 .f32) (r : Fin 40) (d : Fin 1024) : EReal :=
  if h : (r : ℕ) < 32 then C (ix2 ⟨r, h⟩ d) else if (r : ℕ) = 32 then X (ix1 d) else 0

/-- Column of chunk `i`, feature `d` of the modulation. -/
def chunk (i : Fin 6) (d : Fin 1024) : Fin 6144 := ⟨i.val * 1024 + d.val, by omega⟩

/-- The modulation table, six chunks a row. -/
def modTab (A : Args) : FVec Ideal S40x6x1024 .f32 :=
  fun j => modVal (condRow A.c A.cx (j 0)) A.wm (A.bm (ix1 (chunk (j 1) (j 2)))) (chunk (j 1) (j 2))

/-- Vectors as one-row matrices, and the router's map turned round. -/
def row (g : FVec Ideal S1024 .f32) : FVec Ideal S1x1024 .f32 := fun j => g (ix1 (j 1))
def rowIn (g : FVec Ideal S5120 .f32) : FVec Ideal S1x5120 .f32 := fun j => g (ix1 (j 1))
def turned (w : FVec Ideal S1024x16 .f32) : FVec Ideal S16x1024 .f32 := fun j => w (ix2 (j 1) (j 0))

/-- The latent tokens' projection. -/
def zxRes (A : Args) : FVec Ideal S32x2048x5120 .bf16 := zxArr A.x (modTab A) (row A.g1) A.wi (rowIn A.bi)

/-- The context tokens' keys and values. -/
def kvRes (A : Args) : FVec Ideal S32x256x1024 .bf16 :=
  fun j => affine (norm (fun d => A.ctx (ix3 (j 0) (j 1) d)) (fun d => A.g1 (ix1 d)) (fun d => modTab A (ix3 32 0 d)) (fun d => modTab A (ix3 32 1 d)))
    (fun d => A.wi (ix2 d ⟨2048 + (j 2 : ℕ), by have := (j 2).isLt; change (j 2 : ℕ) < 1024 at this; omega⟩))
    (A.bi (ix1 ⟨2048 + (j 2 : ℕ), by have := (j 2).isLt; change (j 2 : ℕ) < 1024 at this; omega⟩))

/-- The neighbourhood attention of the latent tokens. -/
def naRes (A : Args) : FVec Ideal S32x2048x512 .bf16 := Cert.NA.naArr (zxRes A) (kvRes A) A.rpb

/-- The merged tokens, their normalised rows and the router's logits. -/
def x1Res (A : Args) : FVec Ideal S32x2048x1024 .f32 := x1Arr A.hy (naRes A) (zxRes A) A.x (modTab A) A.wh A.wn A.wo
def h2Res (A : Args) : FVec Ideal S32x2048x1024 .bf16 := h2Arr A.hy (naRes A) (zxRes A) A.x (modTab A) (row A.g2) A.wh A.wn A.wo
def logitRes (A : Args) : FVec Ideal S32x16x2048 .f32 := logitArr A.hy (naRes A) (zxRes A) A.x (modTab A) (row A.g2) A.wh A.wn A.wo (turned A.wr)

/-- The layer's output. -/
def outRes (A : Args) : FVec Ideal S32x2048x1024 .f32 :=
  Cert.Combine.outArr A.rt A.gt (Cert.Experts.outArr A.rk (h2Res A) A.wg A.wu A.wd) (x1Res A) (modTab A) A.gf

end Cert.Layer

end
-- ==== Proof.Layer.Cond.lean ====
/- The conditioning rows: two scatters that set the samples' rows and the context's row of a table of zeros. -/
module

public import proofs.«01_k».proof.KernelIdeal
public import proofs.«01_k».proof.Proof.Gen.KernelIdeal
public import Idealize.ShloMosaic.Lib.Pointwise
public import Idealize.ShloMosaic.Lib.Routing.OpsPair
public import Idealize.ShloMosaic.Lib.Routing.OpsSet
public import Idealize.ShloMosaic.Lib.Pipeline.ValueKit

@[expose] public section

set_option maxRecDepth 16384

noncomputable section

namespace Cert.Layer

open Idealize.ShloMosaic Idealize.SL.Sem Cert.KernelIdeal Cert.KernelIdeal.Gen

abbrev setRows := scatter_S40x1024_S1_S32x1024_01_n_0_0
abbrev setRow := scatter_S40x1024_S1_S1024_0_0_0_0

theorem rows_lands (I : IVec S1 32) (hI : (I (ix1 0)).toInt = 0) (b : Fin 32) (e : Fin 1024) (r : Fin 40) (c : Fin 1024) :
    setRows.resultIdx? (ix2 b e) I = some (ix2 r c) ↔ (b : ℕ) = r ∧ e = c := by
  have hm : (0 : Fin 2) ∈ setRows.scatterDimsToOperandDims := by decide
  have s0 : setRows.start (ix2 b e) I 0 = 0 := by
    unfold ScatterDims.start
    rw [dif_pos hm, show setRows.siIdx (ix2 b e) ⟨setRows.scatterDimsToOperandDims.idxOf 0, List.idxOf_lt_length_iff.2 hm⟩ = ix1 0 from by
      funext x; fin_cases x; rfl, hI]
  have s1 : setRows.start (ix2 b e) I 1 = 0 := by
    unfold ScatterDims.start
    rw [dif_neg (by decide)]
  have w0 : setRows.window (ix2 b e) 0 = b.val := rfl
  have w1 : setRows.window (ix2 b e) 1 = e.val := rfl
  refine (Routing.resultIdx?_ix2 setRows (ix2 b e) I r c).trans ?_
  rw [s0, s1, w0, w1]
  constructor
  · rintro ⟨h0, h1⟩
    exact ⟨by omega, Fin.ext (by omega)⟩
  · rintro ⟨h0, rfl⟩
    exact ⟨by omega, by omega⟩

theorem row_lands (I : IVec S1 32) (hI : (I (ix1 0)).toInt = 32) (e : Fin 1024) (r : Fin 40) (c : Fin 1024) :
    setRow.resultIdx? (ix1 e) I = some (ix2 r c) ↔ 32 = (r : ℕ) ∧ e = c := by
  have hm : (0 : Fin 2) ∈ setRow.scatterDimsToOperandDims := by decide
  have s0 : setRow.start (ix1 e) I 0 = 32 := by
    unfold ScatterDims.start
    rw [dif_pos hm, show setRow.siIdx (ix1 e) ⟨setRow.scatterDimsToOperandDims.idxOf 0, List.idxOf_lt_length_iff.2 hm⟩ = ix1 0 from by
      funext x; fin_cases x; rfl, hI]
  have s1 : setRow.start (ix1 e) I 1 = 0 := by
    unfold ScatterDims.start
    rw [dif_neg (by decide)]
  have w0 : setRow.window (ix1 e) 0 = 0 := rfl
  have w1 : setRow.window (ix1 e) 1 = e.val := rfl
  refine (Routing.resultIdx?_ix2 setRow (ix1 e) I r c).trans ?_
  rw [s0, s1, w0, w1]
  constructor
  · rintro ⟨h0, h1⟩
    exact ⟨by omega, Fin.ext (by omega)⟩
  · rintro ⟨h0, rfl⟩
    exact ⟨by omega, by omega⟩

/-- A table with its first 32 rows set. -/
theorem rows_at (x : FVec Ideal S40x1024 .f32) (I : IVec S1 32) (hI : (I (ix1 0)).toInt = 0) (u : FVec Ideal S32x1024 .f32) (r : Fin 40) (c : Fin 1024) :
    Host.scatter setRows (fun _ b => b) x I u (ix2 r c) = if h : (r : ℕ) < 32 then u (ix2 ⟨r, h⟩ c) else x (ix2 r c) := by
  by_cases h : (r : ℕ) < 32
  · rw [dif_pos h]
    refine Routing.scatter_set_hit setRows x I u (ix2 r c) _ ?_ (ix2 ⟨r, h⟩ c) ((rows_lands I hI _ _ _ _).2 ⟨rfl, rfl⟩)
    intro k hk
    obtain ⟨b, e, rfl⟩ : ∃ (b : Fin 32) (e : Fin 1024), k = ix2 b e := ⟨k 0, k 1, (ix2_eta k).symm⟩
    obtain ⟨h0, rfl⟩ := (rows_lands I hI _ _ _ _).1 hk
    exact congrArg u (by rw [show b = (⟨r, h⟩ : Fin 32) from Fin.ext h0])
  · rw [dif_neg h]
    refine Routing.scatter_set_miss setRows x I u (ix2 r c) ?_
    intro k hk
    obtain ⟨b, e, rfl⟩ : ∃ (b : Fin 32) (e : Fin 1024), k = ix2 b e := ⟨k 0, k 1, (ix2_eta k).symm⟩
    obtain ⟨h0, -⟩ := (rows_lands I hI _ _ _ _).1 hk
    omega

/-- A table with row 32 set. -/
theorem row_at (x : FVec Ideal S40x1024 .f32) (I : IVec S1 32) (hI : (I (ix1 0)).toInt = 32) (u : FVec Ideal S1024 .f32) (r : Fin 40) (c : Fin 1024) :
    Host.scatter setRow (fun _ b => b) x I u (ix2 r c) = if (r : ℕ) = 32 then u (ix1 c) else x (ix2 r c) := by
  by_cases h : (r : ℕ) = 32
  · rw [if_pos h]
    refine Routing.scatter_set_hit setRow x I u (ix2 r c) _ ?_ (ix1 c) ((row_lands I hI _ _ _).2 ⟨h.symm, rfl⟩)
    intro k hk
    obtain ⟨e, rfl⟩ : ∃ (e : Fin 1024), k = ix1 e := ⟨k 0, (ix1_eta k).symm⟩
    obtain ⟨-, rfl⟩ := (row_lands I hI _ _ _).1 hk
    rfl
  · rw [if_neg h]
    refine Routing.scatter_set_miss setRow x I u (ix2 r c) ?_
    intro k hk
    obtain ⟨e, rfl⟩ : ∃ (e : Fin 1024), k = ix1 e := ⟨k 0, (ix1_eta k).symm⟩
    exact h ((row_lands I hI _ _ _).1 hk).1.symm

end Cert.Layer

end
-- ==== Proof.Layer.Run.lean ====
/- The run of the calls: every buffer of @main at the end of the run, in terms of what the calls leave. -/
module

public import proofs.«01_k».proof.Proof.Gen.KernelIdeal.Frame
public import Idealize.ShloMosaic.Lib.Pointwise

@[expose] public section

set_option maxRecDepth 16384

noncomputable section

namespace Cert.Layer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Idealize.ShloMosaic.Ideal) ℓ) (ρ : Dev nD → PrngReg)

set_option backward.isDefEq.respectTransparency.types false in
/-- Every run ends with each buffer of @main at its contents after the last call. -/
theorem ends : θ_run defs (onTc (τ := τ) (main (F := Idealize.ShloMosaic.Ideal))) ⟨m, fun _ => 0, ρ⟩
    (fun r => ∀ (c : Dev nD), ∀ b ∈ Pipeline.ucRefs τ sig, r.2.mem (((c : Thread nD τ)).1, b) = W26 m ρ c b) :=
  Pipeline.θ_run_regions_kit_sems (pcfgs (F := Idealize.ShloMosaic.Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Idealize.ShloMosaic.Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Idealize.ShloMosaic.Ideal) ℕ (UR sig nD τ) ℕ)) ⊢ bigSep Finset.univ (fun _ : Dev nD => (BI.emp : sProp (MT nD τ sig Unit (Elt Idealize.ShloMosaic.Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun _ h _ => h)

end Cert.Layer

end
-- ==== Proof.Layer.Mod.lean ====
/- One grid point of the modulation call. -/
module

public import proofs.«01_k».proof.Proof.Layer.Spec
public import proofs.«01_k».proof.Proof.Gen.KernelIdeal.Frame
public import Idealize.ShloMosaic.Lib.Pipeline.ValueKit

@[expose] public section

set_option maxRecDepth 16384

noncomputable section

namespace Cert.Layer.Mod

open Idealize.ShloMosaic Idealize.ShloMosaic.TcCoe Idealize.SL.Sem Cert.KernelIdeal Cert.KernelIdeal.Gen
open Idealize.ShloMosaic.Pipeline (Dat)

/-- What the body leaves in its output block, from the blocks it reads. -/
theorem out_at (x0 : Vec Ideal S40x1024 .f32) (x1 : Vec Ideal S1024x1536 .f32) (x2 : Vec Ideal S1x1536 .f32) (q : Fin 40) (n : Fin 1536) :
    out0_3 x0 x1 x2 (ix2 q n) = (∑ d : Fin 1024, x0 (ix2 q d) * Ideal.logistic (x0 (ix2 q d)) * x1 (ix2 d n)) + x2 (ix2 0 n) := by
  have h0 : View.ld x0 r0_0 = x0 := View.ld_unit_lit _ _ (by decide)
  have h1 : View.ld x1 r0_1 = x1 := View.ld_unit_lit _ _ (by decide)
  have h2 : View.ld x2 r0_2 = x2 := View.ld_unit_lit _ _ (by decide)
  unfold out0_3
  rw [View.canon_cons_unit_lit _ _ _ (by decide), h0, h1, h2]
  pointwise [k0_pay1]

/-- The same, when the blocks' rows are those of the whole arrays. -/
theorem out_of (x0 : Vec Ideal S40x1024 .f32) (x1 : Vec Ideal S1024x1536 .f32) (x2 : Vec Ideal S1x1536 .f32)
    (C : FVec Ideal S40x1024 .f32) (W : FVec Ideal S1024x6144 .f32) (B : FVec Ideal S1x6144 .f32) (q : Fin 40) (n : Fin 1536) (k : Fin 6144)
    (h0 : ∀ d, x0 (ix2 q d) = C (ix2 q d)) (h1 : ∀ d, x1 (ix2 d n) = W (ix2 d k)) (h2 : x2 (ix2 0 n) = B (ix2 0 k)) :
    out0_3 x0 x1 x2 (ix2 q n) = modVal (fun d => C (ix2 q d)) W (B (ix2 0 k)) k := by
  rw [out_at]
  simp only [h0, h1, h2]
  rfl

variable (V : (c : Dev nD) → (b : Ref sig .tc) → Buf (Elt Ideal) ((c : Thread nD τ).loc b))

theorem idx : ∀ t : Fin cfg0.N, win0_0.index t = ![0, 0] ∧ win0_1.index t = ![0, t.val] ∧ win0_2.index t = ![0, t.val] ∧ win0_3.index t = ![0, t.val] ∧ t.val < 4 :=
  (by decide +kernel : ∀ t : Fin grid0.N, _)

theorem blk_0 (c : Dev nD) (t : Fin cfg0.N) (q : Fin 40) (d : Fin 1024) :
    (iblk0 V c 0 t : Vec Ideal S40x1024 .f32) (ix2 q d) = V c main_v4 (ix2 q d) := by
  blk_point [iblk0, idx t]

theorem blk_1 (c : Dev nD) (t : Fin cfg0.N) (d : Fin 1024) (n : Fin 1536) (k : Fin 6144) (hk : (k : ℕ) = t.val * 1536 + n) :
    (iblk0 V c 1 t : Vec Ideal S1024x1536 .f32) (ix2 d n) = V c main_arg4 (ix2 d k) := by
  blk_point [iblk0, idx t]

theorem blk_2 (c : Dev nD) (t : Fin cfg0.N) (n : Fin 1536) (k : Fin 6144) (hk : (k : ℕ) = t.val * 1536 + n) :
    (iblk0 V c 2 t : Vec Ideal S1x1536 .f32) (ix2 0 n) = V c main_v5 (ix2 0 k) := by
  blk_point [iblk0, idx t]

theorem point (c : Dev nD) (t : Fin cfg0.N) (y0 : Fin 40) (y1 : Fin 1536) (k : Fin 6144) (hk : (k : ℕ) = t.val * 1536 + y1) :
    out0_3 (iblk0 V c 0 t) (iblk0 V c 1 t) (iblk0 V c 2 t) (ix2 y0 y1)
      = modVal (fun d => (V c main_v4 : FVec Ideal S40x1024 .f32) (ix2 y0 d)) (V c main_arg4) ((V c main_v5 : FVec Ideal S1x6144 .f32) (ix2 0 k)) k := by
  exact out_of _ _ _ _ _ _ y0 y1 k (fun d => blk_0 V c t y0 d) (fun d => blk_1 V c t d y1 k hk) (blk_2 V c t y1 k hk)

/-- The array after the call, from the arrays it is entered with. -/
theorem final (c : Dev nD) : (dat0 V c).arrAt 3 cfg0.N = modArr (V c main_v4) (V c main_arg4) (V c main_v5) := by
  refine (dat0 V c).arrAt_eq_of_covers 3 _ (by decide +kernel) fun t _ y => ?_
  blk_simp
  rw [after0_3]
  have ht := (idx t).2.2.2.2
  have e0 : ((((View.whole main_v6).slice (win0_3.rect t)).emb y 0 : Fin _) : ℕ) = (y 0 : ℕ) := by blk_simp [idx t] <;> try omega
  have e1 : ((((View.whole main_v6).slice (win0_3.rect t)).emb y 1 : Fin _) : ℕ) = t.val * 1536 + (y 1 : ℕ) := by blk_simp [idx t] <;> try omega
  generalize ((View.whole main_v6).slice (win0_3.rect t)).emb y = j at e0 e1
  idx_vars y
  refine (point V c t y0 y1 (j 1) e1).trans ?_
  obtain rfl : j 0 = y0 := Fin.ext e0
  rfl

end Cert.Layer.Mod

end
-- ==== Proof.Layer.Proj.lean ====
/- One grid point of the projection of the latent tokens. -/
module

public import proofs.«01_k».proof.Proof.Layer.Spec
public import proofs.«01_k».proof.Proof.Gen.KernelIdeal.Frame
public import Idealize.ShloMosaic.Lib.Pipeline.ValueKit

@[expose] public section

set_option maxRecDepth 16384

noncomputable section

namespace Cert.Layer.Proj

open Idealize.ShloMosaic Idealize.ShloMosaic.TcCoe Idealize.SL.Sem Cert.KernelIdeal Cert.KernelIdeal.Gen
open Idealize.ShloMosaic.Pipeline (Dat)

/-- The normalised row of a block. -/
theorem norm_at (v0 : Vec Ideal S1x1024x1024 .f32) (v2 : Vec Ideal S1x1024 .f32) (v4 v6 : Vec Ideal S1x1x1024 .f32) (q d : Fin 1024) :
    k1_pay2 (F := Ideal) v0 v2 v4 v6 (ix2 q d) = norm (fun d => v0 (ix3 0 q d)) (fun d => v2 (ix2 0 d)) (fun d => v4 (ix3 0 0 d)) (fun d => v6 (ix3 0 0 d)) d := by
  pointwise [k1_pay2, norm, Cert.Combine.rms]

/-- One column chunk's product. -/
theorem chunk_at (h : FVec Ideal S1024x1024 .bf16) (w : Vec Ideal S1024x1024 .bf16) (b : Vec Ideal S1x1024 .f32) (q n : Fin 1024) :
    k1_pay1 (F := Ideal) h w b (ix3 0 q n) = affine (fun d => h (ix2 q d)) (fun d => w (ix2 d n)) (b (ix2 0 n)) := by
  pointwise [k1_pay1, affine]

theorem first_at (v0 : Vec Ideal S1x1024x1024 .f32) (v2 : Vec Ideal S1x1024 .f32) (v4 v6 : Vec Ideal S1x1x1024 .f32) (w : Vec Ideal S1024x1024 .bf16) (b : Vec Ideal S1x1024 .f32) :
    k1_pay4 (k1_pay3 (F := Ideal) v0 v2 v4 v6 w b) = k1_pay1 (k1_pay2 v0 v2 v4 v6) w b := rfl

/-- The rectangles of chunk `i`. -/
abbrev wRect (i : Fin 5) : Rect S1024x5120 := Rect.unit (s := S1024x5120) ![0, 1024 * i.val] S1024x1024.size (by
  intro a; fin_cases a <;> fin_cases i <;> decide)
abbrev bRect (i : Fin 5) : Rect S1x5120 := Rect.unit (s := S1x5120) ![0, 1024 * i.val] S1x1024.size (by
  intro a; fin_cases a <;> fin_cases i <;> decide)

theorem piece_at (x0 : Vec Ideal S1x1024x1024 .f32) (x1 : Vec Ideal S1x6x1024 .f32) (x2 : Vec Ideal S1x1024 .f32) (x3 : Vec Ideal S1024x5120 .bf16) (x4 : Vec Ideal S1x5120 .f32)
    (i : Fin 5) (q n : Fin 1024) (k : Fin 5120) (hk : (k : ℕ) = 1024 * i.val + n) :
    k1_pay1 (k1_pay8 x0 x1 x2 x3 x4) (View.ld x3 (wRect i)) (View.ld x4 (bRect i)) (ix3 0 q n)
      = affine (norm (fun d => x0 (ix3 0 q d)) (fun d => x2 (ix2 0 d)) (fun d => x1 (ix3 0 0 d)) (fun d => x1 (ix3 0 1 d))) (fun d => x3 (ix2 d k)) (x4 (ix2 0 k)) := by
  have h0 : View.ld x0 r1_0 = x0 := View.ld_unit_lit _ _ (by decide)
  have h2 : View.ld x2 r1_1 = x2 := View.ld_unit_lit _ _ (by decide)
  have ha : ∀ d : Fin 1024, View.ld x1 r1_2 (ix3 0 0 d) = x1 (ix3 0 0 d) := by
    intro d
    rw [View.ld_apply]
    congr 1
    funext a
    apply Fin.ext
    rw [Rect.idx_unit_val]
    fin_cases a <;> simp
  have hb : ∀ d : Fin 1024, View.ld x1 r1_3 (ix3 0 0 d) = x1 (ix3 0 1 d) := by
    intro d
    rw [View.ld_apply]
    congr 1
    funext a
    apply Fin.ext
    rw [Rect.idx_unit_val]
    fin_cases a <;> simp
  have hw : ∀ d : Fin 1024, View.ld x3 (wRect i) (ix2 d n) = x3 (ix2 d k) := by
    intro d
    rw [View.ld_apply]
    congr 1
    funext a
    apply Fin.ext
    rw [Rect.idx_unit_val]
    fin_cases a <;> simp [hk]
  have hv : View.ld x4 (bRect i) (ix2 0 n) = x4 (ix2 0 k) := by
    rw [View.ld_apply]
    congr 1
    funext a
    apply Fin.ext
    rw [Rect.idx_unit_val]
    fin_cases a <;> simp [hk]
  rw [chunk_at, hv]
  unfold k1_pay8
  rw [h0, h2]
  simp only [norm_at, hw, ha, hb]

/-- What the body leaves in its output block, from the blocks it reads. -/
theorem out_at (x0 : Vec Ideal S1x1024x1024 .f32) (x1 : Vec Ideal S1x6x1024 .f32) (x2 : Vec Ideal S1x1024 .f32) (x3 : Vec Ideal S1024x5120 .bf16) (x4 : Vec Ideal S1x5120 .f32)
    (q : Fin 1024) (k : Fin 5120) :
    out1_5 x0 x1 x2 x3 x4 (ix3 0 q k)
      = affine (norm (fun d => x0 (ix3 0 q d)) (fun d => x2 (ix2 0 d)) (fun d => x1 (ix3 0 0 d)) (fun d => x1 (ix3 0 1 d))) (fun d => x3 (ix2 d k)) (x4 (ix2 0 k)) := by
  unfold out1_5
  canon_tiles y h
  all_goals idx_vars y
  all_goals obtain rfl : y0 = 0 := Subsingleton.elim _ _
  all_goals obtain rfl : q = y1 := Fin.ext (by simpa using h1)
  case piece0 => exact piece_at x0 x1 x2 x3 x4 4 q y2 k (by simpa using h2)
  case piece1 => exact piece_at x0 x1 x2 x3 x4 3 q y2 k (by simpa using h2)
  case piece2 => exact piece_at x0 x1 x2 x3 x4 2 q y2 k (by simpa using h2)
  case piece3 => exact piece_at x0 x1 x2 x3 x4 1 q y2 k (by simpa using h2)
  case piece4 => exact piece_at x0 x1 x2 x3 x4 0 q y2 k (by simpa using h2)

/-- The same, when the blocks' rows are those of the whole arrays. -/
theorem out_of (x0 : Vec Ideal S1x1024x1024 .f32) (x1 : Vec Ideal S1x6x1024 .f32) (x2 : Vec Ideal S1x1024 .f32) (x3 : Vec Ideal S1024x5120 .bf16) (x4 : Vec Ideal S1x5120 .f32)
    (X : FVec Ideal S32x2048x1024 .f32) (M : FVec Ideal S40x6x1024 .f32) (G : FVec Ideal S1x1024 .f32) (W : FVec Ideal S1024x5120 .bf16)
    (B : FVec Ideal S1x5120 .f32) (q : Fin 1024) (k : Fin 5120) (b : Fin 32) (b' : Fin 40) (r : Fin 2048)
    (h0 : ∀ d, x0 (ix3 0 q d) = X (ix3 b r d)) (h1 : ∀ i d, x1 (ix3 0 i d) = M (ix3 b' i d)) (h2 : ∀ d, x2 (ix2 0 d) = G (ix2 0 d))
    (h3 : ∀ d, x3 (ix2 d k) = W (ix2 d k)) (h4 : x4 (ix2 0 k) = B (ix2 0 k)) :
    out1_5 x0 x1 x2 x3 x4 (ix3 0 q k) = affine (norm (fun d => X (ix3 b r d)) (fun d => G (ix2 0 d)) (fun d => M (ix3 b' 0 d)) (fun d => M (ix3 b' 1 d)))
      (fun d => W (ix2 d k)) (B (ix2 0 k)) := by
  rw [out_at]
  simp only [h0, h1, h2, h3, h4]

variable (V : (c : Dev nD) → (b : Ref sig .tc) → Buf (Elt Ideal) ((c : Thread nD τ).loc b))

theorem idx : ∀ t : Fin cfg1.N, win1_0.index t = ![t.val / 2, t.val % 2, 0] ∧ win1_1.index t = ![t.val / 2, 0, 0] ∧ win1_2.index t = ![0, 0]
    ∧ win1_3.index t = ![0, 0] ∧ win1_4.index t = ![0, 0] ∧ win1_5.index t = ![t.val / 2, t.val % 2, 0] ∧ t.val < 64 :=
  (by decide +kernel : ∀ t : Fin grid1.N, _)

theorem blk_0 (c : Dev nD) (t : Fin cfg1.N) (q : Fin 1024) (d : Fin 1024) (b : Fin 32) (hb : (b : ℕ) = t.val / 2) (r : Fin 2048) (hr : (r : ℕ) = t.val % 2 * 1024 + q) :
    (iblk1 V c 0 t : Vec Ideal S1x1024x1024 .f32) (ix3 0 q d) = V c main_arg0 (ix3 b r d) := by
  blk_point [iblk1, idx t]

theorem blk_1 (c : Dev nD) (t : Fin cfg1.N) (i : Fin 6) (d : Fin 1024) (b : Fin 40) (hb : (b : ℕ) = t.val / 2) :
    (iblk1 V c 1 t : Vec Ideal S1x6x1024 .f32) (ix3 0 i d) = V c main_v7 (ix3 b i d) := by
  blk_point [iblk1, idx t]

theorem blk_2 (c : Dev nD) (t : Fin cfg1.N) (d : Fin 1024) :
    (iblk1 V c 2 t : Vec Ideal S1x1024 .f32) (ix2 0 d) = V c main_v8 (ix2 0 d) := by
  blk_point [iblk1, idx t]

theorem blk_3 (c : Dev nD) (t : Fin cfg1.N) (d : Fin 1024) (k : Fin 5120) :
    (iblk1 V c 3 t : Vec Ideal S1024x5120 .bf16) (ix2 d k) = V c main_arg8 (ix2 d k) := by
  blk_point [iblk1, idx t]

theorem blk_4 (c : Dev nD) (t : Fin cfg1.N) (k : Fin 5120) :
    (iblk1 V c 4 t : Vec Ideal S1x5120 .f32) (ix2 0 k) = V c main_v9 (ix2 0 k) := by
  blk_point [iblk1, idx t]

theorem point (c : Dev nD) (t : Fin cfg1.N) (q : Fin 1024) (k : Fin 5120) (b : Fin 32) (b' : Fin 40) (r : Fin 2048) (e0 : (b : ℕ) = t.val / 2) (e0' : (b' : ℕ) = t.val / 2)
    (e1 : (r : ℕ) = t.val % 2 * 1024 + q) :
    out1_5 (iblk1 V c 0 t) (iblk1 V c 1 t) (iblk1 V c 2 t) (iblk1 V c 3 t) (iblk1 V c 4 t) (ix3 0 q k)
      = affine (norm (fun d => (V c main_arg0 : FVec Ideal S32x2048x1024 .f32) (ix3 b r d)) (fun d => (V c main_v8 : FVec Ideal S1x1024 .f32) (ix2 0 d))
          (fun d => (V c main_v7 : FVec Ideal S40x6x1024 .f32) (ix3 b' 0 d)) (fun d => (V c main_v7 : FVec Ideal S40x6x1024 .f32) (ix3 b' 1 d)))
        (fun d => (V c main_arg8 : FVec Ideal S1024x5120 .bf16) (ix2 d k)) ((V c main_v9 : FVec Ideal S1x5120 .f32) (ix2 0 k)) := by
  exact out_of _ _ _ _ _ _ _ _ _ _ q k b b' r (fun d => blk_0 V c t q d b e0 r e1) (fun i d => blk_1 V c t i d b' e0') (fun d => blk_2 V c t d)
    (fun d => blk_3 V c t d k) (blk_4 V c t k)

/-- The array after the call, from the arrays it is entered with. -/
theorem final (c : Dev nD) : (dat1 V c).arrAt 5 cfg1.N = zxArr (V c main_arg0) (V c main_v7) (V c main_v8) (V c main_arg8) (V c main_v9) := by
  refine (dat1 V c).arrAt_eq_of_covers 5 _ (by decide +kernel) fun t _ y => ?_
  blk_simp
  rw [after1_5]
  have ht := (idx t).2.2.2.2.2.2
  have e0 : ((((View.whole main_v10).slice (win1_5.rect t)).emb y 0 : Fin _) : ℕ) = t.val / 2 + (y 0 : ℕ) := by blk_simp [idx t] <;> try omega
  have e1 : ((((View.whole main_v10).slice (win1_5.rect t)).emb y 1 : Fin _) : ℕ) = t.val % 2 * 1024 + (y 1 : ℕ) := by blk_simp [idx t] <;> try omega
  have e2 : ((((View.whole main_v10).slice (win1_5.rect t)).emb y 2 : Fin _) : ℕ) = (y 2 : ℕ) := by blk_simp [idx t] <;> try omega
  generalize ((View.whole main_v10).slice (win1_5.rect t)).emb y = j at e0 e1 e2
  idx_vars y
  obtain rfl : y0 = 0 := Subsingleton.elim _ _
  have e0' : (j 0 : ℕ) = t.val / 2 := by simpa using e0
  refine (point V c t y1 y2 (j 0) ⟨(j 0 : ℕ), by omega⟩ (j 1) e0' e0' e1).trans ?_
  obtain rfl : j 2 = y2 := Fin.ext e2
  rfl

end Cert.Layer.Proj

end
-- ==== Proof.Layer.Ctx.lean ====
/- One grid point of the projection of the context tokens. -/
module

public import proofs.«01_k».proof.Proof.Layer.Spec
public import proofs.«01_k».proof.Proof.Gen.KernelIdeal.Frame
public import Idealize.ShloMosaic.Lib.Pipeline.ValueKit

@[expose] public section

set_option maxRecDepth 16384

noncomputable section

namespace Cert.Layer.Ctx

open Idealize.ShloMosaic Idealize.ShloMosaic.TcCoe Idealize.SL.Sem Cert.KernelIdeal Cert.KernelIdeal.Gen
open Idealize.ShloMosaic.Pipeline (Dat)

/-- What the body leaves in its output block, from the blocks it reads. -/
theorem out_at (x0 : Vec Ideal S1x1024x1024 .f32) (x1 : Vec Ideal S1x6x1024 .f32) (x2 : Vec Ideal S1x1024 .f32) (x3 : Vec Ideal S1024x1024 .bf16) (x4 : Vec Ideal S1x1024 .f32)
    (q k : Fin 1024) :
    out2_5 x0 x1 x2 x3 x4 (ix3 0 q k)
      = affine (norm (fun d => x0 (ix3 0 q d)) (fun d => x2 (ix2 0 d)) (fun d => x1 (ix3 0 0 d)) (fun d => x1 (ix3 0 1 d))) (fun d => x3 (ix2 d k)) (x4 (ix2 0 k)) := by
  have h0 : View.ld x0 r2_0 = x0 := View.ld_unit_lit _ _ (by decide)
  have h2 : View.ld x2 r2_1 = x2 := View.ld_unit_lit _ _ (by decide)
  have h3 : View.ld x3 r2_4 = x3 := View.ld_unit_lit _ _ (by decide)
  have h4 : View.ld x4 r2_1 = x4 := View.ld_unit_lit _ _ (by decide)
  have ha : ∀ d : Fin 1024, View.ld x1 r2_2 (ix3 0 0 d) = x1 (ix3 0 0 d) := by
    intro d
    rw [View.ld_apply]
    congr 1
    funext a
    apply Fin.ext
    rw [Rect.idx_unit_val]
    fin_cases a <;> simp
  have hb : ∀ d : Fin 1024, View.ld x1 r2_3 (ix3 0 0 d) = x1 (ix3 0 1 d) := by
    intro d
    rw [View.ld_apply]
    congr 1
    funext a
    apply Fin.ext
    rw [Rect.idx_unit_val]
    fin_cases a <;> simp
  unfold out2_5
  rw [View.canon_cons_unit_lit _ _ _ (by decide), h0, h2, h3, h4]
  generalize View.ld x1 r2_2 = sa at ha
  generalize View.ld x1 r2_3 = sb at hb
  simp only [← ha, ← hb]
  pointwise [k2_pay1, k2_pay2, affine, norm, Cert.Combine.rms]

/-- The same, when the blocks' rows are those of the whole arrays. -/
theorem out_of (x0 : Vec Ideal S1x1024x1024 .f32) (x1 : Vec Ideal S1x6x1024 .f32) (x2 : Vec Ideal S1x1024 .f32) (x3 : Vec Ideal S1024x1024 .bf16) (x4 : Vec Ideal S1x1024 .f32)
    (X : FVec Ideal S1x8192x1024 .f32) (M : FVec Ideal S40x6x1024 .f32) (G : FVec Ideal S1x1024 .f32) (W : FVec Ideal S1024x1024 .bf16)
    (B : FVec Ideal S1x1024 .f32) (q : Fin 1024) (k : Fin 1024) (b : Fin 1) (b' : Fin 40) (r : Fin 8192)
    (h0 : ∀ d, x0 (ix3 0 q d) = X (ix3 b r d)) (h1 : ∀ i d, x1 (ix3 0 i d) = M (ix3 b' i d)) (h2 : ∀ d, x2 (ix2 0 d) = G (ix2 0 d))
    (h3 : ∀ d, x3 (ix2 d k) = W (ix2 d k)) (h4 : x4 (ix2 0 k) = B (ix2 0 k)) :
    out2_5 x0 x1 x2 x3 x4 (ix3 0 q k) = affine (norm (fun d => X (ix3 b r d)) (fun d => G (ix2 0 d)) (fun d => M (ix3 b' 0 d)) (fun d => M (ix3 b' 1 d)))
      (fun d => W (ix2 d k)) (B (ix2 0 k)) := by
  rw [out_at]
  simp only [h0, h1, h2, h3, h4]

variable (V : (c : Dev nD) → (b : Ref sig .tc) → Buf (Elt Ideal) ((c : Thread nD τ).loc b))

theorem idx : ∀ t : Fin cfg2.N, win2_0.index t = ![0, t.val, 0] ∧ win2_1.index t = ![32, 0, 0] ∧ win2_2.index t = ![0, 0]
    ∧ win2_3.index t = ![0, 0] ∧ win2_4.index t = ![0, 0] ∧ win2_5.index t = ![0, t.val, 0] ∧ t.val < 8 :=
  (by decide +kernel : ∀ t : Fin grid2.N, _)

theorem blk_0 (c : Dev nD) (t : Fin cfg2.N) (q : Fin 1024) (d : Fin 1024) (b : Fin 1) (r : Fin 8192) (hr : (r : ℕ) = t.val * 1024 + q) :
    (iblk2 V c 0 t : Vec Ideal S1x1024x1024 .f32) (ix3 0 q d) = V c main_v11 (ix3 b r d) := by
  blk_point [iblk2, idx t]

theorem blk_1 (c : Dev nD) (t : Fin cfg2.N) (i : Fin 6) (d : Fin 1024) (b : Fin 40) (hb : (b : ℕ) = 32) :
    (iblk2 V c 1 t : Vec Ideal S1x6x1024 .f32) (ix3 0 i d) = V c main_v7 (ix3 b i d) := by
  blk_point [iblk2, idx t]

theorem blk_2 (c : Dev nD) (t : Fin cfg2.N) (d : Fin 1024) :
    (iblk2 V c 2 t : Vec Ideal S1x1024 .f32) (ix2 0 d) = V c main_v14 (ix2 0 d) := by
  blk_point [iblk2, idx t]

theorem blk_3 (c : Dev nD) (t : Fin cfg2.N) (d : Fin 1024) (k : Fin 1024) :
    (iblk2 V c 3 t : Vec Ideal S1024x1024 .bf16) (ix2 d k) = V c main_v12 (ix2 d k) := by
  blk_point [iblk2, idx t]

theorem blk_4 (c : Dev nD) (t : Fin cfg2.N) (k : Fin 1024) :
    (iblk2 V c 4 t : Vec Ideal S1x1024 .f32) (ix2 0 k) = V c main_v15 (ix2 0 k) := by
  blk_point [iblk2, idx t]

theorem point (c : Dev nD) (t : Fin cfg2.N) (q : Fin 1024) (k : Fin 1024) (b : Fin 1) (b' : Fin 40) (r : Fin 8192) (e0' : (b' : ℕ) = 32)
    (e1 : (r : ℕ) = t.val * 1024 + q) :
    out2_5 (iblk2 V c 0 t) (iblk2 V c 1 t) (iblk2 V c 2 t) (iblk2 V c 3 t) (iblk2 V c 4 t) (ix3 0 q k)
      = affine (norm (fun d => (V c main_v11 : FVec Ideal S1x8192x1024 .f32) (ix3 b r d)) (fun d => (V c main_v14 : FVec Ideal S1x1024 .f32) (ix2 0 d))
          (fun d => (V c main_v7 : FVec Ideal S40x6x1024 .f32) (ix3 b' 0 d)) (fun d => (V c main_v7 : FVec Ideal S40x6x1024 .f32) (ix3 b' 1 d)))
        (fun d => (V c main_v12 : FVec Ideal S1024x1024 .bf16) (ix2 d k)) ((V c main_v15 : FVec Ideal S1x1024 .f32) (ix2 0 k)) := by
  exact out_of _ _ _ _ _ _ _ _ _ _ q k b b' r (fun d => blk_0 V c t q d b r e1) (fun i d => blk_1 V c t i d b' e0') (fun d => blk_2 V c t d)
    (fun d => blk_3 V c t d k) (blk_4 V c t k)

/-- The array after the call, from the arrays it is entered with. -/
theorem final (c : Dev nD) : (dat2 V c).arrAt 5 cfg2.N = kvArr (V c main_v11) (V c main_v7) (V c main_v14) (V c main_v12) (V c main_v15) := by
  refine (dat2 V c).arrAt_eq_of_covers 5 _ (by decide +kernel) fun t _ y => ?_
  blk_simp
  rw [after2_5]
  have ht := (idx t).2.2.2.2.2.2
  have e0 : ((((View.whole main_v16).slice (win2_5.rect t)).emb y 0 : Fin _) : ℕ) = (y 0 : ℕ) := by blk_simp [idx t] <;> try omega
  have e1 : ((((View.whole main_v16).slice (win2_5.rect t)).emb y 1 : Fin _) : ℕ) = t.val * 1024 + (y 1 : ℕ) := by blk_simp [idx t] <;> try omega
  have e2 : ((((View.whole main_v16).slice (win2_5.rect t)).emb y 2 : Fin _) : ℕ) = (y 2 : ℕ) := by blk_simp [idx t] <;> try omega
  generalize ((View.whole main_v16).slice (win2_5.rect t)).emb y = j at e0 e1 e2
  idx_vars y
  obtain rfl : y0 = 0 := Subsingleton.elim _ _
  refine (point V c t y1 y2 0 32 (j 1) rfl e1).trans ?_
  obtain rfl : j 2 = y2 := Fin.ext e2
  rfl

end Cert.Layer.Ctx

end
-- ==== Proof.Layer.Merge.lean ====
/- One grid point of the merge of the two branches. -/
module

public import proofs.«01_k».proof.Proof.Layer.Spec
public import proofs.«01_k».proof.Proof.Gen.KernelIdeal.Frame
public import Idealize.ShloMosaic.Lib.Pipeline.ValueKit

@[expose] public section

set_option maxRecDepth 16384

noncomputable section

namespace Cert.Layer.Merge

open Idealize.ShloMosaic Idealize.ShloMosaic.TcCoe Idealize.SL.Sem Cert.KernelIdeal Cert.KernelIdeal.Gen
open Idealize.ShloMosaic.Pipeline (Dat)

/-- The merged row of a block. -/
theorem mix_at (v0 v4 : Vec Ideal S1x1024x512 .bf16) (v2 v6 : Vec Ideal S512x1024 .bf16) (v8 v13 : Vec Ideal S1x1024x1024 .bf16) (v20 : Vec Ideal S1024x1024 .bf16)
    (v22 : Vec Ideal S1x1024x1024 .f32) (v24 : Vec Ideal S1x1x1024 .f32) (q k : Fin 1024) :
    k6_pay2 (F := Ideal) v0 v2 v4 v6 v8 v13 v20 v22 v24 (ix2 q k)
      = mix (fun e => v0 (ix3 0 q e)) (fun e => v4 (ix3 0 q e)) (fun d => v8 (ix3 0 q d)) (fun d => v13 (ix3 0 q d)) (fun d => v22 (ix3 0 q d)) (fun d => v24 (ix3 0 0 d)) v2 v6 v20 k := by
  pointwise [k6_pay2, mix]

/-- Its normalised row. -/
theorem norm_at (v : FVec Ideal S1024x1024 .f32) (v32 : Vec Ideal S1x1024 .f32) (v34 v36 : Vec Ideal S1x1x1024 .f32) (q d : Fin 1024) :
    k6_pay4 (F := Ideal) v v32 v34 v36 (ix2 q d) = norm (fun d => v (ix2 q d)) (fun d => v32 (ix2 0 d)) (fun d => v34 (ix3 0 0 d)) (fun d => v36 (ix3 0 0 d)) d := by
  pointwise [k6_pay4, norm, Cert.Combine.rms]

theorem logit_at (v : FVec Ideal S1024x1024 .f32) (v32 : Vec Ideal S1x1024 .f32) (v34 v36 : Vec Ideal S1x1x1024 .f32) (w : Vec Ideal S16x1024 .f32) (e : Fin 16) (q : Fin 1024) :
    k6_pay1 (k6_pay6 (F := Ideal) v v32 v34 v36 w) (ix3 0 e q) = ∑ d : Fin 1024, w (ix2 e d) * k6_pay4 (F := Ideal) v v32 v34 v36 (ix2 q d) := by
  pointwise [k6_pay1, k6_pay6]

theorem pay7_at (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (q k : Fin 1024) :
    k6_pay7 x0 x1 x2 x3 x4 x5 x6 x7 x8 x9 x10 (ix2 q k) = mix (fun e => x0 (ix3 0 q e)) (fun e => x1 (ix3 0 q e)) (fun d => x2 (ix3 0 q d)) (fun d => x3 (ix3 0 q d)) (fun d => x4 (ix3 0 q d)) (fun d => x5 (ix3 0 2 d)) x7 x8 x9 k := by
  have h0 : View.ld x0 r6_0 = x0 := View.ld_unit_lit _ _ (by decide)
  have h1 : View.ld x1 r6_0 = x1 := View.ld_unit_lit _ _ (by decide)
  have h2 : View.ld x2 r6_2 = x2 := View.ld_unit_lit _ _ (by decide)
  have h3 : View.ld x3 r6_2 = x3 := View.ld_unit_lit _ _ (by decide)
  have h4 : View.ld x4 r6_2 = x4 := View.ld_unit_lit _ _ (by decide)
  have h7 : View.ld x7 r6_1 = x7 := View.ld_unit_lit _ _ (by decide)
  have h8 : View.ld x8 r6_1 = x8 := View.ld_unit_lit _ _ (by decide)
  have h9 : View.ld x9 r6_3 = x9 := View.ld_unit_lit _ _ (by decide)
  have h5 : ∀ d : Fin 1024, View.ld x5 r6_4 (ix3 0 0 d) = x5 (ix3 0 2 d) := by
    intro d
    rw [View.ld_apply]
    congr 1
    funext a
    apply Fin.ext
    rw [Rect.idx_unit_val]
    fin_cases a <;> simp
  unfold k6_pay7
  rw [h0, h1, h2, h3, h4, h7, h8, h9, mix_at]
  simp only [h5]

theorem pay4_at (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (q k : Fin 1024) :
    k6_pay4 (k6_pay7 x0 x1 x2 x3 x4 x5 x6 x7 x8 x9 x10) (View.ld x6 r6_5) (View.ld x5 r6_6) (View.ld x5 r6_7) (ix2 q k)
      = norm (mix (fun e => x0 (ix3 0 q e)) (fun e => x1 (ix3 0 q e)) (fun d => x2 (ix3 0 q d)) (fun d => x3 (ix3 0 q d)) (fun d => x4 (ix3 0 q d)) (fun d => x5 (ix3 0 2 d)) x7 x8 x9)
        (fun d => x6 (ix2 0 d)) (fun d => x5 (ix3 0 3 d)) (fun d => x5 (ix3 0 4 d)) k := by
  have h6 : View.ld x6 r6_5 = x6 := View.ld_unit_lit _ _ (by decide)
  have ha : ∀ d : Fin 1024, View.ld x5 r6_6 (ix3 0 0 d) = x5 (ix3 0 3 d) := by
    intro d
    rw [View.ld_apply]
    congr 1
    funext a
    apply Fin.ext
    rw [Rect.idx_unit_val]
    fin_cases a <;> simp
  have hb : ∀ d : Fin 1024, View.ld x5 r6_7 (ix3 0 0 d) = x5 (ix3 0 4 d) := by
    intro d
    rw [View.ld_apply]
    congr 1
    funext a
    apply Fin.ext
    rw [Rect.idx_unit_val]
    fin_cases a <;> simp
  rw [h6, norm_at]
  simp only [ha, hb, pay7_at]

/-- What the body leaves in its three output blocks, from the blocks it reads. -/
theorem out11_at (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (q k : Fin 1024) :
    out6_11 x0 x1 x2 x3 x4 x5 x6 x7 x8 x9 x10 (ix3 0 q k) = mix (fun e => x0 (ix3 0 q e)) (fun e => x1 (ix3 0 q e)) (fun d => x2 (ix3 0 q d)) (fun d => x3 (ix3 0 q d)) (fun d => x4 (ix3 0 q d)) (fun d => x5 (ix3 0 2 d)) x7 x8 x9 k := by
  rw [← pay7_at x0 x1 x2 x3 x4 x5 x6 x7 x8 x9 x10]
  unfold out6_11
  rw [View.canon_cons_unit_lit _ _ _ (by decide)]
  pointwise [k6_pay3]

theorem out12_at (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (q k : Fin 1024) :
    out6_12 x0 x1 x2 x3 x4 x5 x6 x7 x8 x9 x10 (ix3 0 q k)
      = norm (mix (fun e => x0 (ix3 0 q e)) (fun e => x1 (ix3 0 q e)) (fun d => x2 (ix3 0 q d)) (fun d => x3 (ix3 0 q d)) (fun d => x4 (ix3 0 q d)) (fun d => x5 (ix3 0 2 d)) x7 x8 x9)
        (fun d => x6 (ix2 0 d)) (fun d => x5 (ix3 0 3 d)) (fun d => x5 (ix3 0 4 d)) k := by
  rw [← pay4_at x0 x1 x2 x3 x4 x5 x6 x7 x8 x9 x10]
  unfold out6_12
  rw [View.canon_cons_unit_lit _ _ _ (by decide)]
  pointwise [k6_pay5]

theorem out13_at (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (e : Fin 16) (q : Fin 1024) :
    out6_13 x0 x1 x2 x3 x4 x5 x6 x7 x8 x9 x10 (ix3 0 e q)
      = ∑ d : Fin 1024, x10 (ix2 e d) * norm (mix (fun e => x0 (ix3 0 q e)) (fun e => x1 (ix3 0 q e)) (fun d => x2 (ix3 0 q d)) (fun d => x3 (ix3 0 q d)) (fun d => x4 (ix3 0 q d)) (fun d => x5 (ix3 0 2 d)) x7 x8 x9)
        (fun d => x6 (ix2 0 d)) (fun d => x5 (ix3 0 3 d)) (fun d => x5 (ix3 0 4 d)) d := by
  simp only [← pay4_at x0 x1 x2 x3 x4 x5 x6 x7 x8 x9 x10]
  have h10 : View.ld x10 r6_8 = x10 := View.ld_unit_lit _ _ (by decide)
  unfold out6_13
  rw [View.canon_cons_unit_lit _ _ _ (by decide), h10, logit_at]

theorem out11_of (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (H N : FVec Ideal S32x2048x512 .bf16) (Z : FVec Ideal S32x2048x5120 .bf16) (X : FVec Ideal S32x2048x1024 .f32) (M : FVec Ideal S40x6x1024 .f32)
    (G : FVec Ideal S1x1024 .f32) (WH WN : FVec Ideal S512x1024 .bf16) (WO : FVec Ideal S1024x1024 .bf16) (WR : FVec Ideal S16x1024 .f32)
    (b : Fin 32) (r : Fin 2048) (q k : Fin 1024) (e : Fin 16)
    (h0 : ∀ e, x0 (ix3 0 q e) = H (ix3 b r e)) (h1 : ∀ e, x1 (ix3 0 q e) = N (ix3 b r e)) (h2 : ∀ d, x2 (ix3 0 q d) = Z (ix3 b r ⟨3072 + d.val, by omega⟩))
    (h3 : ∀ d, x3 (ix3 0 q d) = Z (ix3 b r ⟨4096 + d.val, by omega⟩)) (h4 : ∀ d, x4 (ix3 0 q d) = X (ix3 b r d)) (h5 : ∀ i d, x5 (ix3 0 i d) = M (ix3 ⟨b.val, by omega⟩ i d))
    (h6 : ∀ d, x6 (ix2 0 d) = G (ix2 0 d)) (h7 : x7 = WH) (h8 : x8 = WN) (h9 : x9 = WO) (h10 : x10 = WR) :
    out6_11 x0 x1 x2 x3 x4 x5 x6 x7 x8 x9 x10 (ix3 0 q k) = mixRow H N Z X M WH WN WO b r k := by
  subst h7 h8 h9 h10
  rw [out11_at]
  simp only [h0, h1, h2, h3, h4, h5, h6]
  rfl

theorem out12_of (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (H N : FVec Ideal S32x2048x512 .bf16) (Z : FVec Ideal S32x2048x5120 .bf16) (X : FVec Ideal S32x2048x1024 .f32) (M : FVec Ideal S40x6x1024 .f32)
    (G : FVec Ideal S1x1024 .f32) (WH WN : FVec Ideal S512x1024 .bf16) (WO : FVec Ideal S1024x1024 .bf16) (WR : FVec Ideal S16x1024 .f32)
    (b : Fin 32) (r : Fin 2048) (q k : Fin 1024) (e : Fin 16)
    (h0 : ∀ e, x0 (ix3 0 q e) = H (ix3 b r e)) (h1 : ∀ e, x1 (ix3 0 q e) = N (ix3 b r e)) (h2 : ∀ d, x2 (ix3 0 q d) = Z (ix3 b r ⟨3072 + d.val, by omega⟩))
    (h3 : ∀ d, x3 (ix3 0 q d) = Z (ix3 b r ⟨4096 + d.val, by omega⟩)) (h4 : ∀ d, x4 (ix3 0 q d) = X (ix3 b r d)) (h5 : ∀ i d, x5 (ix3 0 i d) = M (ix3 ⟨b.val, by omega⟩ i d))
    (h6 : ∀ d, x6 (ix2 0 d) = G (ix2 0 d)) (h7 : x7 = WH) (h8 : x8 = WN) (h9 : x9 = WO) (h10 : x10 = WR) :
    out6_12 x0 x1 x2 x3 x4 x5 x6 x7 x8 x9 x10 (ix3 0 q k) = normRow H N Z X M G WH WN WO b r k := by
  subst h7 h8 h9 h10
  rw [out12_at]
  simp only [h0, h1, h2, h3, h4, h5, h6]
  rfl

theorem out13_of (x0 x1 : Vec Ideal S1x1024x512 .bf16) (x2 x3 : Vec Ideal S1x1024x1024 .bf16) (x4 : Vec Ideal S1x1024x1024 .f32) (x5 : Vec Ideal S1x6x1024 .f32) (x6 : Vec Ideal S1x1024 .f32)
    (x7 x8 : Vec Ideal S512x1024 .bf16) (x9 : Vec Ideal S1024x1024 .bf16) (x10 : Vec Ideal S16x1024 .f32)
    (H N : FVec Ideal S32x2048x512 .bf16) (Z : FVec Ideal S32x2048x5120 .bf16) (X : FVec Ideal S32x2048x1024 .f32) (M : FVec Ideal S40x6x1024 .f32)
    (G : FVec Ideal S1x1024 .f32) (WH WN : FVec Ideal S512x1024 .bf16) (WO : FVec Ideal S1024x1024 .bf16) (WR : FVec Ideal S16x1024 .f32)
    (b : Fin 32) (r : Fin 2048) (q k : Fin 1024) (e : Fin 16)
    (h0 : ∀ e, x0 (ix3 0 q e) = H (ix3 b r e)) (h1 : ∀ e, x1 (ix3 0 q e) = N (ix3 b r e)) (h2 : ∀ d, x2 (ix3 0 q d) = Z (ix3 b r ⟨3072 + d.val, by omega⟩))
    (h3 : ∀ d, x3 (ix3 0 q d) = Z (ix3 b r ⟨4096 + d.val, by omega⟩)) (h4 : ∀ d, x4 (ix3 0 q d) = X (ix3 b r d)) (h5 : ∀ i d, x5 (ix3 0 i d) = M (ix3 ⟨b.val, by omega⟩ i d))
    (h6 : ∀ d, x6 (ix2 0 d) = G (ix2 0 d)) (h7 : x7 = WH) (h8 : x8 = WN) (h9 : x9 = WO) (h10 : x10 = WR) :
    out6_13 x0 x1 x2 x3 x4 x5 x6 x7 x8 x9 x10 (ix3 0 e q) = ∑ d : Fin 1024, WR (ix2 e d) * normRow H N Z X M G WH WN WO b r d := by
  subst h7 h8 h9 h10
  rw [out13_at]
  simp only [h0, h1, h2, h3, h4, h5, h6]
  rfl

variable (V : (c : Dev nD) → (b : Ref sig .tc) → Buf (Elt Ideal) ((c : Thread nD τ).loc b))

theorem idx : ∀ t : Fin cfg6.N, win6_0.index t = ![t.val / 2, t.val % 2, 0] ∧ win6_1.index t = ![t.val / 2, t.val % 2, 0] ∧ win6_2.index t = ![t.val / 2, t.val % 2, 3]
    ∧ win6_3.index t = ![t.val / 2, t.val % 2, 4] ∧ win6_4.index t = ![t.val / 2, t.val % 2, 0] ∧ win6_5.index t = ![t.val / 2, 0, 0] ∧ win6_6.index t = ![0, 0]
    ∧ win6_7.index t = ![0, 0] ∧ win6_8.index t = ![0, 0] ∧ win6_9.index t = ![0, 0] ∧ win6_10.index t = ![0, 0]
    ∧ win6_11.index t = ![t.val / 2, t.val % 2, 0] ∧ win6_12.index t = ![t.val / 2, t.val % 2, 0] ∧ win6_13.index t = ![t.val / 2, 0, t.val % 2] ∧ t.val < 64 :=
  (by decide +kernel : ∀ t : Fin grid6.N, _)

theorem blk_0 (c : Dev nD) (t : Fin cfg6.N) (q : Fin 1024) (d : Fin 512) (b : Fin 32) (hb : (b : ℕ) = t.val / 2) (r : Fin 2048) (hr : (r : ℕ) = t.val % 2 * 1024 + q) :
    (iblk6 V c 0 t : Vec Ideal S1x1024x512 .bf16) (ix3 0 q d) = V c main_arg10 (ix3 b r d) := by
  blk_point [iblk6, idx t]

theorem blk_1 (c : Dev nD) (t : Fin cfg6.N) (q : Fin 1024) (d : Fin 512) (b : Fin 32) (hb : (b : ℕ) = t.val / 2) (r : Fin 2048) (hr : (r : ℕ) = t.val % 2 * 1024 + q) :
    (iblk6 V c 1 t : Vec Ideal S1x1024x512 .bf16) (ix3 0 q d) = V c main_v74 (ix3 b r d) := by
  blk_point [iblk6, idx t]

theorem blk_2 (c : Dev nD) (t : Fin cfg6.N) (q : Fin 1024) (d : Fin 1024) (b : Fin 32) (hb : (b : ℕ) = t.val / 2) (r : Fin 2048) (hr : (r : ℕ) = t.val % 2 * 1024 + q) :
    (iblk6 V c 2 t : Vec Ideal S1x1024x1024 .bf16) (ix3 0 q d) = V c main_v10 (ix3 b r ⟨3072 + d.val, by omega⟩) := by
  blk_point [iblk6, idx t]

theorem blk_3 (c : Dev nD) (t : Fin cfg6.N) (q : Fin 1024) (d : Fin 1024) (b : Fin 32) (hb : (b : ℕ) = t.val / 2) (r : Fin 2048) (hr : (r : ℕ) = t.val % 2 * 1024 + q) :
    (iblk6 V c 3 t : Vec Ideal S1x1024x1024 .bf16) (ix3 0 q d) = V c main_v10 (ix3 b r ⟨4096 + d.val, by omega⟩) := by
  blk_point [iblk6, idx t]

theorem blk_4 (c : Dev nD) (t : Fin cfg6.N) (q : Fin 1024) (d : Fin 1024) (b : Fin 32) (hb : (b : ℕ) = t.val / 2) (r : Fin 2048) (hr : (r : ℕ) = t.val % 2 * 1024 + q) :
    (iblk6 V c 4 t : Vec Ideal S1x1024x1024 .f32) (ix3 0 q d) = V c main_arg0 (ix3 b r d) := by
  blk_point [iblk6, idx t]

theorem blk_5 (c : Dev nD) (t : Fin cfg6.N) (i : Fin 6) (d : Fin 1024) (b : Fin 40) (hb : (b : ℕ) = t.val / 2) :
    (iblk6 V c 5 t : Vec Ideal S1x6x1024 .f32) (ix3 0 i d) = V c main_v7 (ix3 b i d) := by
  blk_point [iblk6, idx t]

theorem blk_6 (c : Dev nD) (t : Fin cfg6.N) (d : Fin 1024) :
    (iblk6 V c 6 t : Vec Ideal S1x1024 .f32) (ix2 0 d) = V c main_v76 (ix2 0 d) := by
  blk_point [iblk6, idx t]

theorem blk_7 (c : Dev nD) (t : Fin cfg6.N) : (iblk6 V c 7 t : Vec Ideal S512x1024 .bf16) = V c main_arg12 := by
  funext y
  blk_point [iblk6, idx t]

theorem blk_8 (c : Dev nD) (t : Fin cfg6.N) : (iblk6 V c 8 t : Vec Ideal S512x1024 .bf16) = V c main_arg13 := by
  funext y
  blk_point [iblk6, idx t]

theorem blk_9 (c : Dev nD) (t : Fin cfg6.N) : (iblk6 V c 9 t : Vec Ideal S1024x1024 .bf16) = V c main_arg14 := by
  funext y
  blk_point [iblk6, idx t]

theorem blk_10 (c : Dev nD) (t : Fin cfg6.N) : (iblk6 V c 10 t : Vec Ideal S16x1024 .f32) = V c main_v75 := by
  funext y
  blk_point [iblk6, idx t]

theorem point11 (c : Dev nD) (t : Fin cfg6.N) (q : Fin 1024) (k : Fin 1024) (b : Fin 32) (r : Fin 2048) (e0 : (b : ℕ) = t.val / 2) (e1 : (r : ℕ) = t.val % 2 * 1024 + q) :
    out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (ix3 0 q k)
      = mixRow (V c main_arg10) (V c main_v74) (V c main_v10) (V c main_arg0) (V c main_v7) (V c main_arg12) (V c main_arg13) (V c main_arg14) b r k := by
  exact out11_of _ _ _ _ _ _ _ _ _ _ _ _ _ _ _ _ _ _ _ _ _ b r q k 0 (fun d => blk_0 V c t q d b e0 r e1) (fun d => blk_1 V c t q d b e0 r e1) (fun d => blk_2 V c t q d b e0 r e1) (fun d => blk_3 V c t q d b e0 r e1)
    (fun d => blk_4 V c t q d b e0 r e1) (fun i d => blk_5 V c t i d _ e0) (fun d => blk_6 V c t d) (blk_7 V c t) (blk_8 V c t) (blk_9 V c t) (blk_10 V c t)

theorem point12 (c : Dev nD) (t : Fin cfg6.N) (q : Fin 1024) (k : Fin 1024) (b : Fin 32) (r : Fin 2048) (e0 : (b : ℕ) = t.val / 2) (e1 : (r : ℕ) = t.val % 2 * 1024 + q) :
    out6_12 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (ix3 0 q k)
      = normRow (V c main_arg10) (V c main_v74) (V c main_v10) (V c main_arg0) (V c main_v7) (V c main_v76) (V c main_arg12) (V c main_arg13) (V c main_arg14) b r k := by
  exact out12_of _ _ _ _ _ _ _ _ _ _ _ _ _ _ _ _ _ _ _ _ _ b r q k 0 (fun d => blk_0 V c t q d b e0 r e1) (fun d => blk_1 V c t q d b e0 r e1) (fun d => blk_2 V c t q d b e0 r e1) (fun d => blk_3 V c t q d b e0 r e1)
    (fun d => blk_4 V c t q d b e0 r e1) (fun i d => blk_5 V c t i d _ e0) (fun d => blk_6 V c t d) (blk_7 V c t) (blk_8 V c t) (blk_9 V c t) (blk_10 V c t)

theorem point13 (c : Dev nD) (t : Fin cfg6.N) (q : Fin 1024) (e : Fin 16) (b : Fin 32) (r : Fin 2048) (e0 : (b : ℕ) = t.val / 2) (e1 : (r : ℕ) = t.val % 2 * 1024 + q) :
    out6_13 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (ix3 0 e q)
      = logitArr (V c main_arg10) (V c main_v74) (V c main_v10) (V c main_arg0) (V c main_v7) (V c main_v76) (V c main_arg12) (V c main_arg13) (V c main_arg14) (V c main_v75) (ix3 b e r) := by
  exact out13_of _ _ _ _ _ _ _ _ _ _ _ _ _ _ _ _ _ _ _ _ _ b r q 0 e (fun d => blk_0 V c t q d b e0 r e1) (fun d => blk_1 V c t q d b e0 r e1) (fun d => blk_2 V c t q d b e0 r e1) (fun d => blk_3 V c t q d b e0 r e1)
    (fun d => blk_4 V c t q d b e0 r e1) (fun i d => blk_5 V c t i d _ e0) (fun d => blk_6 V c t d) (blk_7 V c t) (blk_8 V c t) (blk_9 V c t) (blk_10 V c t)

theorem final11 (c : Dev nD) : (dat6 V c).arrAt 11 cfg6.N = x1Arr (V c main_arg10) (V c main_v74) (V c main_v10) (V c main_arg0) (V c main_v7) (V c main_arg12) (V c main_arg13) (V c main_arg14) := by
  refine (dat6 V c).arrAt_eq_of_covers 11 _ (by decide +kernel) fun t _ y => ?_
  blk_simp
  rw [after6_11]
  have ht := (idx t).2.2.2.2.2.2.2.2.2.2.2.2.2.2
  have e0 : ((((View.whole main_v77_0).slice (win6_11.rect t)).emb y 0 : Fin _) : ℕ) = t.val / 2 + (y 0 : ℕ) := by blk_simp [idx t] <;> try omega
  have e1 : ((((View.whole main_v77_0).slice (win6_11.rect t)).emb y 1 : Fin _) : ℕ) = t.val % 2 * 1024 + (y 1 : ℕ) := by blk_simp [idx t] <;> try omega
  have e2 : ((((View.whole main_v77_0).slice (win6_11.rect t)).emb y 2 : Fin _) : ℕ) = (y 2 : ℕ) := by blk_simp [idx t] <;> try omega
  generalize ((View.whole main_v77_0).slice (win6_11.rect t)).emb y = j at e0 e1 e2
  idx_vars y
  obtain rfl : y0 = 0 := Subsingleton.elim _ _
  refine (point11 V c t y1 y2 (j 0) (j 1) (by simpa using e0) e1).trans ?_
  obtain rfl : j 2 = y2 := Fin.ext e2
  rfl

theorem final12 (c : Dev nD) : (dat6 V c).arrAt 12 cfg6.N = h2Arr (V c main_arg10) (V c main_v74) (V c main_v10) (V c main_arg0) (V c main_v7) (V c main_v76) (V c main_arg12) (V c main_arg13) (V c main_arg14) := by
  refine (dat6 V c).arrAt_eq_of_covers 12 _ (by decide +kernel) fun t _ y => ?_
  blk_simp
  rw [after6_12]
  have ht := (idx t).2.2.2.2.2.2.2.2.2.2.2.2.2.2
  have e0 : ((((View.whole main_v77_1).slice (win6_12.rect t)).emb y 0 : Fin _) : ℕ) = t.val / 2 + (y 0 : ℕ) := by blk_simp [idx t] <;> try omega
  have e1 : ((((View.whole main_v77_1).slice (win6_12.rect t)).emb y 1 : Fin _) : ℕ) = t.val % 2 * 1024 + (y 1 : ℕ) := by blk_simp [idx t] <;> try omega
  have e2 : ((((View.whole main_v77_1).slice (win6_12.rect t)).emb y 2 : Fin _) : ℕ) = (y 2 : ℕ) := by blk_simp [idx t] <;> try omega
  generalize ((View.whole main_v77_1).slice (win6_12.rect t)).emb y = j at e0 e1 e2
  idx_vars y
  obtain rfl : y0 = 0 := Subsingleton.elim _ _
  refine (point12 V c t y1 y2 (j 0) (j 1) (by simpa using e0) e1).trans ?_
  obtain rfl : j 2 = y2 := Fin.ext e2
  rfl

theorem final13 (c : Dev nD) : (dat6 V c).arrAt 13 cfg6.N = logitArr (V c main_arg10) (V c main_v74) (V c main_v10) (V c main_arg0) (V c main_v7) (V c main_v76) (V c main_arg12) (V c main_arg13) (V c main_arg14) (V c main_v75) := by
  refine (dat6 V c).arrAt_eq_of_covers 13 _ (by decide +kernel) fun t _ y => ?_
  blk_simp
  rw [after6_13]
  have ht := (idx t).2.2.2.2.2.2.2.2.2.2.2.2.2.2
  have e0 : ((((View.whole main_v77_2).slice (win6_13.rect t)).emb y 0 : Fin _) : ℕ) = t.val / 2 + (y 0 : ℕ) := by blk_simp [idx t] <;> try omega
  have e1 : ((((View.whole main_v77_2).slice (win6_13.rect t)).emb y 2 : Fin _) : ℕ) = t.val % 2 * 1024 + (y 2 : ℕ) := by blk_simp [idx t] <;> try omega
  have e2 : ((((View.whole main_v77_2).slice (win6_13.rect t)).emb y 1 : Fin _) : ℕ) = (y 1 : ℕ) := by blk_simp [idx t] <;> try omega
  generalize ((View.whole main_v77_2).slice (win6_13.rect t)).emb y = j at e0 e1 e2
  idx_vars y
  obtain rfl : y0 = 0 := Subsingleton.elim _ _
  refine (point13 V c t y2 y1 (j 0) (j 2) (by simpa using e0) e1).trans ?_
  obtain rfl : j 1 = y1 := Fin.ext e2
  rfl

end Cert.Layer.Merge

end
-- ==== Proof.Experts.Body.lean ====
/- One grid point of the expert call: the block that the body leaves in its output buffer is the expert outputs of its
   two samples and its expert. -/
module

public import proofs.«01_k».proof.Proof.Experts.Spec
public import proofs.«01_k».proof.Proof.Gen.KernelIdeal.Frame
public import Idealize.ShloMosaic.Lib.Pipeline.ValueKit

@[expose] public section

set_option maxRecDepth 16384

noncomputable section

namespace Cert.Experts

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem idx : ∀ t : Fin cfg7.N, win7_0.index t = ![t.val % 16, 0, 0] ∧ win7_1.index t = ![t.val % 16, 0, 0]
    ∧ win7_2.index t = ![t.val / 16, 0, 0] ∧ win7_3.index t = ![t.val / 16, 0, 0] ∧ win7_4.index t = ![t.val / 16, 0, 0]
    ∧ win7_5.index t = ![t.val % 16, t.val / 16, 0, 0] ∧ k7_off1 (grid7.coords t) = ![0, t.val / 16, 0] ∧ k7_off2 (grid7.coords t) = ![1, t.val / 16, 0] ∧ t.val < 256 :=
  (by decide +kernel : ∀ t : Fin grid7.N, _)

/-- A value taken where a rank's word equals a slot's word. -/
theorem onehot (r w : BitVec 32) (x : EReal) : Scalar.select (IntOp.cmpi .eq r w) x 0 = if r = w then x else 0 := by
  by_cases h : r = w
  · subst h; simp [IntOp.cmpi, Scalar.select]
  · have : (r == w) = false := by simpa using h
    simp [IntOp.cmpi, Scalar.select, h, this]

theorem xe_lo (v2 : Vec Ideal S1x1x2048 .i32) (v10 : Vec Ideal S1x2048x1024 .bf16) (v15 : Vec Ideal S1x1x2048 .i32) (v23 : Vec Ideal S1x2048x1024 .bf16)
    (r : Fin 512) (s : Fin 256) (hr : (r : ℕ) = s) (d : Fin 1024) :
    k7_pay4 (F := Ideal) v2 v10 v15 v23 (ix2 r d) = ∑ t : Fin 2048, if (v2 : IVec S1x1x2048 32) (ix3 0 0 t) = BitVec.ofNat 32 s.val then (v10 (ix3 0 t d) : EReal) else 0 := by
  pointwise [k7_pay4]
  rw [dif_pos (by omega : (r : ℕ) < 256)]
  refine Fin.sum_fin_congr fun t => ?_
  rw [onehot, show (r : ℕ) = (s : ℕ) by omega]

theorem xe_hi (v2 : Vec Ideal S1x1x2048 .i32) (v10 : Vec Ideal S1x2048x1024 .bf16) (v15 : Vec Ideal S1x1x2048 .i32) (v23 : Vec Ideal S1x2048x1024 .bf16)
    (r : Fin 512) (s : Fin 256) (hr : (r : ℕ) = 256 + s) (d : Fin 1024) :
    k7_pay4 (F := Ideal) v2 v10 v15 v23 (ix2 r d) = ∑ t : Fin 2048, if (v15 : IVec S1x1x2048 32) (ix3 0 0 t) = BitVec.ofNat 32 s.val then (v23 (ix3 0 t d) : EReal) else 0 := by
  pointwise [k7_pay4]
  rw [dif_neg (by omega : ¬ (r : ℕ) < 256)]
  refine Fin.sum_fin_congr fun t => ?_
  rw [onehot, show (r : ℕ) - 256 = (s : ℕ) by omega]

theorem ffn_at (v2 : Vec Ideal S1x1x2048 .i32) (v10 : Vec Ideal S1x2048x1024 .bf16) (v15 : Vec Ideal S1x1x2048 .i32) (v23 : Vec Ideal S1x2048x1024 .bf16)
    (wg wu : Vec Ideal S1x1024x2816 .bf16) (wd : Vec Ideal S1x2816x1024 .bf16) (x : Fin 1024 → EReal)
    (r : Fin 512) (hx : ∀ d, k7_pay4 (F := Ideal) v2 v10 v15 v23 (ix2 r d) = x d) (k : Fin 1024) :
    k7_pay1 (F := Ideal) (k7_pay5 v2 v10 v15 v23 wg) (k7_pay6 v2 v10 v15 v23 wu) wd (ix2 r k)
      = ∑ f : Fin 2816, ((∑ d : Fin 1024, x d * wg (ix3 0 d f)) * Ideal.logistic (∑ d : Fin 1024, x d * wg (ix3 0 d f)) * ∑ d : Fin 1024, x d * wu (ix3 0 d f)) * wd (ix3 0 f k) := by
  pointwise [k7_pay1, k7_pay5, k7_pay6]
  simp only [hx]

theorem pay2_at (g u : FVec Ideal S512x2816 .f32) (w : Vec Ideal S1x2816x1024 .bf16) (x : S1x1x256x1024.Idx) (h : (x 2 : ℕ) < 512) :
    k7_pay2 (F := Ideal) g u w x = k7_pay1 (F := Ideal) g u w (ix2 ⟨(x 2 : ℕ), h⟩ (x 3)) := by
  pointwise [k7_pay2]
  try rfl

theorem pay3_at (g u : FVec Ideal S512x2816 .f32) (w : Vec Ideal S1x2816x1024 .bf16) (x : S1x1x256x1024.Idx) (h : 256 + (x 2 : ℕ) < 512) :
    k7_pay3 (F := Ideal) g u w x = k7_pay1 (F := Ideal) g u w (ix2 ⟨256 + (x 2 : ℕ), h⟩ (x 3)) := by
  pointwise [k7_pay3]
  try rfl

/-- Each window's block at a grid point, read off the array it stages. -/
theorem blk_0 (c : Dev nD) (t : Fin cfg7.N) : iblk7 V c 0 t = (win7_0.blk t).view.read (Elt Ideal) (V c main_arg16) := rfl
theorem blk_1 (c : Dev nD) (t : Fin cfg7.N) : iblk7 V c 1 t = (win7_1.blk t).view.read (Elt Ideal) (V c main_v77_1) := rfl
theorem blk_2 (c : Dev nD) (t : Fin cfg7.N) : iblk7 V c 2 t = (win7_2.blk t).view.read (Elt Ideal) (V c main_arg19) := rfl
theorem blk_3 (c : Dev nD) (t : Fin cfg7.N) : iblk7 V c 3 t = (win7_3.blk t).view.read (Elt Ideal) (V c main_arg20) := rfl
theorem blk_4 (c : Dev nD) (t : Fin cfg7.N) : iblk7 V c 4 t = (win7_4.blk t).view.read (Elt Ideal) (V c main_arg21) := rfl

/-- What the body computes for slot `s` of sample `q` of its pair, at the values it loads. -/
theorem point (c : Dev nD) (t : Fin cfg7.N) (q : ℕ) (hq : q < 2) (s : Fin 256) (k : Fin 1024) (r : Fin 512) (hr : (r : ℕ) = 256 * q + s)
    (j : S32x16x256x1024.Idx) (hb : (j 0 : ℕ) = t.val % 16 * 2 + q) (he : (j 1 : ℕ) = t.val / 16) (hs : (j 2 : ℕ) = s) (hk : (j 3 : ℕ) = k) :
    k7_pay1 (F := Ideal)
            (k7_pay5 (View.ld (iblk7 V c 0 t) (Rect.unit (k7_off1 (grid7.coords t)) ![1, 1, 2048] (Gen.k7_off1_inb (grid7.coords t))))
              (View.ld (iblk7 V c 1 t) (Rect.unit ![0, 0, 0] ![1, 2048, 1024] inb_S2x2048x1024_S1x2048x1024_0_0_0))
              (View.ld (iblk7 V c 0 t) (Rect.unit (k7_off2 (grid7.coords t)) ![1, 1, 2048] (Gen.k7_off2_inb (grid7.coords t))))
              (View.ld (iblk7 V c 1 t) (Rect.unit ![1, 0, 0] ![1, 2048, 1024] inb_S2x2048x1024_S1x2048x1024_1_0_0))
              (iblk7 V c 2 t))
            (k7_pay6 (View.ld (iblk7 V c 0 t) (Rect.unit (k7_off1 (grid7.coords t)) ![1, 1, 2048] (Gen.k7_off1_inb (grid7.coords t))))
              (View.ld (iblk7 V c 1 t) (Rect.unit ![0, 0, 0] ![1, 2048, 1024] inb_S2x2048x1024_S1x2048x1024_0_0_0))
              (View.ld (iblk7 V c 0 t) (Rect.unit (k7_off2 (grid7.coords t)) ![1, 1, 2048] (Gen.k7_off2_inb (grid7.coords t))))
              (View.ld (iblk7 V c 1 t) (Rect.unit ![1, 0, 0] ![1, 2048, 1024] inb_S2x2048x1024_S1x2048x1024_1_0_0))
              (iblk7 V c 3 t))
            (iblk7 V c 4 t) (ix2 r k)
      = outArr (V c main_arg16) (V c main_v77_1) (V c main_arg19)
        (V c main_arg20) (V c main_arg21)
        j := by
  obtain rfl : j 2 = s := Fin.ext hs
  obtain rfl : j 3 = k := Fin.ext hk
  unfold outArr
  refine (ffn_at _ _ _ _ _ _ _ (slotRow (V c main_arg16) (V c main_v77_1) (j 0) (j 1) (j 2)) r (fun d => ?_) (j 3)).trans ?_
  · interval_cases q
    · rw [xe_lo _ _ _ _ r (j 2) (by simpa using hr) d]
      unfold slotRow
      refine Finset.sum_congr rfl fun t' _ => ?_
      rw [blk_0, blk_1, View.ld_apply, View.ld_apply]
      blk_point [idx t]
      all_goals
        rw [Rect.idx_unit_val]
        simp [idx t]
        try omega
    · rw [xe_hi _ _ _ _ r (j 2) (by simpa using hr) d]
      unfold slotRow
      refine Finset.sum_congr rfl fun t' _ => ?_
      rw [blk_0, blk_1, View.ld_apply, View.ld_apply]
      blk_point [idx t]
      all_goals
        rw [Rect.idx_unit_val]
        simp [idx t]
        try omega
  · unfold out hidden proj
    blk_point [blk_0, blk_1, blk_2, blk_3, blk_4, idx t]

/-- The array after the call is the expert outputs of the arrays it is entered with. -/
theorem final (c : Dev nD) : (dat7 V c).arrAt 5 cfg7.N
    = outArr (V c main_arg16) (V c main_v77_1) (V c main_arg19)
        (V c main_arg20) (V c main_arg21) := by
  refine (dat7 V c).arrAt_eq_of_covers 5 _ (by decide +kernel) fun t _ y => ?_
  blk_simp
  rw [after7_5]
  unfold outsAt7
  frame_out
  have ht := (idx t).2.2.2.2.2.2.2.2
  have e0 : ((((View.whole main_v78).slice (win7_5.rect t)).emb y 0 : Fin _) : ℕ) = t.val % 16 * 2 + (y 0 : ℕ) := by blk_simp [idx t] <;> try omega
  have e1 : ((((View.whole main_v78).slice (win7_5.rect t)).emb y 1 : Fin _) : ℕ) = t.val / 16 + (y 1 : ℕ) := by blk_simp [idx t] <;> try omega
  have e2 : ((((View.whole main_v78).slice (win7_5.rect t)).emb y 2 : Fin _) : ℕ) = (y 2 : ℕ) := by blk_simp [idx t] <;> try omega
  have e3 : ((((View.whole main_v78).slice (win7_5.rect t)).emb y 3 : Fin _) : ℕ) = (y 3 : ℕ) := by blk_simp [idx t] <;> try omega
  generalize ((View.whole main_v78).slice (win7_5.rect t)).emb y = j at e0 e1 e2 e3
  canon_tiles x h
  case piece0 =>
    rw [pay3_at _ _ _ _ (by omega)]
    exact point V c t 1 (by omega) (x 2) _ _ rfl j (by omega) (by omega) (by omega) (by omega)
  case piece1 =>
    rw [pay2_at _ _ _ _ (by omega)]
    exact point V c t 0 (by omega) (x 2) _ _ (by dsimp only; omega) j (by omega) (by omega) (by omega) (by omega)

end Cert.Experts

end
-- ==== Proof.Combine.Body.lean ====
/- One grid point of the combine call. -/
module

public import proofs.«01_k».proof.Proof.Combine.Spec
public import proofs.«01_k».proof.Proof.Experts.Body

@[expose] public section

set_option maxRecDepth 16384

noncomputable section

namespace Cert.Combine

open Idealize.ShloMosaic Idealize.ShloMosaic.TcCoe Idealize.SL.Sem Cert.KernelIdeal Cert.KernelIdeal.Gen
open Idealize.ShloMosaic.Pipeline (Dat)

/-- The last step at a row: the residual, and the row over its root mean square times the weight. -/
theorem last_at (v177 : FVec Ideal S1024x4096 .bf16) (v180 : FVec Ideal S4096x1024 .bf16) (v182 : Vec Ideal S1x1024x1024 .f32)
    (v184 : Vec Ideal S1x1x1024 .f32) (v199 : Vec Ideal S1x1024 .f32) (q k : Fin 1024) (x : Fin 1024 → EReal)
    (hx : ∀ d, (v182 (ix3 0 q d) : EReal) + v184 (ix3 0 0 d) * ∑ j : Fin 4096, (v177 (ix2 q j) : EReal) * v180 (ix2 j d) = x d) :
    k8_pay1 (F := Ideal) v177 v180 (constant S1024x1024 .f32 0x00000000#32) v182 v184 v199 (ix3 0 q k) = rms x (v199 (ix2 0 k)) k := by
  pointwise [k8_pay1, rms]
  simp only [hx]

/-- The experts' outputs as one matrix: row `256 e + s` is slot `s` of expert `e`. -/
theorem flat_at (v : Vec Ideal S1x16x256x1024 .bf16) (e : Fin 16) (s : Fin 256) (j : Fin 4096) (hj : (j : ℕ) = 256 * e + s) (d : Fin 1024) :
    k8_pay19 (F := Ideal) v (ix2 j d) = v (ix4 0 e s d) := by
  pointwise [k8_pay19]
  have he : (⟨(j : ℕ) / 256, by omega⟩ : Fin 16) = e := Fin.ext (by dsimp only; omega)
  have hs : (⟨(j : ℕ) % 256, by omega⟩ : Fin 256) = s := Fin.ext (by dsimp only; omega)
  rw [he, hs]

/-- The one-hot columns of one expert: a token's gate at the slot it holds. -/
theorem col_at (a : Vec Ideal S1x1024x1 .i32) (g : Vec Ideal S1x1024x1 .f32) (q : Fin 1024) (s : Fin 256) :
    k8_pay17 (F := Ideal) (iota .tc S1024x256 32 [1] iota_S1024x256_d1_w32) a g (ix2 q s)
      = if (a : IVec S1x1024x1 32) (ix3 0 q 0) = BitVec.ofNat 32 s.val then (g (ix3 0 q 0) : EReal) else 0 := by
  pointwise [k8_pay17]
  exact Cert.Experts.onehot _ _ _

/-- Column `e` of a table's block. -/
abbrev colRect (e : Fin 16) : Rect S1x1024x128 := Rect.unit (s := S1x1024x128) ![0, 0, e.val] S1x1024x1.size (by
  intro a; fin_cases a <;> fin_cases e <;> decide)

/-- The columns of all experts side by side. -/
theorem cat_at (f : Fin 16 → FVec Ideal S1024x256 .bf16) (q : Fin 1024) (e : Fin 16) (s : Fin 256) (j : Fin 4096) (hj : (j : ℕ) = 256 * e + s) :
    concatenate S1024x4096 1 [⟨S1024x256, f 0⟩, ⟨S1024x256, f 1⟩, ⟨S1024x256, f 2⟩, ⟨S1024x256, f 3⟩, ⟨S1024x256, f 4⟩, ⟨S1024x256, f 5⟩, ⟨S1024x256, f 6⟩, ⟨S1024x256, f 7⟩, ⟨S1024x256, f 8⟩, ⟨S1024x256, f 9⟩, ⟨S1024x256, f 10⟩, ⟨S1024x256, f 11⟩, ⟨S1024x256, f 12⟩, ⟨S1024x256, f 13⟩, ⟨S1024x256, f 14⟩, ⟨S1024x256, f 15⟩] concatenates_S1024x256_S1024x256_S1024x256_S1024x256_S1024x256_S1024x256_S1024x256_S1024x256_S1024x256_S1024x256_S1024x256_S1024x256_S1024x256_S1024x256_S1024x256_S1024x256_S1024x4096_d1 (ix2 q j) = f e (ix2 q s) := by
  refine concatenate_ofFn_apply (t := S1024x4096) (s₁ := S1024x256) 1 f concatenates_S1024x256_S1024x256_S1024x256_S1024x256_S1024x256_S1024x256_S1024x256_S1024x256_S1024x256_S1024x256_S1024x256_S1024x256_S1024x256_S1024x256_S1024x256_S1024x256_S1024x4096_d1 rfl 256 rfl (ix2 q j) e ?_ (ix2 q s) ?_ ?_
  · show (j : ℕ) / 256 = e
    omega
  · show (s : ℕ) = (j : ℕ) % 256
    omega
  · intro b hb
    fin_cases b
    · rfl
    · exact absurd rfl hb

theorem scat_at (x0 : Vec Ideal S1x1024x128 .i32) (x1 : Vec Ideal S1x1024x128 .f32) (q : Fin 1024) (e : Fin 16) (s : Fin 256) (j : Fin 4096) (hj : (j : ℕ) = 256 * e + s) :
    k8_pay18 (F := Ideal) (iota .tc S1024x256 32 [1] iota_S1024x256_d1_w32) (k8_pay2 (View.ld x0 r8_0) (View.ld x1 r8_0)) (k8_pay3 (View.ld x0 r8_1) (View.ld x1 r8_1)) (k8_pay4 (View.ld x0 r8_2) (View.ld x1 r8_2))
        (k8_pay5 (iota .tc S1024x256 32 [1] iota_S1024x256_d1_w32) (View.ld x0 r8_3) (View.ld x1 r8_3)) (k8_pay6 (iota .tc S1024x256 32 [1] iota_S1024x256_d1_w32) (View.ld x0 r8_4) (View.ld x1 r8_4)) (k8_pay7 (iota .tc S1024x256 32 [1] iota_S1024x256_d1_w32) (View.ld x0 r8_5) (View.ld x1 r8_5))
        (k8_pay9 (iota .tc S1024x256 32 [1] iota_S1024x256_d1_w32) (k8_pay8 (View.ld x0 r8_6)) (View.ld x1 r8_6)) (k8_pay10 (iota .tc S1024x256 32 [1] iota_S1024x256_d1_w32) (View.ld x0 r8_7) (View.ld x1 r8_7)) (k8_pay11 (iota .tc S1024x256 32 [1] iota_S1024x256_d1_w32) (View.ld x0 r8_8) (View.ld x1 r8_8))
        (k8_pay14 (k8_pay12 (iota .tc S1024x256 32 [1] iota_S1024x256_d1_w32) (View.ld x0 r8_9)) (Scalar.ofBits .f32 0x00000000#32) (k8_pay13 (View.ld x1 r8_9)))
        (k8_pay15 (iota .tc S1024x256 32 [1] iota_S1024x256_d1_w32) (View.ld x0 r8_10) (View.ld x1 r8_10)) (k8_pay16 (iota .tc S1024x256 32 [1] iota_S1024x256_d1_w32) (View.ld x0 r8_11) (View.ld x1 r8_11)) (k8_pay17 (iota .tc S1024x256 32 [1] iota_S1024x256_d1_w32) (View.ld x0 r8_12) (View.ld x1 r8_12))
        (View.ld x0 r8_13) (View.ld x1 r8_13) (View.ld x0 r8_14) (View.ld x1 r8_14) (View.ld x0 r8_15) (View.ld x1 r8_15) (ix2 q j)
      = if (x0 : IVec S1x1024x128 32) (ix3 0 q (lane e)) = BitVec.ofNat 32 s.val then (x1 (ix3 0 q (lane e)) : EReal) else 0 := by
  refine (cat_at (fun e => k8_pay17 (F := Ideal) (iota .tc S1024x256 32 [1] iota_S1024x256_d1_w32) (View.ld x0 (colRect e)) (View.ld x1 (colRect e))) q e s j hj).trans ?_
  rw [col_at]
  have hi : (colRect e).idx (ix3 0 q 0) = ix3 0 q (lane e) := by
    funext a
    apply Fin.ext
    rw [Rect.idx_unit_val]
    fin_cases a <;> simp [lane]
  rw [View.ld_apply, View.ld_apply, hi]

/-- A sum over the rows of the flattened outputs is the sum over experts and slots. -/
theorem sum_flat (f : Fin 4096 → EReal) : ∑ j, f j = ∑ e : Fin 16, ∑ s : Fin 256, f ⟨256 * e.val + s.val, by omega⟩ := by
  rw [← (finProdFinEquiv (m := 16) (n := 256)).sum_comp f, Fintype.sum_prod_type]
  refine Finset.sum_congr rfl fun e _ => Finset.sum_congr rfl fun s _ => congrArg f (Fin.ext ?_)
  show (s : ℕ) + 256 * e = 256 * e + s
  omega

/-- What the body leaves in its output block, from the blocks it reads. -/
theorem out_at (x0 : Vec Ideal S1x1024x128 .i32) (x1 : Vec Ideal S1x1024x128 .f32) (x2 : Vec Ideal S1x16x256x1024 .bf16) (x3 : Vec Ideal S1x1024x1024 .f32)
    (x4 : Vec Ideal S1x6x1024 .f32) (x5 : Vec Ideal S1x1024 .f32) (q k : Fin 1024) :
    out8_6 x0 x1 x2 x3 x4 x5 (ix3 0 q k)
      = rms (fun d => (x3 (ix3 0 q d) : EReal) + x4 (ix3 0 5 d) * ∑ e : Fin 16, ∑ s : Fin 256,
          (if (x0 : IVec S1x1024x128 32) (ix3 0 q (lane e)) = BitVec.ofNat 32 s.val then (x1 (ix3 0 q (lane e)) : EReal) else 0) * x2 (ix4 0 e s d)) (x5 (ix2 0 k)) k := by
  have h5 : View.ld x5 r8_19 = x5 := View.ld_unit_lit _ _ (by decide)
  have h3 : View.ld x3 r8_17 = x3 := View.ld_unit_lit _ _ (by decide)
  have h2 : View.ld x2 r8_16 = x2 := View.ld_unit_lit _ _ (by decide)
  have h4 : ∀ d : Fin 1024, View.ld x4 r8_18 (ix3 0 0 d) = x4 (ix3 0 5 d) := by
    intro d
    rw [View.ld_apply]
    congr 1
    funext a
    apply Fin.ext
    rw [Rect.idx_unit_val]
    fin_cases a <;> simp
  unfold out8_6 k8_pay20
  rw [View.canon_cons_unit_lit _ _ _ (by decide), h5, h3, h2]
  refine last_at _ _ _ _ _ q k _ fun d => ?_
  rw [h4, sum_flat]
  congr 2
  refine Finset.sum_congr rfl fun e _ => Finset.sum_congr rfl fun s _ => ?_
  rw [scat_at x0 x1 q e s _ rfl, flat_at x2 e s _ rfl d]

/-- The same, when the blocks' rows are those of the whole arrays. -/
theorem out_of (x0 : Vec Ideal S1x1024x128 .i32) (x1 : Vec Ideal S1x1024x128 .f32) (x2 : Vec Ideal S1x16x256x1024 .bf16) (x3 : Vec Ideal S1x1024x1024 .f32)
    (x4 : Vec Ideal S1x6x1024 .f32) (x5 : Vec Ideal S1x1024 .f32)
    (R : IVec S32x2048x128 32) (G : FVec Ideal S32x2048x128 .f32) (Y : FVec Ideal S32x16x256x1024 .bf16)
    (X : FVec Ideal S32x2048x1024 .f32) (M : FVec Ideal S40x6x1024 .f32) (N : FVec Ideal S1024 .f32)
    (b : Fin 32) (r : Fin 2048) (q k : Fin 1024)
    (h0 : ∀ l, x0 (ix3 0 q l) = R (ix3 b r l)) (h1 : ∀ l, x1 (ix3 0 q l) = G (ix3 b r l)) (h2 : ∀ e s d, x2 (ix4 0 e s d) = Y (ix4 b e s d))
    (h3 : ∀ d, x3 (ix3 0 q d) = X (ix3 b r d)) (h4 : ∀ d, x4 (ix3 0 5 d) = M (ix3 ⟨b.val, by omega⟩ 5 d)) (h5 : ∀ d, x5 (ix2 0 d) = N (ix1 d)) :
    out8_6 x0 x1 x2 x3 x4 x5 (ix3 0 q k) = rms (resid R G Y X M b r) (N (ix1 k)) k := by
  rw [out_at]
  simp only [h0, h1, h2, h3, h4, h5]
  rfl

variable (V : (c : Dev nD) → (b : Ref sig .tc) → Buf (Elt Ideal) ((c : Thread nD τ).loc b))

theorem idx : ∀ t : Fin cfg8.N, win8_0.index t = ![t.val / 2, t.val % 2, 0] ∧ win8_1.index t = ![t.val / 2, t.val % 2, 0]
    ∧ win8_2.index t = ![t.val / 2, 0, 0, 0] ∧ win8_3.index t = ![t.val / 2, t.val % 2, 0] ∧ win8_4.index t = ![t.val / 2, 0, 0]
    ∧ win8_5.index t = ![0, 0] ∧ win8_6.index t = ![t.val / 2, t.val % 2, 0] ∧ t.val < 64 :=
  (by decide +kernel : ∀ t : Fin grid8.N, _)

theorem blk_0 (c : Dev nD) (t : Fin cfg8.N) (q : Fin 1024) (l : Fin 128) (b : Fin 32) (hb : (b : ℕ) = t.val / 2) (r : Fin 2048) (hr : (r : ℕ) = t.val % 2 * 1024 + q) :
    (iblk8 V c 0 t : Vec Ideal S1x1024x128 .i32) (ix3 0 q l) = V c main_arg17 (ix3 b r l) := by
  blk_point [iblk8, idx t]

theorem blk_1 (c : Dev nD) (t : Fin cfg8.N) (q : Fin 1024) (l : Fin 128) (b : Fin 32) (hb : (b : ℕ) = t.val / 2) (r : Fin 2048) (hr : (r : ℕ) = t.val % 2 * 1024 + q) :
    (iblk8 V c 1 t : Vec Ideal S1x1024x128 .f32) (ix3 0 q l) = V c main_arg18 (ix3 b r l) := by
  blk_point [iblk8, idx t]

theorem blk_2 (c : Dev nD) (t : Fin cfg8.N) (e : Fin 16) (s : Fin 256) (d : Fin 1024) (b : Fin 32) (hb : (b : ℕ) = t.val / 2) :
    (iblk8 V c 2 t : Vec Ideal S1x16x256x1024 .bf16) (ix4 0 e s d) = V c main_v78 (ix4 b e s d) := by
  blk_point [iblk8, idx t]

theorem blk_3 (c : Dev nD) (t : Fin cfg8.N) (q : Fin 1024) (d : Fin 1024) (b : Fin 32) (hb : (b : ℕ) = t.val / 2) (r : Fin 2048) (hr : (r : ℕ) = t.val % 2 * 1024 + q) :
    (iblk8 V c 3 t : Vec Ideal S1x1024x1024 .f32) (ix3 0 q d) = V c main_v77_0 (ix3 b r d) := by
  blk_point [iblk8, idx t]

theorem blk_4 (c : Dev nD) (t : Fin cfg8.N) (i : Fin 6) (d : Fin 1024) (b : Fin 40) (hb : (b : ℕ) = t.val / 2) :
    (iblk8 V c 4 t : Vec Ideal S1x6x1024 .f32) (ix3 0 i d) = V c main_v7 (ix3 b i d) := by
  blk_point [iblk8, idx t]

theorem blk_5 (c : Dev nD) (t : Fin cfg8.N) (d : Fin 1024) :
    (iblk8 V c 5 t : Vec Ideal S1x1024 .f32) (ix2 0 d) = V c main_v79 (ix2 0 d) := by
  blk_point [iblk8, idx t]

/-- The same block as the rows of the whole result it is. -/
theorem point (c : Dev nD) (t : Fin cfg8.N) (N : FVec Ideal S1024 .f32) (hN : ∀ k, (V c main_v79 : FVec Ideal S1x1024 .f32) (ix2 0 k) = N (ix1 k))
    (y1 y2 : Fin 1024) (b : Fin 32) (r : Fin 2048) (e0 : (b : ℕ) = t.val / 2) (e1 : (r : ℕ) = t.val % 2 * 1024 + y1) :
    out8_6 (iblk8 V c 0 t) (iblk8 V c 1 t) (iblk8 V c 2 t) (iblk8 V c 3 t) (iblk8 V c 4 t) (iblk8 V c 5 t) (ix3 0 y1 y2)
      = rms (resid (V c main_arg17) (V c main_arg18) (V c main_v78) (V c main_v77_0) (V c main_v7) b r) (N (ix1 y2)) y2 := by
  exact out_of _ _ _ _ _ _ _ _ _ _ _ N b r y1 y2 (fun l => blk_0 V c t y1 l b e0 r e1) (fun l => blk_1 V c t y1 l b e0 r e1) (fun e s d => blk_2 V c t e s d b e0)
    (fun d => blk_3 V c t y1 d b e0 r e1) (fun d => blk_4 V c t 5 d _ e0) (fun d => (blk_5 V c t d).trans (hN d))

/-- The array after the call, from the arrays it is entered with. -/
theorem final (c : Dev nD) (N : FVec Ideal S1024 .f32) (hN : ∀ k, (V c main_v79 : FVec Ideal S1x1024 .f32) (ix2 0 k) = N (ix1 k)) :
    (dat8 V c).arrAt 6 cfg8.N = outArr (V c main_arg17) (V c main_arg18) (V c main_v78) (V c main_v77_0) (V c main_v7) N := by
  refine (dat8 V c).arrAt_eq_of_covers 6 _ (by decide +kernel) fun t _ y => ?_
  blk_simp
  rw [after8_6]
  have ht := (idx t).2.2.2.2.2.2.2
  have e0 : ((((View.whole main_v80).slice (win8_6.rect t)).emb y 0 : Fin _) : ℕ) = t.val / 2 + (y 0 : ℕ) := by blk_simp [idx t] <;> try omega
  have e1 : ((((View.whole main_v80).slice (win8_6.rect t)).emb y 1 : Fin _) : ℕ) = t.val % 2 * 1024 + (y 1 : ℕ) := by blk_simp [idx t] <;> try omega
  have e2 : ((((View.whole main_v80).slice (win8_6.rect t)).emb y 2 : Fin _) : ℕ) = (y 2 : ℕ) := by blk_simp [idx t] <;> try omega
  generalize ((View.whole main_v80).slice (win8_6.rect t)).emb y = j at e0 e1 e2
  idx_vars y
  obtain rfl : y0 = 0 := Subsingleton.elim _ _
  refine (point V c t N hN y1 y2 (j 0) (j 1) (by simpa using e0) e1).trans ?_
  obtain rfl : j 2 = y2 := Fin.ext e2
  rfl

end Cert.Combine

end
-- ==== Proof.Layer.Value.lean ====
/- The calls in succession: what they leave in the four result arrays, as functions of the arguments. -/
module

public import proofs.«01_k».proof.Proof.NA.Body
public import proofs.«01_k».proof.Proof.NA.Host
public import proofs.«01_k».proof.Proof.Layer.Tab
public import proofs.«01_k».proof.Proof.Layer.Cond
public import proofs.«01_k».proof.Proof.Layer.Run
public import proofs.«01_k».proof.Proof.Layer.Mod
public import proofs.«01_k».proof.Proof.Layer.Proj
public import proofs.«01_k».proof.Proof.Layer.Ctx
public import proofs.«01_k».proof.Proof.Layer.Merge
public import proofs.«01_k».proof.Proof.Experts.Body
public import proofs.«01_k».proof.Proof.Combine.Body

@[expose] public section

set_option maxRecDepth 16384

noncomputable section

namespace Cert.Layer

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The arguments of a device's memory. -/
def args (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22)⟩

theorem cond_eq (c : Dev nD) (r : Fin 40) (d : Fin 1024) :
    (V1 m ρ c main_v4 : FVec Ideal S40x1024 .f32) (ix2 r d) = condRow (args m c).c (args m c).cx r d := by
  have h : (V1 m ρ c main_v4 : FVec Ideal S40x1024 .f32)
      = Host.scatter scatter_S40x1024_S1_S1024_0_0_0_0 (fun _ b => b)
          (Host.scatter scatter_S40x1024_S1_S32x1024_01_n_0_0 (fun _ b => b) (broadcastInDim S40x1024 ![] bcast_S_S40x1024 (constant (F := Ideal) S_ .f32 0x00000000#32) : FVec Ideal S40x1024 .f32)
            (broadcastInDim S1 ![] bcast_S_S1 (constantI S_ 32 0#32) : IVec S1 32) ((args m c).c))
          (broadcastInDim S1 ![] bcast_S_S1 (constantI S_ 32 32#32) : IVec S1 32) ((args m c).cx) := by
    show StableHlo.after hostOps0 (W0 m ρ c) (Proc.devRef .tc main_v4) = _
    unfold hostOps0
    after_results
    try rfl
  rw [h, row_at _ _ rfl, rows_at _ _ rfl]
  unfold condRow
  split
  · next h1 => rw [dif_neg (by omega)]
  · next h1 =>
    by_cases h2 : (r : ℕ) < 32
    · rw [dif_pos h2, dif_pos h2]
    · rw [dif_neg h2, dif_neg h2]
      exact Ideal.ofBits_zero_f32

theorem bias_eq (c : Dev nD) (n : Fin 6144) : (V1 m ρ c main_v5 : FVec Ideal S1x6144 .f32) (ix2 0 n) = (args m c).bm (ix1 n) := by
  have h : (V1 m ρ c main_v5 : FVec Ideal S1x6144 .f32) = shapeCast S1x6144 ((args m c).bm) shapeCasts_S6144_S1x6144 := by
    show StableHlo.after hostOps0 (W0 m ρ c) (Proc.devRef .tc main_v5) = _
    unfold hostOps0
    after_results
    try rfl
  rw [h]
  pointwise

/-- The modulation call leaves the modulation table. -/
theorem mod_eq (c : Dev nD) (r : Fin 40) (n : Fin 6144) :
    (W2 m ρ c (Proc.devRef .tc main_v6) : FVec Ideal S40x6144 .f32) (ix2 r n) = modVal (condRow (args m c).c (args m c).cx r) (args m c).wm ((args m c).bm (ix1 n)) n := by
  have h : (W2 m ρ c (Proc.devRef .tc main_v6) : FVec Ideal S40x6144 .f32) = modArr (V1 m ρ c main_v4) (V1 m ρ c main_arg4) (V1 m ρ c main_v5) :=
    (W2_arr m ρ c 3).trans (Mod.final (V1 m ρ) c)
  have a4 : V1 m ρ c main_arg4 = (args m c).wm := W1_args m ρ c main_arg4 (by decide)
  rw [h, a4]
  show modVal (fun d => (V1 m ρ c main_v4 : FVec Ideal S40x1024 .f32) (ix2 r d)) (args m c).wm ((V1 m ρ c main_v5 : FVec Ideal S1x6144 .f32) (ix2 0 n)) n = _
  rw [bias_eq m ρ c n]
  congr 1
  funext d
  exact cond_eq m ρ c r d

theorem tab3 (c : Dev nD) : (V3 m ρ c main_v7 : FVec Ideal S40x6x1024 .f32) = modTab (args m c) := by
  have h : (V3 m ρ c main_v7 : FVec Ideal S40x6x1024 .f32) = shapeCast S40x6x1024 (W2 m ρ c (Proc.devRef .tc main_v6) : FVec Ideal S40x6144 .f32) shapeCasts_S40x6144_S40x6x1024 := by
    show StableHlo.after hostOps1 (W2 m ρ c) (Proc.devRef .tc main_v7) = _
    unfold hostOps1
    after_results
    try rfl
  rw [h]
  funext j
  obtain ⟨r, i, d, rfl⟩ : ∃ (r : Fin 40) (i : Fin 6) (d : Fin 1024), j = ix3 r i d := ⟨j 0, j 1, j 2, (ix3_eta j).symm⟩
  refine Eq.trans ?_ (mod_eq m ρ c r (chunk i d))
  generalize (W2 m ρ c (Proc.devRef .tc main_v6) : FVec Ideal S40x6144 .f32) = T
  pointwise [chunk]

theorem gain3 (c : Dev nD) : (V3 m ρ c main_v8 : FVec Ideal S1x1024 .f32) = row (args m c).g1 := by
  have h : (V3 m ρ c main_v8 : FVec Ideal S1x1024 .f32) = shapeCast S1x1024 (W2 m ρ c (Proc.devRef .tc main_arg6) : FVec Ideal S1024 .f32) shapeCasts_S1024_S1x1024 := by
    show StableHlo.after hostOps1 (W2 m ρ c) (Proc.devRef .tc main_v8) = _
    unfold hostOps1
    after_results
    try rfl
  rw [h, show W2 m ρ c (Proc.devRef .tc main_arg6) = (args m c).g1 from W2_args m ρ c main_arg6 (by decide)]
  generalize (args m c).g1 = T
  funext j
  obtain ⟨a, d, rfl⟩ : ∃ a d, j = ix2 a d := ⟨j 0, j 1, (ix2_eta j).symm⟩
  pointwise [row]

theorem bias3 (c : Dev nD) : (V3 m ρ c main_v9 : FVec Ideal S1x5120 .f32) = rowIn (args m c).bi := by
  have h : (V3 m ρ c main_v9 : FVec Ideal S1x5120 .f32) = shapeCast S1x5120 (W2 m ρ c (Proc.devRef .tc main_arg9) : FVec Ideal S5120 .f32) shapeCasts_S5120_S1x5120 := by
    show StableHlo.after hostOps1 (W2 m ρ c) (Proc.devRef .tc main_v9) = _
    unfold hostOps1
    after_results
    try rfl
  rw [h, show W2 m ρ c (Proc.devRef .tc main_arg9) = (args m c).bi from W2_args m ρ c main_arg9 (by decide)]
  generalize (args m c).bi = T
  funext j
  obtain ⟨a, d, rfl⟩ : ∃ a d, j = ix2 a d := ⟨j 0, j 1, (ix2_eta j).symm⟩
  pointwise [rowIn]

theorem gain5 (c : Dev nD) : (V5 m ρ c main_v14 : FVec Ideal S1x1024 .f32) = row (args m c).g1 := by
  have h : (V5 m ρ c main_v14 : FVec Ideal S1x1024 .f32) = shapeCast S1x1024 (W4 m ρ c (Proc.devRef .tc main_arg6) : FVec Ideal S1024 .f32) shapeCasts_S1024_S1x1024 := by
    show StableHlo.after hostOps2 (W4 m ρ c) (Proc.devRef .tc main_v14) = _
    unfold hostOps2
    after_results
    try rfl
  rw [h, show W4 m ρ c (Proc.devRef .tc main_arg6) = (args m c).g1 from W4_args m ρ c main_arg6 (by decide)]
  generalize (args m c).g1 = T
  funext j
  obtain ⟨a, d, rfl⟩ : ∃ a d, j = ix2 a d := ⟨j 0, j 1, (ix2_eta j).symm⟩
  pointwise [row]

theorem gain22 (c : Dev nD) : (V22 m ρ c main_v76 : FVec Ideal S1x1024 .f32) = row (args m c).g2 := by
  have h : (V22 m ρ c main_v76 : FVec Ideal S1x1024 .f32) = shapeCast S1x1024 (W21 m ρ c (Proc.devRef .tc main_arg7) : FVec Ideal S1024 .f32) shapeCasts_S1024_S1x1024 := by
    show StableHlo.after hostOps6 (W21 m ρ c) (Proc.devRef .tc main_v76) = _
    unfold hostOps6
    after_results
    try rfl
  rw [h, show W21 m ρ c (Proc.devRef .tc main_arg7) = (args m c).g2 from W21_args m ρ c main_arg7 (by decide)]
  generalize (args m c).g2 = T
  funext j
  obtain ⟨a, d, rfl⟩ : ∃ a d, j = ix2 a d := ⟨j 0, j 1, (ix2_eta j).symm⟩
  pointwise [row]

theorem zx4 (c : Dev nD) : (W4 m ρ c (Proc.devRef .tc main_v10) : FVec Ideal S32x2048x5120 .bf16) = zxRes (args m c) := by
  refine ((W4_arr m ρ c 5).trans (Proj.final (V3 m ρ) c)).trans ?_
  rw [tab3, gain3, bias3]
  have a0 : V3 m ρ c main_arg0 = (args m c).x := W3_args m ρ c main_arg0 (by decide)
  have a8 : V3 m ρ c main_arg8 = (args m c).wi := W3_args m ρ c main_arg8 (by decide)
  rw [a0, a8]
  rfl

theorem tab5 (c : Dev nD) : (V5 m ρ c main_v7 : FVec Ideal S40x6x1024 .f32) = modTab (args m c) :=
  ((W5_of m ρ c main_v7 (by decide)).trans (W4_of m ρ c main_v7 (by decide))).trans (tab3 m ρ c)

theorem tab22 (c : Dev nD) : (V22 m ρ c main_v7 : FVec Ideal S40x6x1024 .f32) = modTab (args m c) :=
  ((W22_of m ρ c main_v7 (by decide)).trans ((W21_of m ρ c main_v7 (by decide)).trans ((W20_of m ρ c main_v7 (by decide)).trans ((W19_of m ρ c main_v7 (by decide)).trans ((W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans (W6_of m ρ c main_v7 (by decide)))))))))))))))))).trans (tab5 m ρ c)

theorem tab25 (c : Dev nD) : (V25 m ρ c main_v7 : FVec Ideal S40x6x1024 .f32) = modTab (args m c) :=
  ((W25_of m ρ c main_v7 (by decide)).trans ((W24_of m ρ c main_v7 (by decide)).trans (W23_of m ρ c main_v7 (by decide)))).trans (tab22 m ρ c)

theorem zx20 (c : Dev nD) : (V20 m ρ c main_v10 : FVec Ideal S32x2048x5120 .bf16) = zxRes (args m c) :=
  ((W20_of m ρ c main_v10 (by decide)).trans ((W19_of m ρ c main_v10 (by decide)).trans ((W18_of m ρ c main_v10 (by decide)).trans ((W17_of m ρ c main_v10 (by decide)).trans ((W16_of m ρ c main_v10 (by decide)).trans ((W15_of m ρ c main_v10 (by decide)).trans ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans (W5_of m ρ c main_v10 (by decide))))))))))))))))).trans (zx4 m ρ c)

theorem zx22 (c : Dev nD) : (V22 m ρ c main_v10 : FVec Ideal S32x2048x5120 .bf16) = zxRes (args m c) :=
  ((W22_of m ρ c main_v10 (by decide)).trans (W21_of m ρ c main_v10 (by decide))).trans (zx20 m ρ c)

theorem zx26 (c : Dev nD) : (W26 m ρ c (Proc.devRef .tc main_v10) : FVec Ideal S32x2048x5120 .bf16) = zxRes (args m c) :=
  ((W26_of m ρ c main_v10 (by decide)).trans ((W25_of m ρ c main_v10 (by decide)).trans ((W24_of m ρ c main_v10 (by decide)).trans (W23_of m ρ c main_v10 (by decide))))).trans (zx22 m ρ c)

/-- The context call's reads. -/
theorem flat5 (c : Dev nD) (b : Fin 32) (s : Fin 256) (d : Fin 1024) :
    (V5 m ρ c main_v11 : FVec Ideal S1x8192x1024 .f32) (ix3 0 ⟨b.val * 256 + s.val, by omega⟩ d) = (args m c).ctx (ix3 b s d) := by
  have h : (V5 m ρ c main_v11 : FVec Ideal S1x8192x1024 .f32) = shapeCast S1x8192x1024 (W4 m ρ c (Proc.devRef .tc main_arg2) : FVec Ideal S32x256x1024 .f32) shapeCasts_S32x256x1024_S1x8192x1024 := by
    show StableHlo.after hostOps2 (W4 m ρ c) (Proc.devRef .tc main_v11) = _
    unfold hostOps2
    after_results
    try rfl
  rw [h, show W4 m ρ c (Proc.devRef .tc main_arg2) = (args m c).ctx from W4_args m ρ c main_arg2 (by decide)]
  generalize (args m c).ctx = T
  refine (shapeCast_apply T shapeCasts_S32x256x1024_S1x8192x1024 _ (ix3 b s d) ?_)
  rw [rowMajor_val3 _ 262144 1024 rfl rfl, rowMajor_val3 _ 8388608 1024 rfl rfl]
  show b.val * 262144 + s.val * 1024 + d.val = 0 * 8388608 + (b.val * 256 + s.val) * 1024 + d.val
  omega

theorem cols5 (c : Dev nD) (d n : Fin 1024) :
    (V5 m ρ c main_v12 : FVec Ideal S1024x1024 .bf16) (ix2 d n) = (args m c).wi (ix2 d ⟨2048 + n.val, by omega⟩) := by
  have h : (V5 m ρ c main_v12 : FVec Ideal S1024x1024 .bf16) = extractStridedSlice S1024x1024 ![0, 2048] (W4 m ρ c (Proc.devRef .tc main_arg8) : FVec Ideal S1024x5120 .bf16) slices_S1024x5120_S1024x1024_0_2048 := by
    show StableHlo.after hostOps2 (W4 m ρ c) (Proc.devRef .tc main_v12) = _
    unfold hostOps2
    after_results
    try rfl
  rw [h, show W4 m ρ c (Proc.devRef .tc main_arg8) = (args m c).wi from W4_args m ρ c main_arg8 (by decide)]
  generalize (args m c).wi = T
  pointwise

theorem bias5 (c : Dev nD) (n : Fin 1024) :
    (V5 m ρ c main_v15 : FVec Ideal S1x1024 .f32) (ix2 0 n) = (args m c).bi (ix1 ⟨2048 + n.val, by omega⟩) := by
  have h : (V5 m ρ c main_v15 : FVec Ideal S1x1024 .f32) = shapeCast S1x1024 (extractStridedSlice S1024 ![2048] (W4 m ρ c (Proc.devRef .tc main_arg9) : FVec Ideal S5120 .f32) slices_S5120_S1024_2048) shapeCasts_S1024_S1x1024 := by
    show StableHlo.after hostOps2 (W4 m ρ c) (Proc.devRef .tc main_v15) = _
    unfold hostOps2
    after_results
    try rfl
  rw [h, show W4 m ρ c (Proc.devRef .tc main_arg9) = (args m c).bi from W4_args m ρ c main_arg9 (by decide)]
  generalize (args m c).bi = T
  pointwise

theorem kv7 (c : Dev nD) : (W7 m ρ c (Proc.devRef .tc main_v17) : FVec Ideal S32x256x1024 .bf16) = kvRes (args m c) := by
  have h : (W7 m ρ c (Proc.devRef .tc main_v17) : FVec Ideal S32x256x1024 .bf16) = shapeCast S32x256x1024 (W6 m ρ c (Proc.devRef .tc main_v16) : FVec Ideal S1x8192x1024 .bf16) shapeCasts_S1x8192x1024_S32x256x1024 := by
    show StableHlo.after hostOps3 (W6 m ρ c) (Proc.devRef .tc main_v17) = _
    unfold hostOps3
    after_results
    try rfl
  have hk : (W6 m ρ c (Proc.devRef .tc main_v16) : FVec Ideal S1x8192x1024 .bf16) = kvArr (V5 m ρ c main_v11) (V5 m ρ c main_v7) (V5 m ρ c main_v14) (V5 m ρ c main_v12) (V5 m ρ c main_v15) :=
    (W6_arr m ρ c 5).trans (Ctx.final (V5 m ρ) c)
  rw [h, hk, tab5, gain5]
  funext j
  obtain ⟨b, s, k, rfl⟩ : ∃ (b : Fin 32) (s : Fin 256) (k : Fin 1024), j = ix3 b s k := ⟨j 0, j 1, j 2, (ix3_eta j).symm⟩
  refine (shapeCast_apply _ shapeCasts_S1x8192x1024_S32x256x1024 _ (ix3 0 ⟨b.val * 256 + s.val, by omega⟩ k) ?_).trans ?_
  · rw [rowMajor_val3 _ 8388608 1024 rfl rfl, rowMajor_val3 _ 262144 1024 rfl rfl]
    show 0 * 8388608 + (b.val * 256 + s.val) * 1024 + k.val = b.val * 262144 + s.val * 1024 + k.val
    omega
  have hx : (fun d => (V5 m ρ c main_v11 : FVec Ideal S1x8192x1024 .f32) (ix3 0 ⟨b.val * 256 + s.val, by omega⟩ d)) = fun d => (args m c).ctx (ix3 b s d) := funext fun d => flat5 m ρ c b s d
  have hw : (fun d => (V5 m ρ c main_v12 : FVec Ideal S1024x1024 .bf16) (ix2 d k)) = fun d => (args m c).wi (ix2 d ⟨2048 + k.val, by omega⟩) := funext fun d => cols5 m ρ c d k
  show affine (norm (fun d => (V5 m ρ c main_v11 : FVec Ideal S1x8192x1024 .f32) (ix3 0 ⟨b.val * 256 + s.val, by omega⟩ d)) (fun d => row (args m c).g1 (ix2 0 d))
      (fun d => modTab (args m c) (ix3 32 0 d)) (fun d => modTab (args m c) (ix3 32 1 d)))
    (fun d => (V5 m ρ c main_v12 : FVec Ideal S1024x1024 .bf16) (ix2 d k)) ((V5 m ρ c main_v15 : FVec Ideal S1x1024 .f32) (ix2 0 k)) = _
  rw [hx, hw, bias5 m ρ c k]
  rfl

theorem kv20 (c : Dev nD) : (V20 m ρ c main_v17 : FVec Ideal S32x256x1024 .bf16) = kvRes (args m c) :=
  ((W20_of m ρ c main_v17 (by decide)).trans ((W19_of m ρ c main_v17 (by decide)).trans ((W18_of m ρ c main_v17 (by decide)).trans ((W17_of m ρ c main_v17 (by decide)).trans ((W16_of m ρ c main_v17 (by decide)).trans ((W15_of m ρ c main_v17 (by decide)).trans ((W14_of m ρ c main_v17 (by decide)).trans ((W13_of m ρ c main_v17 (by decide)).trans ((W12_of m ρ c main_v17 (by decide)).trans ((W11_of m ρ c main_v17 (by decide)).trans ((W10_of m ρ c main_v17 (by decide)).trans ((W9_of m ρ c main_v17 (by decide)).trans (W8_of m ρ c main_v17 (by decide)))))))))))))).trans (kv7 m ρ c)

theorem kv26 (c : Dev nD) : (W26 m ρ c (Proc.devRef .tc main_v17) : FVec Ideal S32x256x1024 .bf16) = kvRes (args m c) :=
  ((W26_of m ρ c main_v17 (by decide)).trans ((W25_of m ρ c main_v17 (by decide)).trans ((W24_of m ρ c main_v17 (by decide)).trans ((W23_of m ρ c main_v17 (by decide)).trans ((W22_of m ρ c main_v17 (by decide)).trans (W21_of m ρ c main_v17 (by decide))))))).trans (kv20 m ρ c)

theorem turn22 (c : Dev nD) : (V22 m ρ c main_v75 : FVec Ideal S16x1024 .f32) = turned (args m c).wr := by
  have h : (V22 m ρ c main_v75 : FVec Ideal S16x1024 .f32) = transpose S16x1024 [1, 0] (W21 m ρ c (Proc.devRef .tc main_arg15) : FVec Ideal S1024x16 .f32) transposes_S1024x16_S16x1024_1_0 := by
    show StableHlo.after hostOps6 (W21 m ρ c) (Proc.devRef .tc main_v75) = _
    unfold hostOps6
    after_results
    try rfl
  rw [h, show W21 m ρ c (Proc.devRef .tc main_arg15) = (args m c).wr from W21_args m ρ c main_arg15 (by decide)]
  generalize (args m c).wr = T
  funext j
  obtain ⟨a, d, rfl⟩ : ∃ a d, j = ix2 a d := ⟨j 0, j 1, (ix2_eta j).symm⟩
  pointwise [turned]

/-- The attention call leaves the attention of the two projections and the relative biases. -/
theorem na22 (c : Dev nD) : (V22 m ρ c main_v74 : FVec Ideal S32x2048x512 .bf16) = naRes (args m c) := by
  refine ((W22_of m ρ c main_v74 (by decide)).trans ((W21_arr m ρ c 5).trans (Cert.NA.final (V20 m ρ) c (args m c).rpb (Cert.NA.Host.tables m ρ c)))).trans ?_
  rw [zx20, kv20]
  rfl

theorem merged (c : Dev nD) : (W23 m ρ c (Proc.devRef .tc main_v77_0) : FVec Ideal S32x2048x1024 .f32) = x1Res (args m c) := by
  refine ((W23_arr m ρ c 11).trans (Merge.final11 (V22 m ρ) c)).trans ?_
  have a10 : V22 m ρ c main_arg10 = (args m c).hy := W22_args m ρ c main_arg10 (by decide)
  have a0 : V22 m ρ c main_arg0 = (args m c).x := W22_args m ρ c main_arg0 (by decide)
  have a12 : V22 m ρ c main_arg12 = (args m c).wh := W22_args m ρ c main_arg12 (by decide)
  have a13 : V22 m ρ c main_arg13 = (args m c).wn := W22_args m ρ c main_arg13 (by decide)
  have a14 : V22 m ρ c main_arg14 = (args m c).wo := W22_args m ρ c main_arg14 (by decide)
  rw [tab22, zx22, a10, na22, a0, a12, a13, a14]
  rfl

theorem normed (c : Dev nD) : (W23 m ρ c (Proc.devRef .tc main_v77_1) : FVec Ideal S32x2048x1024 .bf16) = h2Res (args m c) := by
  refine ((W23_arr m ρ c 12).trans (Merge.final12 (V22 m ρ) c)).trans ?_
  have a10 : V22 m ρ c main_arg10 = (args m c).hy := W22_args m ρ c main_arg10 (by decide)
  have a0 : V22 m ρ c main_arg0 = (args m c).x := W22_args m ρ c main_arg0 (by decide)
  have a12 : V22 m ρ c main_arg12 = (args m c).wh := W22_args m ρ c main_arg12 (by decide)
  have a13 : V22 m ρ c main_arg13 = (args m c).wn := W22_args m ρ c main_arg13 (by decide)
  have a14 : V22 m ρ c main_arg14 = (args m c).wo := W22_args m ρ c main_arg14 (by decide)
  rw [tab22, zx22, gain22, a10, na22, a0, a12, a13, a14]
  rfl

theorem logits (c : Dev nD) : (W23 m ρ c (Proc.devRef .tc main_v77_2) : FVec Ideal S32x16x2048 .f32) = logitRes (args m c) := by
  refine ((W23_arr m ρ c 13).trans (Merge.final13 (V22 m ρ) c)).trans ?_
  have a10 : V22 m ρ c main_arg10 = (args m c).hy := W22_args m ρ c main_arg10 (by decide)
  have a0 : V22 m ρ c main_arg0 = (args m c).x := W22_args m ρ c main_arg0 (by decide)
  have a12 : V22 m ρ c main_arg12 = (args m c).wh := W22_args m ρ c main_arg12 (by decide)
  have a13 : V22 m ρ c main_arg13 = (args m c).wn := W22_args m ρ c main_arg13 (by decide)
  have a14 : V22 m ρ c main_arg14 = (args m c).wo := W22_args m ρ c main_arg14 (by decide)
  rw [tab22, zx22, gain22, turn22, a10, na22, a0, a12, a13, a14]
  rfl

theorem logits26 (c : Dev nD) : (W26 m ρ c (Proc.devRef .tc main_v77_2) : FVec Ideal S32x16x2048 .f32) = logitRes (args m c) :=
  (((W26_of m ρ c main_v77_2 (by decide)).trans (W25_of m ρ c main_v77_2 (by decide))).trans (W24_of m ρ c main_v77_2 (by decide))).trans (logits m ρ c)

theorem merged25 (c : Dev nD) : (V25 m ρ c main_v77_0 : FVec Ideal S32x2048x1024 .f32) = x1Res (args m c) :=
  ((W25_of m ρ c main_v77_0 (by decide)).trans (W24_of m ρ c main_v77_0 (by decide))).trans (merged m ρ c)

theorem normed23 (c : Dev nD) : (V23 m ρ c main_v77_1 : FVec Ideal S32x2048x1024 .bf16) = h2Res (args m c) := normed m ρ c

theorem experts25 (c : Dev nD) : (V25 m ρ c main_v78 : FVec Ideal S32x16x256x1024 .bf16)
    = Cert.Experts.outArr (args m c).rk (h2Res (args m c)) (args m c).wg (args m c).wu (args m c).wd := by
  refine (((W25_of m ρ c main_v78 (by decide)).trans (W24_arr m ρ c 5)).trans (Cert.Experts.final (V23 m ρ) c)).trans ?_
  have a16 : V23 m ρ c main_arg16 = (args m c).rk := W23_args m ρ c main_arg16 (by decide)
  have a19 : V23 m ρ c main_arg19 = (args m c).wg := W23_args m ρ c main_arg19 (by decide)
  have a20 : V23 m ρ c main_arg20 = (args m c).wu := W23_args m ρ c main_arg20 (by decide)
  have a21 : V23 m ρ c main_arg21 = (args m c).wd := W23_args m ρ c main_arg21 (by decide)
  rw [normed23, a16, a19, a20, a21]

theorem gain25 (c : Dev nD) (k : Fin 1024) : (V25 m ρ c main_v79 : FVec Ideal S1x1024 .f32) (ix2 0 k) = (args m c).gf (ix1 k) := by
  have h : (V25 m ρ c main_v79 : FVec Ideal S1x1024 .f32) = shapeCast S1x1024 (W24 m ρ c (Proc.devRef .tc main_arg22) : FVec Ideal S1024 .f32) shapeCasts_S1024_S1x1024 := by
    show StableHlo.after hostOps8 (W24 m ρ c) (Proc.devRef .tc main_v79) = _
    unfold hostOps8
    after_results
    try rfl
  rw [h, show W24 m ρ c (Proc.devRef .tc main_arg22) = (args m c).gf from W24_args m ρ c main_arg22 (by decide)]
  generalize (args m c).gf = T
  pointwise

theorem out26 (c : Dev nD) : (W26 m ρ c (Proc.devRef .tc main_v80) : FVec Ideal S32x2048x1024 .f32) = outRes (args m c) := by
  refine ((W26_arr m ρ c 6).trans (Cert.Combine.final (V25 m ρ) c _ (gain25 m ρ c))).trans ?_
  have a17 : V25 m ρ c main_arg17 = (args m c).rt := W25_args m ρ c main_arg17 (by decide)
  have a18 : V25 m ρ c main_arg18 = (args m c).gt := W25_args m ρ c main_arg18 (by decide)
  rw [a17, a18, experts25, merged25, tab25]
  rfl

/-- Every run ends with the four results in their arrays and the arguments unchanged. -/
theorem run : θ_run defs (onTc (τ := τ) (main (F := Ideal))) ⟨m, fun _ => 0, ρ⟩ (fun r => ∀ c : Dev nD,
      r.2.mem ((c : Thread nD τ).loc main_v80) = outRes (args m c)
      ∧ r.2.mem ((c : Thread nD τ).loc main_v10) = zxRes (args m c)
      ∧ r.2.mem ((c : Thread nD τ).loc main_v17) = kvRes (args m c)
      ∧ r.2.mem ((c : Thread nD τ).loc main_v77_2) = logitRes (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)) :=
  (θ_run defs _ _).mono (fun _ h c =>
    ⟨(h c _ (mem_uc main_v80 (by decide))).trans (out26 m ρ c),
     (h c _ (mem_uc main_v10 (by decide))).trans (zx26 m ρ c),
     (h c _ (mem_uc main_v17 (by decide))).trans (kv26 m ρ c),
     (h c _ (mem_uc main_v77_2 (by decide))).trans (logits26 m ρ c),
     (h c _ (mem_uc main_arg0 (by decide))).trans (W26_main_arg0 m ρ c),
     (h c _ (mem_uc main_arg1 (by decide))).trans (W26_main_arg1 m ρ c),
     (h c _ (mem_uc main_arg2 (by decide))).trans (W26_main_arg2 m ρ c),
     (h c _ (mem_uc main_arg3 (by decide))).trans (W26_main_arg3 m ρ c),
     (h c _ (mem_uc main_arg4 (by decide))).trans (W26_main_arg4 m ρ c),
     (h c _ (mem_uc main_arg5 (by decide))).trans (W26_main_arg5 m ρ c),
     (h c _ (mem_uc main_arg6 (by decide))).trans (W26_main_arg6 m ρ c),
     (h c _ (mem_uc main_arg7 (by decide))).trans (W26_main_arg7 m ρ c),
     (h c _ (mem_uc main_arg8 (by decide))).trans (W26_main_arg8 m ρ c),
     (h c _ (mem_uc main_arg9 (by decide))).trans (W26_main_arg9 m ρ c),
     (h c _ (mem_uc main_arg10 (by decide))).trans (W26_main_arg10 m ρ c),
     (h c _ (mem_uc main_arg11 (by decide))).trans (W26_main_arg11 m ρ c),
     (h c _ (mem_uc main_arg12 (by decide))).trans (W26_main_arg12 m ρ c),
     (h c _ (mem_uc main_arg13 (by decide))).trans (W26_main_arg13 m ρ c),
     (h c _ (mem_uc main_arg14 (by decide))).trans (W26_main_arg14 m ρ c),
     (h c _ (mem_uc main_arg15 (by decide))).trans (W26_main_arg15 m ρ c),
     (h c _ (mem_uc main_arg16 (by decide))).trans (W26_main_arg16 m ρ c),
     (h c _ (mem_uc main_arg17 (by decide))).trans (W26_main_arg17 m ρ c),
     (h c _ (mem_uc main_arg18 (by decide))).trans (W26_main_arg18 m ρ c),
     (h c _ (mem_uc main_arg19 (by decide))).trans (W26_main_arg19 m ρ c),
     (h c _ (mem_uc main_arg20 (by decide))).trans (W26_main_arg20 m ρ c),
     (h c _ (mem_uc main_arg21 (by decide))).trans (W26_main_arg21 m ρ c),
     (h c _ (mem_uc main_arg22 (by decide))).trans (W26_main_arg22 m ρ c)⟩) (ends m ρ)

end Cert.Layer

end
-- ==== Proof.Experts.Ref.lean ====
/- The reference's dispatch, a scatter-add of the tokens to their slots, read at one slot, and the reference as the same
   sums. -/
module

public import proofs.«01_k».proof.Proof.Experts.Spec
public import proofs.«01_k».proof.Proof.Gen.ReferenceIdeal.Run
public import Idealize.ShloMosaic.Lib.Routing.OpsPair
public import Idealize.ShloMosaic.Lib.Pipeline.ValueKit

@[expose] public section

set_option maxRecDepth 16384

noncomputable section

namespace Cert.Experts

open Idealize.ShloMosaic Idealize.ShloMosaic.TcCoe Idealize.SL.Sem Cert.ReferenceIdeal Cert.ReferenceIdeal.Gen

abbrev scat := scatter_S32x16x256x1024_S32x16x2048x3_S32x16x2048x1024_3_012_012_3

theorem scat_window (b : Fin 32) (e : Fin 16) (t : Fin 2048) (k : Fin 1024) (a : Fin 4) :
    scat.window (ix4 b e t k) a = if a = 3 then k.val else 0 := by
  fin_cases a <;> rfl

theorem scat_start (I : IVec S32x16x2048x3 32) (b : Fin 32) (e : Fin 16) (t : Fin 2048) (k : Fin 1024) (a : Fin 3) :
    scat.start (ix4 b e t k) I a.castSucc = (I (ix4 b e t a)).toInt := by
  have hs : ∀ (h : a.castSucc ∈ scat.scatterDimsToOperandDims), scat.siIdx (ix4 b e t k) ⟨scat.scatterDimsToOperandDims.idxOf a.castSucc, List.idxOf_lt_length_iff.2 h⟩ = ix4 b e t a := by
    intro h; funext x; fin_cases a <;> fin_cases x <;> rfl
  unfold ScatterDims.start
  have hm : a.castSucc ∈ scat.scatterDimsToOperandDims := by fin_cases a <;> decide
  rw [dif_pos hm, hs hm]

theorem scat_start3 (I : IVec S32x16x2048x3 32) (b : Fin 32) (e : Fin 16) (t : Fin 2048) (k : Fin 1024) :
    scat.start (ix4 b e t k) I 3 = 0 := by
  unfold ScatterDims.start
  rw [dif_neg (by decide)]

/-- Where the update of token `t` for expert `e'` lands. -/
theorem scat_lands (I : IVec S32x16x2048x3 32) (b' : Fin 32) (e' : Fin 16) (t : Fin 2048) (k' : Fin 1024)
    (b : Fin 32) (e : Fin 16) (s : Fin 256) (k : Fin 1024) :
    scat.resultIdx? (ix4 b' e' t k') I = some (ix4 b e s k)
      ↔ (I (ix4 b' e' t 0)).toInt = b.val ∧ (I (ix4 b' e' t 1)).toInt = e.val ∧ (I (ix4 b' e' t 2)).toInt = s.val ∧ k' = k := by
  rw [Routing.resultIdx?_eq_some]
  have h0 := scat_start I b' e' t k' 0
  have h1 := scat_start I b' e' t k' 1
  have h2 := scat_start I b' e' t k' 2
  have h3 := scat_start3 I b' e' t k'
  have w := scat_window b' e' t k'
  constructor
  · intro h
    have a0 := h 0; have a1 := h 1; have a2 := h 2; have a3 := h 3
    rw [w] at a0 a1 a2 a3
    simp at h0 h1 h2 a0 a1 a2 a3
    rw [h0] at a0; rw [h1] at a1; rw [h2] at a2; rw [h3] at a3
    refine ⟨by simpa using a0, by simpa using a1, by simpa using a2, Fin.ext ?_⟩
    have : ((k'.val : ℕ) : Int) = k.val := by simpa using a3
    omega
  · rintro ⟨a0, a1, a2, rfl⟩ a
    rw [w]
    match a with
    | ⟨0, _⟩ => exact (by rw [show scat.start (ix4 b' e' t k') I ⟨0, _⟩ = _ from h0, a0]; simp [ix4])
    | ⟨1, _⟩ => exact (by rw [show scat.start (ix4 b' e' t k') I ⟨1, _⟩ = _ from h1, a1]; simp [ix4])
    | ⟨2, _⟩ => exact (by rw [show scat.start (ix4 b' e' t k') I ⟨2, _⟩ = _ from h2, a2]; simp [ix4])
    | ⟨3, _⟩ => exact (by rw [show scat.start (ix4 b' e' t k') I ⟨3, _⟩ = _ from h3]; simp [ix4])

/-- The scatter-add at one element, when the first two index words are the sample and the expert themselves. -/
theorem scat_sum (X : FVec Ideal S32x16x256x1024 .f32) (I : IVec S32x16x2048x3 32) (U : FVec Ideal S32x16x2048x1024 .f32)
    (hb : ∀ b e t, (I (ix4 b e t 0)).toInt = (b.val : Int)) (he : ∀ b e t, (I (ix4 b e t 1)).toInt = (e.val : Int))
    (b : Fin 32) (e : Fin 16) (s : Fin 256) (k : Fin 1024) :
    (Host.scatterAdd scat X I U : FVec Ideal S32x16x256x1024 .f32) (ix4 b e s k)
      = (X (ix4 b e s k) : EReal) + ∑ t : Fin 2048, if (I (ix4 b e t 2)).toInt = (s.val : Int) then (U (ix4 b e t k) : EReal) else 0 := by
  show (X (ix4 b e s k) : EReal) + ∑ j ∈ Finset.univ.filter (fun j => scat.resultIdx? j I = some (ix4 b e s k)), (U j : EReal) = _
  congr 1
  rw [← Finset.sum_filter]
  refine Finset.sum_nbij' (fun j => (j 2 : Fin 2048)) (fun t => ix4 b e t k) ?_ ?_ ?_ ?_ ?_
  · intro j hj
    obtain ⟨j0, j1, j2, j3, rfl⟩ : ∃ j0 j1 j2 j3, j = ix4 j0 j1 j2 j3 := ⟨j 0, j 1, j 2, j 3, (ix4_eta j).symm⟩
    have h := (scat_lands I _ _ _ _ b e s k).1 (Finset.mem_filter.1 hj).2
    rw [hb, he] at h
    obtain ⟨h0, h1, h2, rfl⟩ := h
    obtain rfl : j0 = b := Fin.ext (by exact_mod_cast h0)
    obtain rfl : j1 = e := Fin.ext (by exact_mod_cast h1)
    exact Finset.mem_filter.2 ⟨Finset.mem_univ _, h2⟩
  · intro t ht
    exact Finset.mem_filter.2 ⟨Finset.mem_univ _, (scat_lands I _ _ _ _ b e s k).2 ⟨hb _ _ _, he _ _ _, (Finset.mem_filter.1 ht).2, rfl⟩⟩
  · intro j hj
    obtain ⟨j0, j1, j2, j3, rfl⟩ : ∃ j0 j1 j2 j3, j = ix4 j0 j1 j2 j3 := ⟨j 0, j 1, j 2, j 3, (ix4_eta j).symm⟩
    have h := (scat_lands I _ _ _ _ b e s k).1 (Finset.mem_filter.1 hj).2
    rw [hb, he] at h
    obtain ⟨h0, h1, h2, rfl⟩ := h
    obtain rfl : j0 = b := Fin.ext (by exact_mod_cast h0)
    obtain rfl : j1 = e := Fin.ext (by exact_mod_cast h1)
    rfl
  · intro t ht; rfl
  · intro j hj
    obtain ⟨j0, j1, j2, j3, rfl⟩ : ∃ j0 j1 j2 j3, j = ix4 j0 j1 j2 j3 := ⟨j 0, j 1, j 2, j 3, (ix4_eta j).symm⟩
    have h := (scat_lands I _ _ _ _ b e s k).1 (Finset.mem_filter.1 hj).2
    rw [hb, he] at h
    obtain ⟨h0, h1, h2, rfl⟩ := h
    obtain rfl : j0 = b := Fin.ext (by exact_mod_cast h0)
    obtain rfl : j1 = e := Fin.ext (by exact_mod_cast h1)
    rfl

/-- jnp's wrap of a small index: it stays. -/
theorem wrap_small (n : ℕ) (a : BitVec 32) (h : n < 2 ^ 31) :
    (Scalar.select (IntOp.cmpi .slt (BitVec.ofNat 32 n) 0#32) a (BitVec.ofNat 32 n)).toInt = (n : Int) := by
  rw [Routing.wrap_of_lt _ _ (by simp; omega), BitVec.toInt_ofNat']
  simp only [Int.bmod]
  omega

/-- The slot word of a rank, after both wraps, reads as slot `s` exactly when the rank is `s`. -/
theorem slot_word (r : BitVec 32) (s : Fin 256) :
    (Scalar.select (IntOp.cmpi .slt (Scalar.select (IntOp.cmpi .slt r 0#32) 256#32 r) 0#32)
      (Scalar.select (IntOp.cmpi .slt r 0#32) 256#32 r + 256#32) (Scalar.select (IntOp.cmpi .slt r 0#32) 256#32 r)).toInt = (s.val : Int)
      ↔ r = BitVec.ofNat 32 s.val := by
  have hs := s.isLt
  by_cases h : r.toInt < 0
  · have e : IntOp.cmpi .slt r 0#32 = 1#1 := by simp [IntOp.cmpi, BitVec.slt, h]
    rw [e]
    constructor
    · intro q
      have : (256 : Int) = s.val := by simpa [Scalar.select, IntOp.cmpi, BitVec.slt] using q
      omega
    · rintro rfl
      rw [BitVec.toInt_ofNat'] at h
      simp only [Int.bmod] at h
      omega
  · have e : IntOp.cmpi .slt r 0#32 = 0#1 := by
      have h' : decide (r.toInt < 0) = false := decide_eq_false h
      simp only [IntOp.cmpi, BitVec.slt, BitVec.toInt_zero, h']
      rfl
    rw [e, show Scalar.select 0#1 256#32 r = r from rfl, e, show Scalar.select 0#1 (r + 256#32) r = r from rfl]
    constructor
    · intro q
      apply BitVec.eq_of_toInt_eq
      rw [q, BitVec.toInt_ofNat']
      simp only [Int.bmod]
      omega
    · rintro rfl
      rw [BitVec.toInt_ofNat']
      simp only [Int.bmod]
      omega

/-- The index words the reference gives its scatter: sample, expert and slot of every token and expert. -/
def words (R : IVec S32x16x2048 32) : IVec S32x16x2048x3 32 :=
  ((concatenate S32x16x2048x3 3 [⟨S32x16x2048x1, ((broadcastInDim S32x16x2048x1 ![0, 1, 2] bcast_S32x16x2048_S32x16x2048x1_0_1_2 (broadcastInDim S32x16x2048 ![0, 1, 2] bcast_S32x1x1_S32x16x2048_0_1_2 (select (cmpi .slt (broadcastInDim S32x1x1 ![0] bcast_S32_S32x1x1_0 (iotaInDim S32 32 0)) (broadcastInDim S32x1x1 ![] bcast_S_S32x1x1 (constantI S_ 32 0#32)))
        (addi (broadcastInDim S32x1x1 ![0] bcast_S32_S32x1x1_0 (iotaInDim S32 32 0)) (broadcastInDim S32x1x1 ![] bcast_S_S32x1x1 (constantI S_ 32 32#32))) (broadcastInDim S32x1x1 ![0] bcast_S32_S32x1x1_0 (iotaInDim S32 32 0))))) : (⟨S32x16x2048x1, .i32⟩ : BufTy).Contents (Elt Ideal))⟩,
      ⟨S32x16x2048x1, ((broadcastInDim S32x16x2048x1 ![0, 1, 2] bcast_S32x16x2048_S32x16x2048x1_0_1_2 (broadcastInDim S32x16x2048 ![0, 1, 2] bcast_S1x16x1_S32x16x2048_0_1_2 (select (cmpi .slt (broadcastInDim S1x16x1 ![1] bcast_S16_S1x16x1_1 (iotaInDim S16 32 0)) (broadcastInDim S1x16x1 ![] bcast_S_S1x16x1 (constantI S_ 32 0#32)))
        (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0))))) : (⟨S32x16x2048x1, .i32⟩ : BufTy).Contents (Elt Ideal))⟩,
      ⟨S32x16x2048x1, ((broadcastInDim S32x16x2048x1 ![0, 1, 2] bcast_S32x16x2048_S32x16x2048x1_0_1_2 (select (cmpi .slt (select (cmpi .slt R (broadcastInDim S32x16x2048 ![] bcast_S_S32x16x2048 (constantI S_ 32 0#32))) (broadcastInDim S32x16x2048 ![] bcast_S_S32x16x2048 (id (constantI S_ 32 256#32))) R) (broadcastInDim S32x16x2048 ![] bcast_S_S32x16x2048 (constantI S_ 32 0#32)))
        (addi (select (cmpi .slt R (broadcastInDim S32x16x2048 ![] bcast_S_S32x16x2048 (constantI S_ 32 0#32))) (broadcastInDim S32x16x2048 ![] bcast_S_S32x16x2048 (id (constantI S_ 32 256#32))) R) (broadcastInDim S32x16x2048 ![] bcast_S_S32x16x2048 (constantI S_ 32 256#32))) (select (cmpi .slt R (broadcastInDim S32x16x2048 ![] bcast_S_S32x16x2048 (constantI S_ 32 0#32))) (broadcastInDim S32x16x2048 ![] bcast_S_S32x16x2048 (id (constantI S_ 32 256#32))) R))) : (⟨S32x16x2048x1, .i32⟩ : BufTy).Contents (Elt Ideal))⟩] concatenates_S32x16x2048x1_S32x16x2048x1_S32x16x2048x1_S32x16x2048x3_d3 : (⟨S32x16x2048x3, .i32⟩ : BufTy).Contents (Elt Ideal)))

theorem words_sample (R : IVec S32x16x2048 32) (b : Fin 32) (e : Fin 16) (t : Fin 2048) : (words R (ix4 b e t 0)).toInt = (b.val : Int) := by
  pointwise [words]
  exact wrap_small _ _ (by omega)

theorem words_expert (R : IVec S32x16x2048 32) (b : Fin 32) (e : Fin 16) (t : Fin 2048) : (words R (ix4 b e t 1)).toInt = (e.val : Int) := by
  pointwise [words]
  exact wrap_small _ _ (by omega)

theorem words_slot (R : IVec S32x16x2048 32) (b : Fin 32) (e : Fin 16) (t : Fin 2048) (s : Fin 256) :
    (words R (ix4 b e t 2)).toInt = (s.val : Int) ↔ R (ix3 b e t) = BitVec.ofNat 32 s.val := by
  rw [← slot_word]
  pointwise [words]
  rfl

/-- The reference's dispatch: every slot's row. -/
def rowsT (R : IVec S32x16x2048 32) (H : FVec Ideal S32x2048x1024 .f32) : FVec Ideal S32x16x256x1024 .f32 :=
  (Host.scatterAdd scatter_S32x16x256x1024_S32x16x2048x3_S32x16x2048x1024_3_012_012_3 (broadcastInDim S32x16x256x1024 ![] bcast_S_S32x16x256x1024 (constant S_ .f32
    0x00000000#32)) (words R) (broadcastInDim S32x16x2048x1024 ![0, 1, 2, 3] bcast_S32x1x2048x1024_S32x16x2048x1024_0_1_2_3 (broadcastInDim S32x1x2048x1024 ![0, 2, 3]
    bcast_S32x2048x1024_S32x1x2048x1024_0_2_3 H)))

/-- The reference's feed-forward of the slots' rows. -/
def ffnT (E : FVec Ideal S32x16x256x1024 .f32) (Wg Wu : FVec Ideal S16x1024x2816 .bf16) (Wd : FVec Ideal S16x2816x1024 .bf16) : FVec Ideal S32x16x256x1024 .f32 :=
  (transpose S32x16x256x1024 [2, 0, 3, 1] (Host.dotGeneral dot_S16x2816x1024_S32x16x256x2816_S16x1024x32x256_1_3_2_02_0_1 none (extf .f32 Wd bitsLt_bf16_f32) (mulf (mulf
    (transpose S32x16x256x2816 [2, 0, 3, 1] (Host.dotGeneral dot_S16x1024x2816_S32x16x256x1024_S16x2816x32x256_1_3_2_02_0_1 none (extf .f32 Wg bitsLt_bf16_f32) E)
    transposes_S16x2816x32x256_S32x16x256x2816_2_0_3_1) (Host.divf (broadcastInDim S32x16x256x2816 ![] bcast_S_S32x16x256x2816 (constant S_ .f32 0x3F800000#32)) (addf
    (broadcastInDim S32x16x256x2816 ![] bcast_S_S32x16x256x2816 (constant S_ .f32 0x3F800000#32)) (Host.exp (Host.negf (transpose S32x16x256x2816 [2, 0, 3, 1]
    (Host.dotGeneral dot_S16x1024x2816_S32x16x256x1024_S16x2816x32x256_1_3_2_02_0_1 none (extf .f32 Wg bitsLt_bf16_f32) E)
    transposes_S16x2816x32x256_S32x16x256x2816_2_0_3_1)))))) (transpose S32x16x256x2816 [2, 0, 3, 1] (Host.dotGeneral
    dot_S16x1024x2816_S32x16x256x1024_S16x2816x32x256_1_3_2_02_0_1 none (extf .f32 Wu bitsLt_bf16_f32) E) transposes_S16x2816x32x256_S32x16x256x2816_2_0_3_1)))
    transposes_S16x1024x32x256_S32x16x256x1024_2_0_3_1)

/-- What the scatter leaves at a slot is the slot's row. -/
theorem rows_at (R : IVec S32x16x2048 32) (H : FVec Ideal S32x2048x1024 .f32) (H' : FVec Ideal S32x2048x1024 .bf16)
    (hH : ∀ b t k, H (ix3 b t k) = H' (ix3 b t k)) (b : Fin 32) (e : Fin 16) (s : Fin 256) (k : Fin 1024) :
    rowsT R H (ix4 b e s k) = slotRow R H' b e s k := by
  refine (scat_sum _ _ _ (words_sample R) (words_expert R) b e s k).trans ?_
  simp only [words_slot]
  pointwise [slotRow]
  simp only [hH]

/-- The feed-forward of the dispatched rows, element by element. -/
theorem ffn_of (R : IVec S32x16x2048 32) (H : FVec Ideal S32x2048x1024 .bf16) (Wg Wu : FVec Ideal S16x1024x2816 .bf16) (Wd : FVec Ideal S16x2816x1024 .bf16)
    (E : FVec Ideal S32x16x256x1024 .f32) (hE : ∀ b e s k, E (ix4 b e s k) = slotRow R H b e s k) :
    ffnT E Wg Wu Wd = outArr R H Wg Wu Wd := by
  funext j
  idx_vars j
  pointwise [ffnT, outArr, out, hidden]
  have hproj : ∀ (W : FVec Ideal S16x1024x2816 .bf16) (f : Fin 2816),
      ∑ d : Fin 1024, (W (ix3 j1 d f) : EReal) * slotRow R H j0 j1 j2 d = proj R H W j0 j1 j2 f := fun W f =>
    Finset.sum_congr rfl fun d _ => mul_comm _ _
  simp only [hE, hproj]
  have hc : ∀ a b : EReal, a * b = b * a := mul_comm
  exact Fin.sum_fin_congr fun f => hc _ _

end Cert.Experts

end
-- ==== Proof.Combine.Ref.lean ====
/- The reference's read-back, a gather of every expert's output at the slot a token holds, as a sum over the slots, and the
   reference as the same sums as the kernel. -/
module

public import proofs.«01_k».proof.Proof.Combine.Spec
public import proofs.«01_k».proof.Proof.Experts.Ref

@[expose] public section

set_option maxRecDepth 16384

noncomputable section

namespace Cert.Combine

open Idealize.ShloMosaic Idealize.ShloMosaic.TcCoe Idealize.SL.Sem Cert.ReferenceIdeal Cert.ReferenceIdeal.Gen

abbrev gat := gather_S32x16x256x1024_S32x2048x16x3_S32x2048x16x1024_3_012_n_n_012_3_1111024

/-- The index words the reference gives its gather: sample, expert and slot of every token and expert. -/
def backWords (RT : IVec S32x2048x128 32) : IVec S32x2048x16x3 32 :=
  ((concatenate S32x2048x16x3 3 [⟨S32x2048x16x1, ((broadcastInDim S32x2048x16x1 ![0, 1, 2] bcast_S32x2048x16_S32x2048x16x1_0_1_2 (broadcastInDim S32x2048x16 ![0, 1, 2]
    bcast_S32x1x1_S32x2048x16_0_1_2 (select (cmpi .slt (broadcastInDim S32x1x1 ![0] bcast_S32_S32x1x1_0 (iotaInDim S32 32 0)) (broadcastInDim S32x1x1 ![] bcast_S_S32x1x1
    (constantI S_ 32 0#32))) (addi (broadcastInDim S32x1x1 ![0] bcast_S32_S32x1x1_0 (iotaInDim S32 32 0)) (broadcastInDim S32x1x1 ![] bcast_S_S32x1x1 (constantI S_ 32
    32#32))) (broadcastInDim S32x1x1 ![0] bcast_S32_S32x1x1_0 (iotaInDim S32 32 0))))) : (⟨S32x2048x16x1, .i32⟩ : BufTy).Contents (Elt Ideal))⟩, ⟨S32x2048x16x1,
    ((broadcastInDim S32x2048x16x1 ![0, 1, 2] bcast_S32x2048x16_S32x2048x16x1_0_1_2 (broadcastInDim S32x2048x16 ![0, 1, 2] bcast_S1x1x16_S32x2048x16_0_1_2 (select (cmpi
    .slt (broadcastInDim S1x1x16 ![2] bcast_S16_S1x1x16_2 (iotaInDim S16 32 0)) (broadcastInDim S1x1x16 ![] bcast_S_S1x1x16 (constantI S_ 32 0#32))) (addi (broadcastInDim
    S1x1x16 ![2] bcast_S16_S1x1x16_2 (iotaInDim S16 32 0)) (broadcastInDim S1x1x16 ![] bcast_S_S1x1x16 (constantI S_ 32 16#32))) (broadcastInDim S1x1x16 ![2]
    bcast_S16_S1x1x16_2 (iotaInDim S16 32 0))))) : (⟨S32x2048x16x1, .i32⟩ : BufTy).Contents (Elt Ideal))⟩, ⟨S32x2048x16x1, ((broadcastInDim S32x2048x16x1 ![0, 1, 2]
    bcast_S32x2048x16_S32x2048x16x1_0_1_2 (select (cmpi .slt (extractStridedSlice S32x2048x16 ![0, 0, 0] RT slices_S32x2048x128_S32x2048x16_0_0_0) (broadcastInDim
    S32x2048x16 ![] bcast_S_S32x2048x16 (constantI S_ 32 0#32))) (addi (extractStridedSlice S32x2048x16 ![0, 0, 0] RT slices_S32x2048x128_S32x2048x16_0_0_0)
    (broadcastInDim S32x2048x16 ![] bcast_S_S32x2048x16 (constantI S_ 32 256#32))) (extractStridedSlice S32x2048x16 ![0, 0, 0] RT slices_S32x2048x128_S32x2048x16_0_0_0)))
    : (⟨S32x2048x16x1, .i32⟩ : BufTy).Contents (Elt Ideal))⟩] concatenates_S32x2048x16x1_S32x2048x16x1_S32x2048x16x1_S32x2048x16x3_d3 : (⟨S32x2048x16x3, .i32⟩ :
    BufTy).Contents (Elt Ideal)))

/-- The reference's read-back. -/
def backT (RT : IVec S32x2048x128 32) (G : FVec Ideal S32x2048x128 .f32) (Y : FVec Ideal S32x16x256x1024 .f32) : FVec Ideal S32x2048x1024 .f32 :=
  (Host.reduceAdd (select (broadcastInDim S32x2048x16x1024 ![0, 1, 2, 3] bcast_S32x2048x16x1_S32x2048x16x1024_0_1_2_3 (broadcastInDim S32x2048x16x1 ![0, 1, 2]
    bcast_S32x2048x16_S32x2048x16x1_0_1_2 (andi (cmpi .sge (extractStridedSlice S32x2048x16 ![0, 0, 0] RT slices_S32x2048x128_S32x2048x16_0_0_0) (broadcastInDim
    S32x2048x16 ![] bcast_S_S32x2048x16 (constantI S_ 32 0#32))) (cmpi .slt (extractStridedSlice S32x2048x16 ![0, 0, 0] RT slices_S32x2048x128_S32x2048x16_0_0_0)
    (broadcastInDim S32x2048x16 ![] bcast_S_S32x2048x16 (constantI S_ 32 256#32)))))) (mulf (broadcastInDim S32x2048x16x1024 ![0, 1, 2, 3]
    bcast_S32x2048x16x1_S32x2048x16x1024_0_1_2_3 (broadcastInDim S32x2048x16x1 ![0, 1, 2] bcast_S32x2048x16_S32x2048x16x1_0_1_2 (extractStridedSlice S32x2048x16 ![0, 0,
    0] G slices_S32x2048x128_S32x2048x16_0_0_0))) (Host.gather gather_S32x16x256x1024_S32x2048x16x3_S32x2048x16x1024_3_012_n_n_012_3_1111024 Y (backWords RT)))
    (broadcastInDim S32x2048x16x1024 ![] bcast_S_S32x2048x16x1024 (id (constant S_ .f32 0x00000000#32)))) (constant S_ .f32 0x00000000#32)
    reducesTo_S32x2048x16x1024_S32x2048x1024_d2 h_S_)

/-- The reference's residual with the experts' part. -/
def resT (X : FVec Ideal S32x2048x1024 .f32) (M : FVec Ideal S32x1x6144 .f32) (FF : FVec Ideal S32x2048x1024 .f32) : FVec Ideal S32x2048x1024 .f32 :=
  addf X (mulf (broadcastInDim S32x2048x1024 ![0, 1, 2] bcast_S32x1x1024_S32x2048x1024_0_1_2 (extractStridedSlice S32x1x1024 ![0, 0, 5120] M
    slices_S32x1x6144_S32x1x1024_0_0_5120)) FF)

/-- The reference's last normalisation. -/
def topT (X : FVec Ideal S32x2048x1024 .f32) (N : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1]
    bcast_S32x2048_S32x2048x1_0_1 (Host.reduceAdd (mulf X X) (constant S_ .f32 0x00000000#32) reducesTo_S32x2048x1024_S32x2048_d2 h_S_)) (broadcastInDim
    S32x2048x1 ![] bcast_S_S32x2048x1 (constant S_ .f32 0x44800000#32))) (broadcastInDim S32x2048x1 ![] bcast_S_S32x2048x1 (constant S_ .f32
    0x358637BD#32)))))) (broadcastInDim S32x2048x1024 ![0, 1, 2] bcast_S1x1x1024_S32x2048x1024_0_1_2 (broadcastInDim S1x1x1024 ![2] bcast_S1024_S1x1x1024_2
    N))

theorem top_at (X : FVec Ideal S32x2048x1024 .f32) (N : FVec Ideal S1024 .f32) (b : Fin 32) (t : Fin 2048) (k : Fin 1024) :
    topT X N (ix3 b t k) = rms (fun d => X (ix3 b t d)) (N (ix1 k)) k := by
  pointwise [topT, rms]

theorem res_at (X : FVec Ideal S32x2048x1024 .f32) (M : FVec Ideal S32x1x6144 .f32) (FF : FVec Ideal S32x2048x1024 .f32) (b : Fin 32) (t : Fin 2048) (k : Fin 1024) :
    resT X M FF (ix3 b t k) = (X (ix3 b t k) : EReal) + M (ix3 b 0 ⟨5120 + k.val, by omega⟩) * FF (ix3 b t k) := by
  pointwise [resT]

/-- Where the gather reads, when the index words are the sample, the expert and a slot. -/
theorem gat_idx (I : IVec S32x2048x16x3 32) (b : Fin 32) (t : Fin 2048) (e : Fin 16) (s : Fin 256) (k : Fin 1024)
    (h0 : (I (ix4 b t e 0)).toInt = (b.val : Int)) (h1 : (I (ix4 b t e 1)).toInt = (e.val : Int)) (h2 : (I (ix4 b t e 2)).toInt = (s.val : Int)) :
    gat.operandIdx (ix4 b t e k) I = ix4 b e s k := by
  have hs : ∀ (a : Fin 3) (h : a.castSucc ∈ gat.startIndexMap), gat.siIdx (ix4 b t e k) ⟨gat.startIndexMap.idxOf a.castSucc, List.idxOf_lt_length_iff.2 h⟩ = ix4 b t e a := by
    intro a h; funext x; fin_cases a <;> fin_cases x <;> rfl
  have hm : ∀ a : Fin 3, a.castSucc ∈ gat.startIndexMap := by intro a; fin_cases a <;> decide
  have st : ∀ a : Fin 3, gat.start (ix4 b t e k) I a.castSucc = min ((I (ix4 b t e a)).toInt).toNat (S32x16x256x1024.size a.castSucc - gat.sliceSizes a.castSucc) := by
    intro a
    unfold GatherDims.start
    rw [dif_pos (hm a), hs a (hm a)]
  have st0 := st 0
  have st1 := st 1
  have st2 := st 2
  rw [h0] at st0
  rw [h1] at st1
  rw [h2] at st2
  have st3 : gat.start (ix4 b t e k) I 3 = 0 := by
    unfold GatherDims.start
    rw [dif_neg (by decide)]
  have hb : ∀ a, gat.batchCoord (ix4 b t e k) a = 0 := fun a => gat.batchCoord_eq_zero _ _ (List.not_mem_nil)
  have hk0 : (0 : Fin 4) ∉ gat.sKept := by decide
  have hk1 : (1 : Fin 4) ∉ gat.sKept := by decide
  have hk2 : (2 : Fin 4) ∉ gat.sKept := by decide
  funext a
  apply Fin.ext
  show gat.start (ix4 b t e k) I a + gat.batchCoord (ix4 b t e k) a + gat.offCoord (ix4 b t e k) a = _
  rw [hb, Nat.add_zero]
  match a with
  | ⟨0, _⟩ =>
    refine (congrArg₂ (· + ·) st0 (gat.offCoord_eq_zero (ix4 b t e k) _ hk0)).trans ?_
    show min ((b.val : Int)).toNat 31 + 0 = b.val
    omega
  | ⟨1, _⟩ =>
    refine (congrArg₂ (· + ·) st1 (gat.offCoord_eq_zero (ix4 b t e k) _ hk1)).trans ?_
    show min ((e.val : Int)).toNat 15 + 0 = e.val
    omega
  | ⟨2, _⟩ =>
    refine (congrArg₂ (· + ·) st2 (gat.offCoord_eq_zero (ix4 b t e k) _ hk2)).trans ?_
    show min ((s.val : Int)).toNat 255 + 0 = s.val
    omega
  | ⟨3, _⟩ =>
    refine (congrArg (· + _) st3).trans ?_
    rw [Nat.zero_add]
    rfl

theorem words_sample (RT : IVec S32x2048x128 32) (b : Fin 32) (t : Fin 2048) (e : Fin 16) : (backWords RT (ix4 b t e 0)).toInt = (b.val : Int) := by
  pointwise [backWords]
  exact Cert.Experts.wrap_small _ _ (by omega)

theorem words_expert (RT : IVec S32x2048x128 32) (b : Fin 32) (t : Fin 2048) (e : Fin 16) : (backWords RT (ix4 b t e 1)).toInt = (e.val : Int) := by
  pointwise [backWords]
  exact Cert.Experts.wrap_small _ _ (by omega)

theorem words_slot (RT : IVec S32x2048x128 32) (b : Fin 32) (t : Fin 2048) (e : Fin 16) (s : Fin 256) (h : RT (ix3 b t (lane e)) = BitVec.ofNat 32 s.val) :
    (backWords RT (ix4 b t e 2)).toInt = (s.val : Int) := by
  pointwise [backWords]
  rw [show RT (ix3 b t ⟨e.val, _⟩) = BitVec.ofNat 32 s.val from h]
  exact Cert.Experts.wrap_small _ _ (by omega)

/-- One expert's part: its output at the slot held, or nothing. -/
theorem pick (r : BitVec 32) (g z : EReal) (y : Fin 256 → EReal) (hz : ∀ s : Fin 256, r = BitVec.ofNat 32 s.val → z = y s) :
    Scalar.select (IntOp.andi (IntOp.cmpi .sge r 0#32) (IntOp.cmpi .slt r 256#32)) (g * z) 0
      = ∑ s : Fin 256, (if r = BitVec.ofNat 32 s.val then g else 0) * y s := by
  by_cases h : ∃ s : Fin 256, r = BitVec.ofNat 32 s.val
  · obtain ⟨s, rfl⟩ := h
    have hs := s.isLt
    rw [Finset.sum_eq_single s]
    · rw [if_pos rfl, hz s rfl]
      have e1 : (BitVec.ofNat 32 s.val).toInt = (s.val : Int) := by
        rw [BitVec.toInt_eq_toNat_cond, BitVec.toNat_ofNat]; split <;> omega
      have c1 : IntOp.cmpi .sge (BitVec.ofNat 32 s.val) 0#32 = 1#1 := by
        have : decide ((0 : Int) ≤ s.val) = true := decide_eq_true (by omega)
        simp only [IntOp.cmpi, BitVec.sle, e1, BitVec.toInt_zero, this]; rfl
      have c2 : IntOp.cmpi .slt (BitVec.ofNat 32 s.val) 256#32 = 1#1 := by
        have : decide ((s.val : Int) < (256#32).toInt) = true := decide_eq_true (by show (s.val : Int) < 256; omega)
        simp only [IntOp.cmpi, BitVec.slt, e1, this]; rfl
      rw [c1, c2]
      rfl
    · intro s' _ hne
      rw [if_neg, zero_mul]
      intro he
      apply hne
      have := congrArg BitVec.toNat he
      simp only [BitVec.toNat_ofNat] at this
      exact Fin.ext (by omega)
    · intro hn; exact absurd (Finset.mem_univ _) hn
  · have hr : ¬ r.toNat < 256 := fun hlt => h ⟨⟨r.toNat, hlt⟩, by simp⟩
    rw [Finset.sum_eq_zero]
    · have hcases : r.toInt < 0 ∨ 256 ≤ r.toInt := by
        rw [BitVec.toInt_eq_toNat_cond]; split <;> omega
      have c : IntOp.andi (IntOp.cmpi .sge r 0#32) (IntOp.cmpi .slt r 256#32) = 0#1 := by
        rcases hcases with h1 | h1
        · have : decide ((0 : Int) ≤ r.toInt) = false := decide_eq_false (by omega)
          simp only [IntOp.cmpi, BitVec.sle, BitVec.toInt_zero, this]
          simp [IntOp.andi]
        · have : decide (r.toInt < (256#32).toInt) = false := decide_eq_false (by simp; omega)
          simp only [IntOp.cmpi, BitVec.slt, this]
          simp [IntOp.andi]
      rw [c]
      rfl
    · intro s _
      rw [if_neg (fun he => h ⟨s, he⟩), zero_mul]

theorem back_at (RT : IVec S32x2048x128 32) (G : FVec Ideal S32x2048x128 .f32) (Y : FVec Ideal S32x16x256x1024 .f32) (b : Fin 32) (t : Fin 2048) (k : Fin 1024) :
    backT RT G Y (ix3 b t k) = back RT G Y b t k := by
  pointwise [backT, back]
  refine Finset.sum_congr rfl fun e _ => ?_
  refine Eq.trans ?_ (pick (RT (ix3 b t (lane e))) (G (ix3 b t (lane e))) (Host.gather gat Y (backWords RT) (ix4 b t e k)) (fun s => Y (ix4 b e s k)) ?_)
  · exact congrArg (Scalar.select _ _) Idealize.ShloMosaic.Ideal.ofBits_zero_f32
  · intro s hs
    exact congrArg Y (gat_idx _ b t e s k (words_sample RT b t e) (words_expert RT b t e) (words_slot RT b t e s hs))

end Cert.Combine

end
-- ==== Proof.NA.Ref.lean ====
/- The reference's attention, read element by element. -/
module

public import proofs.«01_k».proof.Proof.NA.Spec
public import proofs.«01_k».proof.Proof.Experts.Ref

@[expose] public section

set_option maxRecDepth 16384

noncomputable section

namespace Cert.NA

open Idealize.ShloMosaic Idealize.ShloMosaic.TcCoe Idealize.SL.Sem Cert.ReferenceIdeal Cert.ReferenceIdeal.Gen

/-- The row and the column of every token. -/
def rowT : IVec S2048 32 := shapeCast _ (iotaInDim S32x64 32 0) shapeCasts_S32x64_S2048
def colT : IVec S2048 32 := shapeCast _ (iotaInDim S32x64 32 1) shapeCasts_S32x64_S2048

/-- Where each token's window begins along one axis. -/
def firstT (X : IVec S2048 32) (hi w : BitVec 32) : IVec S2048x1 32 :=
  broadcastInDim S2048x1 ![0] bcast_S2048_S2048x1_0 (minsi (broadcastInDim S2048 ![] bcast_S_S2048 (id (constantI S_ 32 hi))) (maxsi (broadcastInDim S2048 ![]
    bcast_S_S2048 (id (constantI S_ 32 0#32))) (subi X (broadcastInDim S2048 ![] bcast_S_S2048 (constantI S_ 32 w)))))

/-- The clamped difference of every pair of tokens along one axis. -/
def diffT (X : IVec S2048 32) (hi w : BitVec 32) : IVec S2048x2048 32 :=
  minsi (broadcastInDim S2048x2048 ![] bcast_S_S2048x2048 (id (constantI S_ 32 hi))) (maxsi (broadcastInDim S2048x2048 ![] bcast_S_S2048x2048 (id (constantI S_ 32
    0#32))) (subi (addi (subi (broadcastInDim S2048x2048 ![0, 1] bcast_S1x2048_S2048x2048_0_1 (broadcastInDim S1x2048 ![1] bcast_S2048_S1x2048_1 X))
    (broadcastInDim S2048x2048 ![0, 1] bcast_S2048x1_S2048x2048_0_1 (broadcastInDim S2048x1 ![0] bcast_S2048_S2048x1_0 X))) (broadcastInDim S2048x2048 ![]
    bcast_S_S2048x2048 (constantI S_ 32 w))) (broadcastInDim S2048x2048 ![] bcast_S_S2048x2048 (constantI S_ 32 1#32))))

/-- Which key tokens are in each query token's window. -/
def inT (R C : IVec S2048 32) (RS CS : IVec S2048x1 32) : IVec S2048x2048 1 :=
  andi (andi (andi (cmpi .sge (broadcastInDim S2048x2048 ![0, 1] bcast_S1x2048_S2048x2048_0_1 (broadcastInDim S1x2048 ![1] bcast_S2048_S1x2048_1 R)) (broadcastInDim
    S2048x2048 ![0, 1] bcast_S2048x1_S2048x2048_0_1 RS)) (cmpi .slt (broadcastInDim S2048x2048 ![0, 1] bcast_S1x2048_S2048x2048_0_1 (broadcastInDim S1x2048 ![1]
    bcast_S2048_S1x2048_1 R)) (broadcastInDim S2048x2048 ![0, 1] bcast_S2048x1_S2048x2048_0_1 (addi RS (broadcastInDim S2048x1 ![] bcast_S_S2048x1 (constantI S_ 32
    8#32)))))) (cmpi .sge (broadcastInDim S2048x2048 ![0, 1] bcast_S1x2048_S2048x2048_0_1 (broadcastInDim S1x2048 ![1] bcast_S2048_S1x2048_1 C)) (broadcastInDim
    S2048x2048 ![0, 1] bcast_S2048x1_S2048x2048_0_1 CS))) (cmpi .slt (broadcastInDim S2048x2048 ![0, 1] bcast_S1x2048_S2048x2048_0_1 (broadcastInDim S1x2048 ![1]
    bcast_S2048_S1x2048_1 C)) (broadcastInDim S2048x2048 ![0, 1] bcast_S2048x1_S2048x2048_0_1 (addi CS (broadcastInDim S2048x1 ![] bcast_S_S2048x1 (constantI S_ 32
    16#32)))))

/-- The index words of the table of relative biases. -/
def pairT (D E : IVec S2048x2048 32) : IVec S2048x2048x2 32 :=
  (concatenate S2048x2048x2 2 [⟨S2048x2048x1, (broadcastInDim S2048x2048x1 ![0, 1] bcast_S2048x2048_S2048x2048x1_0_1 (select (cmpi .slt D (broadcastInDim S2048x2048
    ![] bcast_S_S2048x2048 (constantI S_ 32 0#32))) (addi D (broadcastInDim S2048x2048 ![] bcast_S_S2048x2048 (constantI S_ 32 15#32))) D) : (⟨S2048x2048x1,
    .i32⟩ : BufTy).Contents (Elt Ideal))⟩, ⟨S2048x2048x1, (broadcastInDim S2048x2048x1 ![0, 1] bcast_S2048x2048_S2048x2048x1_0_1 (select (cmpi .slt E (broadcastInDim
    S2048x2048 ![] bcast_S_S2048x2048 (constantI S_ 32 0#32))) (addi E (broadcastInDim S2048x2048 ![] bcast_S_S2048x2048 (constantI S_ 32 31#32))) E) :
    (⟨S2048x2048x1, .i32⟩ : BufTy).Contents (Elt Ideal))⟩] concatenates_S2048x2048x1_S2048x2048x1_S2048x2048x2_d2 : (⟨S2048x2048x2, .i32⟩ : BufTy).Contents (Elt Ideal))

abbrev gat := gather_S8x15x31_S2048x2048x2_S8x2048x2048_0_12_n_n_12_2_811

/-- The heads of the queries, keys and values, and of the context's. -/
def qT (Z : FVec Ideal S32x2048x5120 .f32) : FVec Ideal S32x2048x8x64 .f32 :=
  shapeCast _ (extractStridedSlice S32x2048x512 ![0, 0, 1536] Z slices_S32x2048x5120_S32x2048x512_0_0_1536) shapeCasts_S32x2048x512_S32x2048x8x64
def kT (Z : FVec Ideal S32x2048x5120 .f32) : FVec Ideal S32x2048x8x64 .f32 :=
  shapeCast _ (extractStridedSlice S32x2048x512 ![0, 0, 2048] Z slices_S32x2048x5120_S32x2048x512_0_0_2048) shapeCasts_S32x2048x512_S32x2048x8x64
def vT (Z : FVec Ideal S32x2048x5120 .f32) : FVec Ideal S32x2048x8x64 .f32 :=
  shapeCast _ (extractStridedSlice S32x2048x512 ![0, 0, 2560] Z slices_S32x2048x5120_S32x2048x512_0_0_2560) shapeCasts_S32x2048x512_S32x2048x8x64
def kcT (K : FVec Ideal S32x256x1024 .f32) : FVec Ideal S32x256x8x64 .f32 :=
  shapeCast _ (extractStridedSlice S32x256x512 ![0, 0, 0] K slices_S32x256x1024_S32x256x512_0_0_0) shapeCasts_S32x256x512_S32x256x8x64
def vcT (K : FVec Ideal S32x256x1024 .f32) : FVec Ideal S32x256x8x64 .f32 :=
  shapeCast _ (extractStridedSlice S32x256x512 ![0, 0, 512] K slices_S32x256x1024_S32x256x512_0_0_512) shapeCasts_S32x256x512_S32x256x8x64

/-- The scores of the latent keys and of the context's. -/
def locT (IN : IVec S2048x2048 1) (Q K : FVec Ideal S32x2048x8x64 .f32) (G : FVec Ideal S8x2048x2048 .f32) : FVec Ideal S32x8x2048x2048 .f32 :=
  select (broadcastInDim S32x8x2048x2048 ![2, 3] bcast_S2048x2048_S32x8x2048x2048_2_3 IN) (addf (mulf (Host.dotGeneral
    dot_S32x2048x8x64_S32x2048x8x64_S32x8x2048x2048_3_3_1_1_02_02 none Q K) (broadcastInDim S32x8x2048x2048 ![] bcast_S_S32x8x2048x2048 (constant S_ .f32
    0x3E000000#32))) (broadcastInDim S32x8x2048x2048 ![0, 1, 2, 3] bcast_S1x8x2048x2048_S32x8x2048x2048_0_1_2_3 (broadcastInDim S1x8x2048x2048 ![1, 2, 3]
    bcast_S8x2048x2048_S1x8x2048x2048_1_2_3 G))) (broadcastInDim S32x8x2048x2048 ![] bcast_S_S32x8x2048x2048 (id (constant S_ .f32 0xFF800000#32)))
def ctxT (Q : FVec Ideal S32x2048x8x64 .f32) (K : FVec Ideal S32x256x8x64 .f32) : FVec Ideal S32x8x2048x256 .f32 :=
  mulf (Host.dotGeneral dot_S32x2048x8x64_S32x256x8x64_S32x8x2048x256_3_3_1_1_02_02 none Q K) (broadcastInDim S32x8x2048x256 ![] bcast_S_S32x8x2048x256 (constant S_
    .f32 0x3E000000#32))

/-- The greatest score of each query. -/
def topsT (S : FVec Ideal S32x8x2048x2048 .f32) (S' : FVec Ideal S32x8x2048x256 .f32) : FVec Ideal S32x8x2048x1 .f32 :=
  broadcastInDim S32x8x2048x1 ![0, 1, 2] bcast_S32x8x2048_S32x8x2048x1_0_1_2 (maximumf (Host.reduce FloatOps.maximumf S (constant S_ .f32 0xFF800000#32)
    reducesTo_S32x8x2048x2048_S32x8x2048_d3 h_S_) (Host.reduce FloatOps.maximumf S' (constant S_ .f32 0xFF800000#32) reducesTo_S32x8x2048x256_S32x8x2048_d3 h_S_))

/-- The weights. -/
def wlT (S : FVec Ideal S32x8x2048x2048 .f32) (M : FVec Ideal S32x8x2048x1 .f32) : FVec Ideal S32x8x2048x2048 .f32 :=
  Host.exp (subf S (broadcastInDim S32x8x2048x2048 ![0, 1, 2, 3] bcast_S32x8x2048x1_S32x8x2048x2048_0_1_2_3 M))
def wcT (S' : FVec Ideal S32x8x2048x256 .f32) (M : FVec Ideal S32x8x2048x1 .f32) : FVec Ideal S32x8x2048x256 .f32 :=
  Host.exp (subf S' (broadcastInDim S32x8x2048x256 ![0, 1, 2, 3] bcast_S32x8x2048x1_S32x8x2048x256_0_1_2_3 M))

/-- The weighted mean, the heads side by side. -/
def meanT (P : FVec Ideal S32x8x2048x2048 .f32) (P' : FVec Ideal S32x8x2048x256 .f32) (V : FVec Ideal S32x2048x8x64 .f32) (V' : FVec Ideal S32x256x8x64 .f32) : FVec Ideal S32x2048x512 .f32 :=
  shapeCast _ (transpose S32x2048x8x64 [0, 2, 1, 3] (Host.divf (addf (Host.dotGeneral dot_S32x8x2048x2048_S32x2048x8x64_S32x8x2048x64_3_1_2_3_01_02 none P V)
    (Host.dotGeneral dot_S32x8x2048x256_S32x256x8x64_S32x8x2048x64_3_1_2_3_01_02 none P' V')) (broadcastInDim S32x8x2048x64 ![0, 1, 2, 3]
    bcast_S32x8x2048x1_S32x8x2048x64_0_1_2_3 (broadcastInDim S32x8x2048x1 ![0, 1, 2] bcast_S32x8x2048_S32x8x2048x1_0_1_2 (addf (Host.reduceAdd P (constant S_ .f32
    0x00000000#32) reducesTo_S32x8x2048x2048_S32x8x2048_d3 h_S_) (Host.reduceAdd P' (constant S_ .f32 0x00000000#32) reducesTo_S32x8x2048x256_S32x8x2048_d3
    h_S_))))) transposes_S32x8x2048x64_S32x2048x8x64_0_2_1_3) shapeCasts_S32x2048x8x64_S32x2048x512

def scoresT (Z : FVec Ideal S32x2048x5120 .f32) (B : FVec Ideal S8x15x31 .f32) : FVec Ideal S32x8x2048x2048 .f32 :=
  locT (inT rowT colT (firstT rowT 24#32 4#32) (firstT colT 48#32 8#32)) (qT Z) (kT Z) (Host.gather gat B (pairT (diffT rowT 14#32 8#32) (diffT colT 30#32 16#32)))
def cscoresT (Z : FVec Ideal S32x2048x5120 .f32) (K : FVec Ideal S32x256x1024 .f32) : FVec Ideal S32x8x2048x256 .f32 := ctxT (qT Z) (kcT K)
def greatT (Z : FVec Ideal S32x2048x5120 .f32) (K : FVec Ideal S32x256x1024 .f32) (B : FVec Ideal S8x15x31 .f32) : FVec Ideal S32x8x2048x1 .f32 := topsT (scoresT Z B) (cscoresT Z K)

/-- The reference's attention. -/
def naT (Z : FVec Ideal S32x2048x5120 .f32) (K : FVec Ideal S32x256x1024 .f32) (B : FVec Ideal S8x15x31 .f32) : FVec Ideal S32x2048x512 .f32 :=
  meanT (wlT (scoresT Z B) (greatT Z K B)) (wcT (cscoresT Z K) (greatT Z K B)) (vT Z) (vcT K)

theorem rowT_at (l : Fin 2048) : rowT (ix1 l) = BitVec.ofNat 32 (l.val / 64) := by
  pointwise [rowT]

theorem colT_at (l : Fin 2048) : colT (ix1 l) = BitVec.ofNat 32 (l.val % 64) := by
  pointwise [colT]

theorem firstT_at (X : IVec S2048 32) (hi w : BitVec 32) (l : Fin 2048) :
    firstT X hi w (ix2 l 0) = IntOp.minsi hi (IntOp.maxsi 0#32 (IntOp.subi (X (ix1 l)) w)) := by
  pointwise [firstT]
  rfl

theorem diffT_at (X : IVec S2048 32) (hi w : BitVec 32) (l t : Fin 2048) :
    diffT X hi w (ix2 l t) = IntOp.minsi hi (IntOp.maxsi 0#32 (IntOp.subi (IntOp.addi (IntOp.subi (X (ix1 t)) (X (ix1 l))) w) 1#32)) := by
  pointwise [diffT]
  rfl

theorem row_first : ∀ q : Fin 32, IntOp.minsi 24#32 (IntOp.maxsi 0#32 (IntOp.subi (BitVec.ofNat 32 q.val) 4#32)) = BitVec.ofNat 32 (rs q.val) := by decide +kernel
theorem col_first : ∀ q : Fin 64, IntOp.minsi 48#32 (IntOp.maxsi 0#32 (IntOp.subi (BitVec.ofNat 32 q.val) 8#32)) = BitVec.ofNat 32 (ws q.val) := by decide +kernel

theorem row_diffw : ∀ q k : Fin 32, IntOp.minsi 14#32 (IntOp.maxsi 0#32 (IntOp.subi (IntOp.addi (IntOp.subi (BitVec.ofNat 32 k.val) (BitVec.ofNat 32 q.val)) 8#32) 1#32))
    = BitVec.ofNat 32 (dr q.val k.val).val := by decide +kernel
theorem col_diffw : ∀ q k : Fin 64, IntOp.minsi 30#32 (IntOp.maxsi 0#32 (IntOp.subi (IntOp.addi (IntOp.subi (BitVec.ofNat 32 k.val) (BitVec.ofNat 32 q.val)) 16#32) 1#32))
    = BitVec.ofNat 32 (dc q.val k.val).val := by decide +kernel

theorem row_ge : ∀ q k : Fin 32, IntOp.cmpi .sge (BitVec.ofNat 32 k.val) (BitVec.ofNat 32 (rs q.val)) = if rs q.val ≤ k.val then 1#1 else 0#1 := by decide +kernel
theorem row_lt : ∀ q k : Fin 32, IntOp.cmpi .slt (BitVec.ofNat 32 k.val) (IntOp.addi (BitVec.ofNat 32 (rs q.val)) 8#32) = if k.val < rs q.val + 8 then 1#1 else 0#1 := by decide +kernel
theorem col_ge : ∀ q k : Fin 64, IntOp.cmpi .sge (BitVec.ofNat 32 k.val) (BitVec.ofNat 32 (ws q.val)) = if ws q.val ≤ k.val then 1#1 else 0#1 := by decide +kernel
theorem col_lt : ∀ q k : Fin 64, IntOp.cmpi .slt (BitVec.ofNat 32 k.val) (IntOp.addi (BitVec.ofNat 32 (ws q.val)) 16#32) = if k.val < ws q.val + 16 then 1#1 else 0#1 := by decide +kernel

theorem inT_at (R C : IVec S2048 32) (RS CS : IVec S2048x1 32) (l t : Fin 2048) :
    inT R C RS CS (ix2 l t) = IntOp.andi (IntOp.andi (IntOp.andi (IntOp.cmpi .sge (R (ix1 t)) (RS (ix2 l 0))) (IntOp.cmpi .slt (R (ix1 t)) (IntOp.addi (RS (ix2 l 0)) 8#32)))
      (IntOp.cmpi .sge (C (ix1 t)) (CS (ix2 l 0)))) (IntOp.cmpi .slt (C (ix1 t)) (IntOp.addi (CS (ix2 l 0)) 16#32)) := by
  pointwise [inT]

/-- The window's bit. -/
theorem in_at (l t : Fin 2048) : inT rowT colT (firstT rowT 24#32 4#32) (firstT colT 48#32 8#32) (ix2 l t)
    = if rowIn (l.val / 64) (t.val / 64) ∧ colIn (l.val % 64) (t.val % 64) then 1#1 else 0#1 := by
  rw [inT_at, firstT_at, firstT_at, rowT_at, rowT_at, colT_at, colT_at]
  have a := row_first ⟨l.val / 64, by omega⟩
  have b := col_first ⟨l.val % 64, by omega⟩
  have c := row_ge ⟨l.val / 64, by omega⟩ ⟨t.val / 64, by omega⟩
  have d := row_lt ⟨l.val / 64, by omega⟩ ⟨t.val / 64, by omega⟩
  have e := col_ge ⟨l.val % 64, by omega⟩ ⟨t.val % 64, by omega⟩
  have f := col_lt ⟨l.val % 64, by omega⟩ ⟨t.val % 64, by omega⟩
  dsimp only at a b c d e f
  rw [a, b, c, d, e, f]
  unfold rowIn colIn
  by_cases h1 : rs (l.val / 64) ≤ t.val / 64 <;> by_cases h2 : t.val / 64 < rs (l.val / 64) + 8 <;> by_cases h3 : ws (l.val % 64) ≤ t.val % 64 <;>
    by_cases h4 : t.val % 64 < ws (l.val % 64) + 16 <;> simp only [h1, h2, h3, h4, if_true, if_false, and_true, and_false, true_and, false_and] <;> rfl

theorem pair0 (D E : IVec S2048x2048 32) (l t : Fin 2048) (n : ℕ) (hn : n < 2 ^ 31) (h : D (ix2 l t) = BitVec.ofNat 32 n) : (pairT D E (ix3 l t 0)).toInt = (n : Int) := by
  pointwise [pairT]
  rw [show D (ix2 l t) = BitVec.ofNat 32 n from h]
  exact Cert.Experts.wrap_small _ _ hn

theorem pair1 (D E : IVec S2048x2048 32) (l t : Fin 2048) (n : ℕ) (hn : n < 2 ^ 31) (h : E (ix2 l t) = BitVec.ofNat 32 n) : (pairT D E (ix3 l t 1)).toInt = (n : Int) := by
  pointwise [pairT]
  rw [show E (ix2 l t) = BitVec.ofNat 32 n from h]
  exact Cert.Experts.wrap_small _ _ hn

/-- Where the gather reads the table of biases. -/
theorem gat_idx (I : IVec S2048x2048x2 32) (h : Fin 8) (l t : Fin 2048) (r : Fin 15) (c : Fin 31)
    (h0 : (I (ix3 l t 0)).toInt = (r.val : Int)) (h1 : (I (ix3 l t 1)).toInt = (c.val : Int)) :
    gat.operandIdx (ix3 h l t) I = ix3 h r c := by
  have hs : ∀ (a : Fin 2) (hm : a.succ ∈ gat.startIndexMap), gat.siIdx (ix3 h l t) ⟨gat.startIndexMap.idxOf a.succ, List.idxOf_lt_length_iff.2 hm⟩ = ix3 l t a := by
    intro a hm; funext x; fin_cases a <;> fin_cases x <;> rfl
  have hm : ∀ a : Fin 2, a.succ ∈ gat.startIndexMap := by intro a; fin_cases a <;> decide
  have st : ∀ a : Fin 2, gat.start (ix3 h l t) I a.succ = min ((I (ix3 l t a)).toInt).toNat (S8x15x31.size a.succ - gat.sliceSizes a.succ) := by
    intro a
    unfold GatherDims.start
    rw [dif_pos (hm a), hs a (hm a)]
  have st1 := st 0
  have st2 := st 1
  rw [h0] at st1
  rw [h1] at st2
  have st0 : gat.start (ix3 h l t) I 0 = 0 := by
    unfold GatherDims.start
    rw [dif_neg (by decide)]
  have hb : ∀ a, gat.batchCoord (ix3 h l t) a = 0 := fun a => gat.batchCoord_eq_zero _ _ (List.not_mem_nil)
  have hk1 : (1 : Fin 3) ∉ gat.sKept := by decide
  have hk2 : (2 : Fin 3) ∉ gat.sKept := by decide
  funext a
  apply Fin.ext
  show gat.start (ix3 h l t) I a + gat.batchCoord (ix3 h l t) a + gat.offCoord (ix3 h l t) a = _
  rw [hb, Nat.add_zero]
  match a with
  | ⟨0, _⟩ =>
    refine (congrArg (· + _) st0).trans ?_
    rw [Nat.zero_add]
    rfl
  | ⟨1, _⟩ =>
    refine (congrArg₂ (· + ·) st1 (gat.offCoord_eq_zero (ix3 h l t) _ hk1)).trans ?_
    show min ((r.val : Int)).toNat 14 + 0 = r.val
    omega
  | ⟨2, _⟩ =>
    refine (congrArg₂ (· + ·) st2 (gat.offCoord_eq_zero (ix3 h l t) _ hk2)).trans ?_
    show min ((c.val : Int)).toNat 30 + 0 = c.val
    omega

/-- The relative bias of a pair of tokens. -/
theorem rel_at (B : FVec Ideal S8x15x31 .f32) (h : Fin 8) (l t : Fin 2048) :
    (Host.gather gat B (pairT (diffT rowT 14#32 8#32) (diffT colT 30#32 16#32)) : FVec Ideal S8x2048x2048 .f32) (ix3 h l t)
      = B (ix3 h (dr (l.val / 64) (t.val / 64)) (dc (l.val % 64) (t.val % 64))) := by
  show B (gat.operandIdx (ix3 h l t) _) = _
  rw [gat_idx _ h l t (dr (l.val / 64) (t.val / 64)) (dc (l.val % 64) (t.val % 64))]
  · refine pair0 _ _ l t _ (by have := (dr (l.val / 64) (t.val / 64)).isLt; omega) ?_
    rw [diffT_at, rowT_at, rowT_at]
    exact row_diffw ⟨l.val / 64, by omega⟩ ⟨t.val / 64, by omega⟩
  · refine pair1 _ _ l t _ (by have := (dc (l.val % 64) (t.val % 64)).isLt; omega) ?_
    rw [diffT_at, colT_at, colT_at]
    exact col_diffw ⟨l.val % 64, by omega⟩ ⟨t.val % 64, by omega⟩

theorem q_at (Z : FVec Ideal S32x2048x5120 .f32) (b : Fin 32) (l : Fin 2048) (h : Fin 8) (d : Fin 64) :
    qT Z (ix4 b l h d) = Z (ix3 b l ⟨1536 + h.val * 64 + d.val, by omega⟩) := by
  pointwise [qT]
  exact congrArg _ (congrArg _ (Fin.ext (Nat.add_assoc _ _ _).symm))
theorem k_at (Z : FVec Ideal S32x2048x5120 .f32) (b : Fin 32) (l : Fin 2048) (h : Fin 8) (d : Fin 64) :
    kT Z (ix4 b l h d) = Z (ix3 b l ⟨2048 + h.val * 64 + d.val, by omega⟩) := by
  pointwise [kT]
  exact congrArg _ (congrArg _ (Fin.ext (Nat.add_assoc _ _ _).symm))
theorem v_at (Z : FVec Ideal S32x2048x5120 .f32) (b : Fin 32) (l : Fin 2048) (h : Fin 8) (d : Fin 64) :
    vT Z (ix4 b l h d) = Z (ix3 b l ⟨2560 + h.val * 64 + d.val, by omega⟩) := by
  pointwise [vT]
  exact congrArg _ (congrArg _ (Fin.ext (Nat.add_assoc _ _ _).symm))
theorem kc_at (K : FVec Ideal S32x256x1024 .f32) (b : Fin 32) (l : Fin 256) (h : Fin 8) (d : Fin 64) :
    kcT K (ix4 b l h d) = K (ix3 b l ⟨h.val * 64 + d.val, by omega⟩) := by
  pointwise [kcT]
theorem vc_at (K : FVec Ideal S32x256x1024 .f32) (b : Fin 32) (l : Fin 256) (h : Fin 8) (d : Fin 64) :
    vcT K (ix4 b l h d) = K (ix3 b l ⟨512 + h.val * 64 + d.val, by omega⟩) := by
  pointwise [vcT]
  exact congrArg _ (congrArg _ (Fin.ext (Nat.add_assoc _ _ _).symm))

theorem eighth : Ideal.ofBits .f32 0x3E000000#32 = ((1 / 8 : ℝ) : EReal) := by
  simp [Ideal.ofBits, Ideal.ieee, -EReal.coe_mul]
  norm_num

theorem least : Ideal.ofBits .f32 0xFF800000#32 = ⊥ := by
  simp [Ideal.ofBits, Ideal.ieee, -EReal.coe_mul]

theorem loc_at (IN : IVec S2048x2048 1) (Q K : FVec Ideal S32x2048x8x64 .f32) (G : FVec Ideal S8x2048x2048 .f32) (b : Fin 32) (h : Fin 8) (l t : Fin 2048) :
    locT IN Q K G (ix4 b h l t) = Scalar.select (IN (ix2 l t)) ((∑ d : Fin 64, (Q (ix4 b l h d) : EReal) * K (ix4 b t h d)) * Ideal.ofBits .f32 0x3E000000#32 + G (ix3 h l t))
      (Ideal.ofBits .f32 0xFF800000#32) := by
  pointwise [locT]
  rfl

theorem ctx_at (Q : FVec Ideal S32x2048x8x64 .f32) (K : FVec Ideal S32x256x8x64 .f32) (b : Fin 32) (h : Fin 8) (l : Fin 2048) (u : Fin 256) :
    ctxT Q K (ix4 b h l u) = (∑ d : Fin 64, (Q (ix4 b l h d) : EReal) * K (ix4 b u h d)) * Ideal.ofBits .f32 0x3E000000#32 := by
  pointwise [ctxT]

instance : Std.Commutative (FloatOps.maximumf (F := Ideal) (φ := .f32)) := ⟨fun x y => max_comm (x : EReal) y⟩
instance : Std.Associative (FloatOps.maximumf (F := Ideal) (φ := .f32)) := ⟨fun x y z => max_assoc (x : EReal) y z⟩

/-- A maximum over the last axis. -/
theorem red_max {a b c n : ℕ} (S : FVec Ideal (⟨4, ![a, b, c, n]⟩ : Shape) .f32) (h' : (⟨4, ![a, b, c, n]⟩ : Shape).ReducesTo [3] ⟨3, ![a, b, c]⟩)
    (h : (⟨4, ![a, b, c, n]⟩ : Shape).Reduces [3] ⟨3, ![a, b, c]⟩) (hu : 0 < S_.numel) (i : Fin a) (j : Fin b) (k : Fin c) :
    (Host.reduce FloatOps.maximumf S (constant S_ .f32 0xFF800000#32) h' hu : FVec Ideal (⟨3, ![a, b, c]⟩ : Shape) .f32) (ix3 i j k)
      = Finset.univ.sup fun t : Fin n => (S (ix4 i j k t) : EReal) := by
  refine (Host.reduce_eq_fold_single FloatOps.maximumf S _ h' h hu (ix3 i j k)).trans ?_
  have e : S ∘ h.lift (ix3 i j k) = fun t : Fin n => S (ix4 i j k t) := by
    funext t
    refine congrArg S ?_
    funext x
    fin_cases x <;> rfl
  rw [e]
  show Finset.fold max (Ideal.ofBits .f32 0xFF800000#32) (fun t : Fin n => (S (ix4 i j k t) : EReal)) Finset.univ = _
  rw [least]
  rfl

theorem tops_of (A : FVec Ideal S32x8x2048 .f32) (A' : FVec Ideal S32x8x2048 .f32) (b : Fin 32) (h : Fin 8) (l : Fin 2048) :
    broadcastInDim S32x8x2048x1 ![0, 1, 2] bcast_S32x8x2048_S32x8x2048x1_0_1_2 (maximumf A A') (ix4 b h l 0) = max (A (ix3 b h l) : EReal) (A' (ix3 b h l)) := by
  pointwise

theorem tops_at (S : FVec Ideal S32x8x2048x2048 .f32) (S' : FVec Ideal S32x8x2048x256 .f32) (b : Fin 32) (h : Fin 8) (l : Fin 2048) :
    topsT S S' (ix4 b h l 0) = max (Finset.univ.sup fun t : Fin 2048 => (S (ix4 b h l t) : EReal)) (Finset.univ.sup fun u : Fin 256 => (S' (ix4 b h l u) : EReal)) := by
  refine (tops_of _ _ b h l).trans ?_
  rw [red_max S _ (by decide), red_max S' _ (by decide)]

theorem wl_at (S : FVec Ideal S32x8x2048x2048 .f32) (M : FVec Ideal S32x8x2048x1 .f32) (b : Fin 32) (h : Fin 8) (l t : Fin 2048) :
    wlT S M (ix4 b h l t) = Ideal.exp (S (ix4 b h l t) - M (ix4 b h l 0)) := by
  pointwise [wlT]

theorem wc_at (S : FVec Ideal S32x8x2048x256 .f32) (M : FVec Ideal S32x8x2048x1 .f32) (b : Fin 32) (h : Fin 8) (l : Fin 2048) (u : Fin 256) :
    wcT S M (ix4 b h l u) = Ideal.exp (S (ix4 b h l u) - M (ix4 b h l 0)) := by
  pointwise [wcT]

theorem mean_at (P : FVec Ideal S32x8x2048x2048 .f32) (P' : FVec Ideal S32x8x2048x256 .f32) (V : FVec Ideal S32x2048x8x64 .f32) (V' : FVec Ideal S32x256x8x64 .f32)
    (b : Fin 32) (l : Fin 2048) (e : Fin 512) :
    meanT P P' V V' (ix3 b l e) = Ideal.div
      ((∑ t : Fin 2048, (P (ix4 b ⟨e.val / 64, by omega⟩ l t) : EReal) * V (ix4 b t ⟨e.val / 64, by omega⟩ ⟨e.val % 64, by omega⟩))
        + ∑ u : Fin 256, (P' (ix4 b ⟨e.val / 64, by omega⟩ l u) : EReal) * V' (ix4 b u ⟨e.val / 64, by omega⟩ ⟨e.val % 64, by omega⟩))
      ((∑ t : Fin 2048, (P (ix4 b ⟨e.val / 64, by omega⟩ l t) : EReal)) + ∑ u : Fin 256, (P' (ix4 b ⟨e.val / 64, by omega⟩ l u) : EReal)) := by
  pointwise [meanT]

variable (Z : FVec Ideal S32x2048x5120 .f32) (zx : FVec Ideal S32x2048x5120 .bf16) (K : FVec Ideal S32x256x1024 .f32) (kv : FVec Ideal S32x256x1024 .bf16) (B : FVec Ideal S8x15x31 .f32)
  (hZ : ∀ b t n, (Z (ix3 b t n) : EReal) = zx (ix3 b t n)) (hK : ∀ b t n, (K (ix3 b t n) : EReal) = kv (ix3 b t n))

include hZ in
theorem scores_at (b : Fin 32) (h : Fin 8) (l t : Fin 2048) : (scoresT Z B (ix4 b h l t) : EReal) = score zx B b h l t := by
  unfold scoresT
  rw [loc_at, in_at, rel_at, eighth, least]
  simp only [q_at, k_at, hZ]
  unfold score dotLoc
  by_cases hc : rowIn (l.val / 64) (t.val / 64) ∧ colIn (l.val % 64) (t.val % 64)
  · rw [if_pos hc, if_pos hc]; rfl
  · rw [if_neg hc, if_neg hc]; rfl

include hZ hK in
theorem cscores_at (b : Fin 32) (h : Fin 8) (l : Fin 2048) (u : Fin 256) : (cscoresT Z K (ix4 b h l u) : EReal) = ctxScore zx kv b h l u := by
  unfold cscoresT
  rw [ctx_at, eighth]
  simp only [q_at, kc_at, hZ, hK]
  rfl

include hZ hK in
/-- The reference's attention is the mean of the values weighted by the exponentials of the scores. -/
theorem naT_at (b : Fin 32) (l : Fin 2048) (e : Fin 512) : (naT Z K B (ix3 b l e) : EReal) = naArr zx kv B (ix3 b l e) := by
  unfold naT
  rw [mean_at]
  simp only [wl_at, wc_at, v_at, vc_at]
  unfold greatT
  simp only [tops_at, scores_at Z zx B hZ, cscores_at Z zx K kv hZ hK, hZ, hK]
  rfl

end Cert.NA

end
-- ==== Proof.Layer.Ref.lean ====
/- The reference in parts, each read element by element, and its four results as functions of the arguments. -/
module

public import proofs.«01_k».proof.Proof.Layer.Tab
public import proofs.«01_k».proof.Proof.Experts.Ref
public import proofs.«01_k».proof.Proof.Combine.Ref
public import proofs.«01_k».proof.Proof.NA.Ref

@[expose] public section

set_option maxRecDepth 16384

noncomputable section

namespace Cert.Layer

open Idealize.ShloMosaic Idealize.ShloMosaic.TcCoe Idealize.SL.Sem Cert.ReferenceIdeal Cert.ReferenceIdeal.Gen

/-- The reference's modulation of the samples. -/
def modsT (C : FVec Ideal S32x1024 .f32) (W : FVec Ideal S1024x6144 .f32) (B : FVec Ideal S6144 .f32) : FVec Ideal S32x1x6144 .f32 :=
  broadcastInDim S32x1x6144 ![0, 2] bcast_S32x6144_S32x1x6144_0_2 (addf (Host.dotGeneral dot_S32x1024_S1024x6144_S32x6144_1_0_0_1_n_n none (mulf C (Host.divf
    (broadcastInDim S32x1024 ![] bcast_S_S32x1024 (constant S_ .f32 0x3F800000#32)) (addf (broadcastInDim S32x1024 ![] bcast_S_S32x1024 (constant S_ .f32
    0x3F800000#32)) (Host.exp (Host.negf C))))) W) (broadcastInDim S32x6144 ![0, 1] bcast_S1x6144_S32x6144_0_1 (broadcastInDim S1x6144 ![1]
    bcast_S6144_S1x6144_1 B)))

/-- The reference's modulation of the context. -/
def modcT (C : FVec Ideal S1024 .f32) (W : FVec Ideal S1024x6144 .f32) (B : FVec Ideal S6144 .f32) : FVec Ideal S6144 .f32 :=
  addf (Host.dotGeneral dot_S1024_S1024x6144_S6144_0_0_n_1_n_n none (mulf C (Host.divf (broadcastInDim S1024 ![] bcast_S_S1024 (constant S_ .f32
    0x3F800000#32)) (addf (broadcastInDim S1024 ![] bcast_S_S1024 (constant S_ .f32 0x3F800000#32)) (Host.exp (Host.negf C))))) W) B

/-- The reference's projection of the latent tokens. -/
def zxT (X : FVec Ideal S32x2048x1024 .f32) (M : FVec Ideal S32x1x6144 .f32) (G : FVec Ideal S1024 .f32) (W : FVec Ideal S1024x5120 .bf16) (B : FVec Ideal S5120 .f32) : FVec Ideal S32x2048x5120 .f32 :=
  addf (Host.dotGeneral dot_S32x2048x1024_S1024x5120_S32x2048x5120_2_0_01_1_n_n none (addf (mulf (mulf (mulf X (broadcastInDim S32x2048x1024 ![0, 1, 2]
    bcast_S32x2048x1_S32x2048x1024_0_1_2 (Host.rsqrt (addf (Host.divf (broadcastInDim S32x2048x1 ![0, 1] bcast_S32x2048_S32x2048x1_0_1 (Host.reduceAdd (mulf X
    X) (constant S_ .f32 0x00000000#32) reducesTo_S32x2048x1024_S32x2048_d2 h_S_)) (broadcastInDim S32x2048x1 ![] bcast_S_S32x2048x1 (constant S_ .f32
    0x44800000#32))) (broadcastInDim S32x2048x1 ![] bcast_S_S32x2048x1 (constant S_ .f32 0x358637BD#32)))))) (broadcastInDim S32x2048x1024 ![0, 1, 2]
    bcast_S1x1x1024_S32x2048x1024_0_1_2 (broadcastInDim S1x1x1024 ![2] bcast_S1024_S1x1x1024_2 G))) (broadcastInDim S32x2048x1024 ![0, 1, 2]
    bcast_S32x1x1024_S32x2048x1024_0_1_2 (addf (broadcastInDim S32x1x1024 ![] bcast_S_S32x1x1024 (constant S_ .f32 0x3F800000#32)) (extractStridedSlice
    S32x1x1024 ![0, 0, 1024] M slices_S32x1x6144_S32x1x1024_0_0_1024)))) (broadcastInDim S32x2048x1024 ![0, 1, 2] bcast_S32x1x1024_S32x2048x1024_0_1_2
    (extractStridedSlice S32x1x1024 ![0, 0, 0] M slices_S32x1x6144_S32x1x1024_0_0_0))) (extf .f32 W bitsLt_bf16_f32)) (broadcastInDim S32x2048x5120 ![0, 1, 2]
    bcast_S1x1x5120_S32x2048x5120_0_1_2 (broadcastInDim S1x1x5120 ![2] bcast_S5120_S1x1x5120_2 B))

/-- The reference's projection of the context tokens. -/
def kvT (X : FVec Ideal S32x256x1024 .f32) (M : FVec Ideal S6144 .f32) (G : FVec Ideal S1024 .f32) (W : FVec Ideal S1024x5120 .bf16) (B : FVec Ideal S5120 .f32) : FVec Ideal S32x256x1024 .f32 :=
  addf (Host.dotGeneral dot_S32x256x1024_S1024x1024_S32x256x1024_2_0_01_1_n_n none (addf (mulf (mulf (mulf X (broadcastInDim S32x256x1024 ![0,
    1, 2] bcast_S32x256x1_S32x256x1024_0_1_2 (Host.rsqrt (addf (Host.divf (broadcastInDim S32x256x1 ![0, 1] bcast_S32x256_S32x256x1_0_1 (Host.reduceAdd (mulf
    X X) (constant S_ .f32 0x00000000#32) reducesTo_S32x256x1024_S32x256_d2 h_S_)) (broadcastInDim S32x256x1 ![] bcast_S_S32x256x1 (constant S_ .f32
    0x44800000#32))) (broadcastInDim S32x256x1 ![] bcast_S_S32x256x1 (constant S_ .f32 0x358637BD#32)))))) (broadcastInDim S32x256x1024 ![0, 1, 2]
    bcast_S1x1x1024_S32x256x1024_0_1_2 (broadcastInDim S1x1x1024 ![2] bcast_S1024_S1x1x1024_2 G))) (broadcastInDim S32x256x1024 ![0, 1, 2]
    bcast_S1x1x1024_S32x256x1024_0_1_2 (broadcastInDim S1x1x1024 ![2] bcast_S1024_S1x1x1024_2 (addf (broadcastInDim S1024 ![] bcast_S_S1024 (constant S_ .f32
    0x3F800000#32)) (extractStridedSlice S1024 ![1024] M slices_S6144_S1024_1024))))) (broadcastInDim S32x256x1024 ![0, 1, 2]
    bcast_S1x1x1024_S32x256x1024_0_1_2 (broadcastInDim S1x1x1024 ![2] bcast_S1024_S1x1x1024_2 (extractStridedSlice S1024 ![0] M slices_S6144_S1024_0))))
    (extractStridedSlice S1024x1024 ![0, 2048] (extf .f32 W bitsLt_bf16_f32) slices_S1024x5120_S1024x1024_0_2048)) (broadcastInDim S32x256x1024 ![0, 1, 2]
    bcast_S1x1x1024_S32x256x1024_0_1_2 (broadcastInDim S1x1x1024 ![2] bcast_S1024_S1x1x1024_2 (extractStridedSlice S1024 ![2048] B slices_S5120_S1024_2048)))

/-- The reference's merge of the branches. -/
def mixT (X : FVec Ideal S32x2048x1024 .f32) (M : FVec Ideal S32x1x6144 .f32) (Z : FVec Ideal S32x2048x5120 .f32) (H : FVec Ideal S32x2048x512 .bf16) (N : FVec Ideal S32x2048x512 .f32) (WH WN : FVec Ideal S512x1024 .bf16) (WO : FVec Ideal S1024x1024 .bf16) : FVec Ideal S32x2048x1024 .f32 :=
  addf X (mulf (broadcastInDim S32x2048x1024 ![0, 1, 2] bcast_S32x1x1024_S32x2048x1024_0_1_2 (extractStridedSlice S32x1x1024 ![0, 0, 2048] M
    slices_S32x1x6144_S32x1x1024_0_0_2048)) (Host.dotGeneral dot_S32x2048x1024_S1024x1024_S32x2048x1024_2_0_01_1_n_n none (addf (mulf (Host.divf
    (broadcastInDim S32x2048x1024 ![] bcast_S_S32x2048x1024 (constant S_ .f32 0x3F800000#32)) (addf (broadcastInDim S32x2048x1024 ![] bcast_S_S32x2048x1024
    (constant S_ .f32 0x3F800000#32)) (Host.exp (Host.negf (extractStridedSlice S32x2048x1024 ![0, 0, 3072] Z slices_S32x2048x5120_S32x2048x1024_0_0_3072)))))
    (Host.dotGeneral dot_S32x2048x512_S512x1024_S32x2048x1024_2_0_01_1_n_n none (extf .f32 H bitsLt_bf16_f32) (extf .f32 WH bitsLt_bf16_f32))) (mulf
    (Host.divf (broadcastInDim S32x2048x1024 ![] bcast_S_S32x2048x1024 (constant S_ .f32 0x3F800000#32)) (addf (broadcastInDim S32x2048x1024 ![]
    bcast_S_S32x2048x1024 (constant S_ .f32 0x3F800000#32)) (Host.exp (Host.negf (extractStridedSlice S32x2048x1024 ![0, 0, 4096] Z
    slices_S32x2048x5120_S32x2048x1024_0_0_4096))))) (Host.dotGeneral dot_S32x2048x512_S512x1024_S32x2048x1024_2_0_01_1_n_n none N
    (extf .f32 WN bitsLt_bf16_f32)))) (extf .f32 WO bitsLt_bf16_f32)))

/-- The reference's second normalisation. -/
def normT (X : FVec Ideal S32x2048x1024 .f32) (M : FVec Ideal S32x1x6144 .f32) (G : FVec Ideal S1024 .f32) : FVec Ideal S32x2048x1024 .f32 :=
  addf (mulf (mulf (mulf X (broadcastInDim S32x2048x1024 ![0, 1, 2] bcast_S32x2048x1_S32x2048x1024_0_1_2 (Host.rsqrt (addf (Host.divf (broadcastInDim
    S32x2048x1 ![0, 1] bcast_S32x2048_S32x2048x1_0_1 (Host.reduceAdd (mulf X X) (constant S_ .f32 0x00000000#32) reducesTo_S32x2048x1024_S32x2048_d2 h_S_))
    (broadcastInDim S32x2048x1 ![] bcast_S_S32x2048x1 (constant S_ .f32 0x44800000#32))) (broadcastInDim S32x2048x1 ![] bcast_S_S32x2048x1 (constant S_ .f32
    0x358637BD#32)))))) (broadcastInDim S32x2048x1024 ![0, 1, 2] bcast_S1x1x1024_S32x2048x1024_0_1_2 (broadcastInDim S1x1x1024 ![2] bcast_S1024_S1x1x1024_2
    G))) (broadcastInDim S32x2048x1024 ![0, 1, 2] bcast_S32x1x1024_S32x2048x1024_0_1_2 (addf (broadcastInDim S32x1x1024 ![] bcast_S_S32x1x1024 (constant S_
    .f32 0x3F800000#32)) (extractStridedSlice S32x1x1024 ![0, 0, 4096] M slices_S32x1x6144_S32x1x1024_0_0_4096)))) (broadcastInDim S32x2048x1024 ![0, 1, 2]
    bcast_S32x1x1024_S32x2048x1024_0_1_2 (extractStridedSlice S32x1x1024 ![0, 0, 3072] M slices_S32x1x6144_S32x1x1024_0_0_3072))

/-- The reference's router logits. -/
def logitT (H : FVec Ideal S32x2048x1024 .f32) (W : FVec Ideal S1024x16 .f32) : FVec Ideal S32x16x2048 .f32 :=
  transpose S32x16x2048 [0, 2, 1] (Host.dotGeneral dot_S32x2048x1024_S1024x16_S32x2048x16_2_0_01_1_n_n none H W) transposes_S32x2048x16_S32x16x2048_0_2_1

theorem mods_at (C : FVec Ideal S32x1024 .f32) (W : FVec Ideal S1024x6144 .f32) (B : FVec Ideal S6144 .f32) (b : Fin 32) (n : Fin 6144) :
    modsT C W B (ix3 b 0 n) = modVal (fun d => C (ix2 b d)) W (B (ix1 n)) n := by
  pointwise [modsT, modVal, Ideal.logistic]

theorem modc_at (C : FVec Ideal S1024 .f32) (W : FVec Ideal S1024x6144 .f32) (B : FVec Ideal S6144 .f32) (n : Fin 6144) :
    modcT C W B (ix1 n) = modVal (fun d => C (ix1 d)) W (B (ix1 n)) n := by
  pointwise [modcT, modVal, Ideal.logistic]

theorem zx_at (X : FVec Ideal S32x2048x1024 .f32) (M : FVec Ideal S32x1x6144 .f32) (G : FVec Ideal S1024 .f32) (W : FVec Ideal S1024x5120 .bf16) (B : FVec Ideal S5120 .f32)
    (b : Fin 32) (t : Fin 2048) (n : Fin 5120) :
    zxT X M G W B (ix3 b t n) = affine (norm (fun d => X (ix3 b t d)) (fun d => G (ix1 d)) (fun d => M (ix3 b 0 ⟨d.val, by omega⟩)) (fun d => M (ix3 b 0 ⟨1024 + d.val, by omega⟩)))
      (fun d => W (ix2 d n)) (B (ix1 n)) := by
  pointwise [zxT, affine, norm, Cert.Combine.rms]

theorem kv_at (X : FVec Ideal S32x256x1024 .f32) (M : FVec Ideal S6144 .f32) (G : FVec Ideal S1024 .f32) (W : FVec Ideal S1024x5120 .bf16) (B : FVec Ideal S5120 .f32)
    (b : Fin 32) (s : Fin 256) (k : Fin 1024) :
    kvT X M G W B (ix3 b s k) = affine (norm (fun d => X (ix3 b s d)) (fun d => G (ix1 d)) (fun d => M (ix1 ⟨d.val, by omega⟩)) (fun d => M (ix1 ⟨1024 + d.val, by omega⟩)))
      (fun d => W (ix2 d ⟨2048 + k.val, by omega⟩)) (B (ix1 ⟨2048 + k.val, by omega⟩)) := by
  pointwise [kvT, affine, norm, Cert.Combine.rms]

theorem mix_at (X : FVec Ideal S32x2048x1024 .f32) (M : FVec Ideal S32x1x6144 .f32) (Z : FVec Ideal S32x2048x5120 .f32) (H : FVec Ideal S32x2048x512 .bf16) (N : FVec Ideal S32x2048x512 .f32)
    (WH WN : FVec Ideal S512x1024 .bf16) (WO : FVec Ideal S1024x1024 .bf16) (b : Fin 32) (t : Fin 2048) (k : Fin 1024) :
    mixT X M Z H N WH WN WO (ix3 b t k) = mix (fun e => H (ix3 b t e)) (fun e => N (ix3 b t e)) (fun d => Z (ix3 b t ⟨3072 + d.val, by omega⟩))
      (fun d => Z (ix3 b t ⟨4096 + d.val, by omega⟩)) (fun d => X (ix3 b t d)) (fun d => M (ix3 b 0 ⟨2048 + d.val, by omega⟩)) WH WN WO k := by
  pointwise [mixT, mix, Ideal.logistic]

theorem norm_at (X : FVec Ideal S32x2048x1024 .f32) (M : FVec Ideal S32x1x6144 .f32) (G : FVec Ideal S1024 .f32) (b : Fin 32) (t : Fin 2048) (k : Fin 1024) :
    normT X M G (ix3 b t k) = norm (fun d => X (ix3 b t d)) (fun d => G (ix1 d)) (fun d => M (ix3 b 0 ⟨3072 + d.val, by omega⟩)) (fun d => M (ix3 b 0 ⟨4096 + d.val, by omega⟩)) k := by
  pointwise [normT, norm, Cert.Combine.rms]

theorem logit_at (H : FVec Ideal S32x2048x1024 .f32) (W : FVec Ideal S1024x16 .f32) (b : Fin 32) (e : Fin 16) (t : Fin 2048) :
    logitT H W (ix3 b e t) = ∑ d : Fin 1024, (H (ix3 b t d) : EReal) * W (ix2 d e) := by
  pointwise [logitT]

/-- The reference's samples' and context's modulation are rows of the table. -/
theorem mods_tab (A : Args) (b : Fin 32) (i : Fin 6) (d : Fin 1024) (n : Fin 6144) (hn : (n : ℕ) = i.val * 1024 + d.val) :
    modsT A.c A.wm A.bm (ix3 b 0 n) = modTab A (ix3 ⟨b.val, by omega⟩ i d) := by
  obtain rfl : n = chunk i d := Fin.ext hn
  rw [mods_at]
  show _ = modVal (condRow A.c A.cx ⟨b.val, by omega⟩) A.wm (A.bm (ix1 (chunk i d))) (chunk i d)
  congr 1
  funext k
  unfold condRow
  rw [dif_pos (show ((⟨b.val, by omega⟩ : Fin 40) : ℕ) < 32 from b.isLt)]

theorem modc_tab (A : Args) (i : Fin 6) (d : Fin 1024) (n : Fin 6144) (hn : (n : ℕ) = i.val * 1024 + d.val) :
    modcT A.cx A.wm A.bm (ix1 n) = modTab A (ix3 32 i d) := by
  obtain rfl : n = chunk i d := Fin.ext hn
  rw [modc_at]
  rfl

theorem zx_eq (A : Args) (b : Fin 32) (t : Fin 2048) (n : Fin 5120) :
    zxT A.x (modsT A.c A.wm A.bm) A.g1 A.wi A.bi (ix3 b t n) = zxRes A (ix3 b t n) := by
  rw [zx_at]
  simp only [fun d : Fin 1024 => mods_tab A b 0 d ⟨d.val, by omega⟩ (by simp), fun d : Fin 1024 => mods_tab A b 1 d ⟨1024 + d.val, by omega⟩ (by simp)]
  rfl

theorem kv_eq (A : Args) (b : Fin 32) (s : Fin 256) (k : Fin 1024) :
    kvT A.ctx (modcT A.cx A.wm A.bm) A.g1 A.wi A.bi (ix3 b s k) = kvRes A (ix3 b s k) := by
  rw [kv_at]
  simp only [fun d : Fin 1024 => modc_tab A 0 d ⟨d.val, by omega⟩ (by simp), fun d : Fin 1024 => modc_tab A 1 d ⟨1024 + d.val, by omega⟩ (by simp)]
  rfl

theorem x1_eq (A : Args) (Z : FVec Ideal S32x2048x5120 .f32) (hZ : ∀ b t n, Z (ix3 b t n) = zxRes A (ix3 b t n)) (N : FVec Ideal S32x2048x512 .f32)
    (hN : ∀ b t e, (N (ix3 b t e) : EReal) = naRes A (ix3 b t e)) (b : Fin 32) (t : Fin 2048) (k : Fin 1024) :
    mixT A.x (modsT A.c A.wm A.bm) Z A.hy N A.wh A.wn A.wo (ix3 b t k) = x1Res A (ix3 b t k) := by
  rw [mix_at]
  simp only [hZ, hN, fun d : Fin 1024 => mods_tab A b 2 d ⟨2048 + d.val, by omega⟩ (by simp)]
  rfl

theorem h2_eq (A : Args) (X : FVec Ideal S32x2048x1024 .f32) (hX : ∀ b t k, X (ix3 b t k) = x1Res A (ix3 b t k)) (b : Fin 32) (t : Fin 2048) (k : Fin 1024) :
    normT X (modsT A.c A.wm A.bm) A.g2 (ix3 b t k) = h2Res A (ix3 b t k) := by
  rw [norm_at]
  simp only [hX, fun d : Fin 1024 => mods_tab A b 3 d ⟨3072 + d.val, by omega⟩ (by simp), fun d : Fin 1024 => mods_tab A b 4 d ⟨4096 + d.val, by omega⟩ (by simp)]
  rfl

theorem logit_eq (A : Args) (H : FVec Ideal S32x2048x1024 .f32) (hH : ∀ b t k, H (ix3 b t k) = h2Res A (ix3 b t k)) : logitT H A.wr = logitRes A := by
  funext j
  obtain ⟨b, e, t, rfl⟩ : ∃ (b : Fin 32) (e : Fin 16) (t : Fin 2048), j = ix3 b e t := ⟨j 0, j 1, j 2, (ix3_eta j).symm⟩
  rw [logit_at]
  simp only [hH]
  exact Finset.sum_congr rfl fun d _ => mul_comm _ _

theorem out_eq (A : Args) (X H : FVec Ideal S32x2048x1024 .f32) (hX : ∀ b t k, X (ix3 b t k) = x1Res A (ix3 b t k)) (hH : ∀ b t k, H (ix3 b t k) = h2Res A (ix3 b t k)) :
    Cert.Combine.topT (Cert.Combine.resT X (modsT A.c A.wm A.bm)
      (Cert.Combine.backT A.rt A.gt (Cert.Experts.ffnT (Cert.Experts.rowsT A.rk H) A.wg A.wu A.wd))) A.gf = outRes A := by
  rw [Cert.Experts.ffn_of A.rk (h2Res A) A.wg A.wu A.wd (Cert.Experts.rowsT A.rk H) (fun b e s k => (Cert.Experts.rows_at A.rk H (h2Res A) hH b e s k))]
  funext j
  obtain ⟨b, t, k, rfl⟩ : ∃ (b : Fin 32) (t : Fin 2048) (k : Fin 1024), j = ix3 b t k := ⟨j 0, j 1, j 2, (ix3_eta j).symm⟩
  rw [Cert.Combine.top_at]
  simp only [Cert.Combine.res_at, Cert.Combine.back_at, hX, fun d : Fin 1024 => mods_tab A b 5 d ⟨5120 + d.val, by omega⟩ (by simp)]
  rfl

variable (m : (ℓ : Loc nD τ sig) → Buf (Elt Ideal) ℓ) (c : Dev nD)

/-- The arguments of a device's memory. -/
def argsR : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22)⟩

/-- The reference's parts at a device's arguments. -/
def zP : FVec Ideal S32x2048x5120 .f32 := zxT (argsR m c).x (modsT (argsR m c).c (argsR m c).wm (argsR m c).bm) (argsR m c).g1 (argsR m c).wi (argsR m c).bi
def kP : FVec Ideal S32x256x1024 .f32 := kvT (argsR m c).ctx (modcT (argsR m c).cx (argsR m c).wm (argsR m c).bm) (argsR m c).g1 (argsR m c).wi (argsR m c).bi
def nP : FVec Ideal S32x2048x512 .f32 := Cert.NA.naT (zP m c) (kP m c) (argsR m c).rpb
def xP : FVec Ideal S32x2048x1024 .f32 := mixT (argsR m c).x (modsT (argsR m c).c (argsR m c).wm (argsR m c).bm) (zP m c) (argsR m c).hy (nP m c) (argsR m c).wh (argsR m c).wn (argsR m c).wo
def hP : FVec Ideal S32x2048x1024 .f32 := normT (xP m c) (modsT (argsR m c).c (argsR m c).wm (argsR m c).bm) (argsR m c).g2

theorem zP_eq : Cert.ReferenceIdeal.Value.res_main_v69 (StableHlo.launchContents m c) = zP m c := rfl
theorem kP_eq : Cert.ReferenceIdeal.Value.res_main_v75 (StableHlo.launchContents m c) = kP m c := rfl
theorem row_eq : Cert.ReferenceIdeal.Value.res_main_v87 (StableHlo.launchContents m c) = Cert.NA.rowT := rfl
theorem col_eq : Cert.ReferenceIdeal.Value.res_main_v89 (StableHlo.launchContents m c) = Cert.NA.colT := rfl
theorem q_eq : Cert.ReferenceIdeal.Value.res_main_v77 (StableHlo.launchContents m c) = Cert.NA.qT (zP m c) := by
  unfold Cert.ReferenceIdeal.Value.res_main_v77
  rw [zP_eq]
  rfl
theorem rs_eq : Cert.ReferenceIdeal.Value.res_main_v93 (StableHlo.launchContents m c) = Cert.NA.firstT Cert.NA.rowT 24#32 4#32 := by
  unfold Cert.ReferenceIdeal.Value.res_main_v93
  rw [row_eq]
  rfl
theorem ws_eq : Cert.ReferenceIdeal.Value.res_main_v97 (StableHlo.launchContents m c) = Cert.NA.firstT Cert.NA.colT 48#32 8#32 := by
  unfold Cert.ReferenceIdeal.Value.res_main_v97
  rw [col_eq]
  rfl
theorem dr_eq : Cert.ReferenceIdeal.Value.res_main_v130 (StableHlo.launchContents m c) = Cert.NA.diffT Cert.NA.rowT 14#32 8#32 := by
  unfold Cert.ReferenceIdeal.Value.res_main_v130
  rw [row_eq]
  rfl
theorem dc_eq : Cert.ReferenceIdeal.Value.res_main_v140 (StableHlo.launchContents m c) = Cert.NA.diffT Cert.NA.colT 30#32 16#32 := by
  unfold Cert.ReferenceIdeal.Value.res_main_v140
  rw [col_eq]
  rfl
theorem score_eq : Cert.ReferenceIdeal.Value.res_main_v161 (StableHlo.launchContents m c) = (Cert.NA.scoresT (zP m c) (argsR m c).rpb) := by
  unfold Cert.ReferenceIdeal.Value.res_main_v161
  rw [row_eq, col_eq, rs_eq, ws_eq, dr_eq, dc_eq, q_eq, zP_eq]
  rfl
theorem cscore_eq : Cert.ReferenceIdeal.Value.res_main_v164 (StableHlo.launchContents m c) = (Cert.NA.cscoresT (zP m c) (kP m c)) := by
  unfold Cert.ReferenceIdeal.Value.res_main_v164
  rw [q_eq, kP_eq]
  rfl
theorem great_eq : Cert.ReferenceIdeal.Value.res_main_v168 (StableHlo.launchContents m c) = (Cert.NA.greatT (zP m c) (kP m c) (argsR m c).rpb) := by
  unfold Cert.ReferenceIdeal.Value.res_main_v168
  rw [score_eq, cscore_eq]
  rfl
theorem wl_eq : Cert.ReferenceIdeal.Value.res_main_v171 (StableHlo.launchContents m c) = Cert.NA.wlT (Cert.NA.scoresT (zP m c) (argsR m c).rpb) (Cert.NA.greatT (zP m c) (kP m c) (argsR m c).rpb) := by
  unfold Cert.ReferenceIdeal.Value.res_main_v171
  rw [score_eq, great_eq]
  rfl
theorem wc_eq : Cert.ReferenceIdeal.Value.res_main_v174 (StableHlo.launchContents m c) = Cert.NA.wcT (Cert.NA.cscoresT (zP m c) (kP m c)) (Cert.NA.greatT (zP m c) (kP m c) (argsR m c).rpb) := by
  unfold Cert.ReferenceIdeal.Value.res_main_v174
  rw [cscore_eq, great_eq]
  rfl
theorem xP_eq : Cert.ReferenceIdeal.Value.res_main_v208 (StableHlo.launchContents m c) = xP m c := by
  unfold Cert.ReferenceIdeal.Value.res_main_v208
  rw [wl_eq, wc_eq, kP_eq, zP_eq]
  rfl
theorem hP_eq : Cert.ReferenceIdeal.Value.res_main_v227 (StableHlo.launchContents m c) = hP m c := by
  unfold Cert.ReferenceIdeal.Value.res_main_v227
  rw [xP_eq]
  rfl

theorem zP_at (b : Fin 32) (t : Fin 2048) (n : Fin 5120) : zP m c (ix3 b t n) = zxRes (argsR m c) (ix3 b t n) := zx_eq (argsR m c) b t n
theorem kP_at (b : Fin 32) (s : Fin 256) (k : Fin 1024) : kP m c (ix3 b s k) = kvRes (argsR m c) (ix3 b s k) := kv_eq (argsR m c) b s k
theorem nP_at (b : Fin 32) (t : Fin 2048) (e : Fin 512) : (nP m c (ix3 b t e) : EReal) = naRes (argsR m c) (ix3 b t e) :=
  Cert.NA.naT_at (zP m c) (zxRes (argsR m c)) (kP m c) (kvRes (argsR m c)) (argsR m c).rpb (zP_at m c) (kP_at m c) b t e
theorem xP_at (b : Fin 32) (t : Fin 2048) (k : Fin 1024) : xP m c (ix3 b t k) = x1Res (argsR m c) (ix3 b t k) := x1_eq (argsR m c) (zP m c) (zP_at m c) (nP m c) (nP_at m c) b t k
theorem hP_at (b : Fin 32) (t : Fin 2048) (k : Fin 1024) : hP m c (ix3 b t k) = h2Res (argsR m c) (ix3 b t k) := h2_eq (argsR m c) (xP m c) (xP_at m c) b t k

/-- The experts' part of the reference, joined to the residual. -/
theorem yP_eq : Cert.ReferenceIdeal.Value.res_main_v313 (StableHlo.launchContents m c)
    = Cert.Combine.resT (xP m c) (modsT (argsR m c).c (argsR m c).wm (argsR m c).bm)
        (Cert.Combine.backT (argsR m c).rt (argsR m c).gt (Cert.Experts.ffnT (Cert.Experts.rowsT (argsR m c).rk (hP m c)) (argsR m c).wg (argsR m c).wu (argsR m c).wd)) := by
  unfold Cert.ReferenceIdeal.Value.res_main_v313 Cert.ReferenceIdeal.Value.res_main_v265 Cert.ReferenceIdeal.Value.res_main_v260
  rw [xP_eq, hP_eq]
  rfl

/-- Every run of the reference ends with the same four results. -/
theorem ref_run (ρ : Dev nD → PrngReg) : θ_run defs (onTc (τ := τ) (main (F := Ideal))) ⟨m, fun _ => 0, ρ⟩ (fun r => ∀ c : Dev nD,
      r.2.mem ((c.tc : Thread nD τ).loc main_v326) = outRes (argsR m c)
      ∧ r.2.mem ((c.tc : Thread nD τ).loc main_v327) = zxRes (argsR m c)
      ∧ r.2.mem ((c.tc : Thread nD τ).loc main_v328) = kvRes (argsR m c)
      ∧ r.2.mem ((c.tc : Thread nD τ).loc main_v329) = logitRes (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) := by
  refine (θ_run defs _ _).mono (fun _ h c => ?_) (Cert.ReferenceIdeal.Value.run m ρ)
  obtain ⟨h0, h1, h2, h3, hargs⟩ := h c
  refine ⟨h0.trans ?_, h1.trans ?_, h2.trans ?_, h3.trans ?_, hargs⟩
  · rw [yP_eq]
    exact out_eq (argsR m c) (xP m c) (hP m c) (xP_at m c) (hP_at m c)
  · rw [zP_eq]
    funext j
    obtain ⟨b, t, n, rfl⟩ : ∃ (b : Fin 32) (t : Fin 2048) (n : Fin 5120), j = ix3 b t n := ⟨j 0, j 1, j 2, (ix3_eta j).symm⟩
    exact zP_at m c b t n
  · rw [kP_eq]
    funext j
    obtain ⟨b, s, k, rfl⟩ : ∃ (b : Fin 32) (s : Fin 256) (k : Fin 1024), j = ix3 b s k := ⟨j 0, j 1, j 2, (ix3_eta j).symm⟩
    exact kP_at m c b s k
  · rw [hP_eq]
    exact logit_eq (argsR m c) (hP m c) (hP_at m c)

end Cert.Layer

end
-- ==== Proof.lean ====
module

public import proofs.«01_k».proof.Defs
public import proofs.«01_k».proof.Proof.Gen.ReferenceIdeal.Run
public import proofs.«01_k».proof.Proof.Layer.Value
public import proofs.«01_k».proof.Proof.Layer.Ref
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The calls: both sides end with the same four results of the arguments. -/
theorem layer : Cert.algebraic_KernelIdeal_ReferenceIdeal (hKernelIdeal := Cert.KernelIdeal.Gen.facts) (hReferenceIdeal := Cert.ReferenceIdeal.Gen.facts) := by
  intro m g m' g' _ hag
  refine ⟨fun c => Cert.Layer.outRes (Cert.Layer.args m c), fun c => Cert.Layer.zxRes (Cert.Layer.args m c), fun c => Cert.Layer.kvRes (Cert.Layer.args m c),
    fun c => Cert.Layer.logitRes (Cert.Layer.args m c), ?_, ?_⟩
  · exact Cert.Layer.run m g
  · have he : ∀ c, Cert.Layer.argsR m' c = Cert.Layer.args m c := by
      intro c
      obtain ⟨h0, h1, h2, h3, h4, h5, h6, h7, h8, h9, h10, h11, h12, h13, h14, h15, h16, h17, h18, h19, h20, h21, h22⟩ := hag c
      unfold Cert.Layer.argsR Cert.Layer.args
      rw [h0, h1, h2, h3, h4, h5, h6, h7, h8, h9, h10, h11, h12, h13, h14, h15, h16, h17, h18, h19, h20, h21, h22]
    refine (θ_run Cert.ReferenceIdeal.defs _ _).mono (fun _ h c => ?_) (Cert.Layer.ref_run m' g')
    have hc := h c
    rw [he c] at hc
    exact hc

theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => (θ_run Cert.ReferenceIdeal.defs _ _).mono (fun r h => ⟨fun c => (h c).2.2.2.2, sem_eq_zero_of_no_sems (by decide) r.2⟩) (Cert.ReferenceIdeal.Value.run m g),
  ⟨IdealRules.named_const.statement Cert.KernelIdeal.κ "mask" .f32 0xF149F2CA#32 ⊥ rfl,
   IdealRules.named_const.statement Cert.KernelIdeal.κ "log2_e" .f32 0x3FB8AA3B#32 (((Real.log 2)⁻¹ : ℝ) : EReal) rfl⟩, layer⟩

end Cert.Proof

end
